-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_weights_finite [hPre_weights_finite : Cert.Pre_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_weights_finite [hPre_weights_finite : Cert.Pre_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_weights_finite [hKernel4Ideal : Cert.Kernel4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_weights_finite [hReference4Ideal : Cert.Reference4Ideal.Facts] [hPre_weights_finite : Cert.Pre_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_pre_weights_finite [hKernel4Ideal : Cert.Kernel4Ideal.Facts] [hReference4Ideal : Cert.Reference4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)) (v3 : (c : Dev Cert.Kernel4Ideal.nD) → Buf (Elt Ideal) ((c.tc : Thread Cert.Kernel4Ideal.nD Cert.Kernel4Ideal.τ).loc Cert.Kernel4Ideal.main_v52_3)) (v4 : (c : Dev Cert.Kernel4Ideal.nD) → Buf (Elt Ideal) ((c.tc : Thread Cert.Kernel4Ideal.nD Cert.Kernel4Ideal.τ).loc Cert.Kernel4Ideal.main_v52_4)) (v5 : (c : Dev Cert.Kernel4Ideal.nD) → Buf (Elt Ideal) ((c.tc : Thread Cert.Kernel4Ideal.nD Cert.Kernel4Ideal.τ).loc Cert.Kernel4Ideal.main_v52_5)) (v6 : (c : Dev Cert.Kernel4Ideal.nD) → Buf (Elt Ideal) ((c.tc : Thread Cert.Kernel4Ideal.nD Cert.Kernel4Ideal.τ).loc Cert.Kernel4Ideal.main_v52_6)) (v7 : (c : Dev Cert.Kernel4Ideal.nD) → Buf (Elt Ideal) ((c.tc : Thread Cert.Kernel4Ideal.nD Cert.Kernel4Ideal.τ).loc Cert.Kernel4Ideal.main_v52_7)) (v8 : (c : Dev Cert.Kernel4Ideal.nD) → Buf (Elt Ideal) ((c.tc : Thread Cert.Kernel4Ideal.nD Cert.Kernel4Ideal.τ).loc Cert.Kernel4Ideal.main_v52_8)) (v9 : (c : Dev Cert.Kernel4Ideal.nD) → Buf (Elt Ideal) ((c.tc : Thread Cert.Kernel4Ideal.nD Cert.Kernel4Ideal.τ).loc Cert.Kernel4Ideal.main_v52_9)) (v10 : (c : Dev Cert.Kernel4Ideal.nD) → Buf (Elt Ideal) ((c.tc : Thread Cert.Kernel4Ideal.nD Cert.Kernel4Ideal.τ).loc Cert.Kernel4Ideal.main_v52_10)) (v11 : (c : Dev Cert.Kernel4Ideal.nD) → Buf (Elt Ideal) ((c.tc : Thread Cert.Kernel4Ideal.nD Cert.Kernel4Ideal.τ).loc Cert.Kernel4Ideal.main_v52_11)) (v12 : (c : Dev Cert.Kernel4Ideal.nD) → Buf (Elt Ideal) ((c.tc : Thread Cert.Kernel4Ideal.nD Cert.Kernel4Ideal.τ).loc Cert.Kernel4Ideal.main_v52_12)) (v13 : (c : Dev Cert.Kernel4Ideal.nD) → Buf (Elt Ideal) ((c.tc : Thread Cert.Kernel4Ideal.nD Cert.Kernel4Ideal.τ).loc Cert.Kernel4Ideal.main_v52_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_v52_3) = v3 c
          ∧ r.2.mem ((c.tc : Thread Cert.Kernel4Ideal.nD Cert.Kernel4Ideal.τ).loc Cert.Kernel4Ideal.main_v52_4) = v4 c
          ∧ r.2.mem ((c.tc : Thread Cert.Kernel4Ideal.nD Cert.Kernel4Ideal.τ).loc Cert.Kernel4Ideal.main_v52_5) = v5 c
          ∧ r.2.mem ((c.tc : Thread Cert.Kernel4Ideal.nD Cert.Kernel4Ideal.τ).loc Cert.Kernel4Ideal.main_v52_6) = v6 c
          ∧ r.2.mem ((c.tc : Thread Cert.Kernel4Ideal.nD Cert.Kernel4Ideal.τ).loc Cert.Kernel4Ideal.main_v52_7) = v7 c
          ∧ r.2.mem ((c.tc : Thread Cert.Kernel4Ideal.nD Cert.Kernel4Ideal.τ).loc Cert.Kernel4Ideal.main_v52_8) = v8 c
          ∧ r.2.mem ((c.tc : Thread Cert.Kernel4Ideal.nD Cert.Kernel4Ideal.τ).loc Cert.Kernel4Ideal.main_v52_9) = v9 c
          ∧ r.2.mem ((c.tc : Thread Cert.Kernel4Ideal.nD Cert.Kernel4Ideal.τ).loc Cert.Kernel4Ideal.main_v52_10) = v10 c
          ∧ r.2.mem ((c.tc : Thread Cert.Kernel4Ideal.nD Cert.Kernel4Ideal.τ).loc Cert.Kernel4Ideal.main_v52_11) = v11 c
          ∧ r.2.mem ((c.tc : Thread Cert.Kernel4Ideal.nD Cert.Kernel4Ideal.τ).loc Cert.Kernel4Ideal.main_v52_12) = v12 c
          ∧ r.2.mem ((c.tc : Thread Cert.Kernel4Ideal.nD Cert.Kernel4Ideal.τ).loc Cert.Kernel4Ideal.main_v52_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v136) = v1 c
          ∧ r.2.mem ((c.tc : Thread Cert.Reference4Ideal.nD Cert.Reference4Ideal.τ).loc Cert.Reference4Ideal.main_v139) = v2 c
          ∧ r.2.mem ((c.tc : Thread Cert.Reference4Ideal.nD Cert.Reference4Ideal.τ).loc Cert.Reference4Ideal.main_v144) = v3 c
          ∧ r.2.mem ((c.tc : Thread Cert.Reference4Ideal.nD Cert.Reference4Ideal.τ).loc Cert.Reference4Ideal.main_v147) = v4 c
          ∧ r.2.mem ((c.tc : Thread Cert.Reference4Ideal.nD Cert.Reference4Ideal.τ).loc Cert.Reference4Ideal.main_v152) = v5 c
          ∧ r.2.mem ((c.tc : Thread Cert.Reference4Ideal.nD Cert.Reference4Ideal.τ).loc Cert.Reference4Ideal.main_v127) = v6 c
          ∧ r.2.mem ((c.tc : Thread Cert.Reference4Ideal.nD Cert.Reference4Ideal.τ).loc Cert.Reference4Ideal.main_v156) = v7 c
          ∧ r.2.mem ((c.tc : Thread Cert.Reference4Ideal.nD Cert.Reference4Ideal.τ).loc Cert.Reference4Ideal.main_v160) = v8 c
          ∧ r.2.mem ((c.tc : Thread Cert.Reference4Ideal.nD Cert.Reference4Ideal.τ).loc Cert.Reference4Ideal.main_v165) = v9 c
          ∧ r.2.mem ((c.tc : Thread Cert.Reference4Ideal.nD Cert.Reference4Ideal.τ).loc Cert.Reference4Ideal.main_v25) = v10 c
          ∧ r.2.mem ((c.tc : Thread Cert.Reference4Ideal.nD Cert.Reference4Ideal.τ).loc Cert.Reference4Ideal.main_v26) = v11 c
          ∧ r.2.mem ((c.tc : Thread Cert.Reference4Ideal.nD Cert.Reference4Ideal.τ).loc Cert.Reference4Ideal.main_v27) = v12 c
          ∧ r.2.mem ((c.tc : Thread Cert.Reference4Ideal.nD Cert.Reference4Ideal.τ).loc Cert.Reference4Ideal.main_v28) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_finite : Cert.Pre_gates_finite.Facts) (hPre_weights_finite : Cert.Pre_weights_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_weights_finite (hKernel4Ideal := hKernel4Ideal) (hPre_weights_finite := hPre_weights_finite)
    ∧ quiescent_Reference4Ideal (hReference4Ideal := hReference4Ideal)
    ∧ quiescent_Reference4Ideal_pre_weights_finite (hReference4Ideal := hReference4Ideal) (hPre_weights_finite := hPre_weights_finite)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_weights_finite (hKernel4Ideal := hKernel4Ideal) (hReference4Ideal := hReference4Ideal) (hPre_weights_finite := hPre_weights_finite)
-- ==== Pre_gates_finite.lean ====
abbrev S32768x384 : Shape := ⟨2, ![32768, 384]⟩
abbrev S384 : Shape := ⟨1, ![384]⟩
abbrev S64 : Shape := ⟨1, ![64]⟩
abbrev S_ : Shape := ⟨0, ![]⟩

class Facts : Prop where
  bcast_S_S32768x384 : S_.BroadcastsInDim S32768x384 (![] : Fin 0 → Fin S32768x384.rank)
  reducesTo_S32768x384_S_d0_1 : S32768x384.ReducesTo [0, 1] S_
  h_S_ : 0 < S_.numel
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S32768x384 .f32) (main_arg1 : FVec F S32768x384 .f32) (main_arg2 : FVec F S32768x384 .f32) (main_arg3 : FVec F S32768x384 .f32) (main_arg4 : FVec F S384 .f32) (main_arg5 : FVec F S64 .f32) : IVec S_ 1 :=
  let main_v0 : FVec F S32768x384 .f32 := Host.absf main_arg0
  let main_cst : FVec F S_ .f32 := constant S_ .f32 0x7F800000#32
  let main_v1 : FVec F S32768x384 .f32 := broadcastInDim S32768x384 ![] bcast_S_S32768x384 main_cst
  let main_v2 : IVec S32768x384 1 := cmpf .olt main_v0 main_v1
  let main_c : IVec S_ 1 := constantI S_ 1 1#1
  let main_v3 : IVec S_ 1 := (fun x v => Host.reduce IntOp.andi x v reducesTo_S32768x384_S_d0_1 h_S_) main_v2 main_c
  let main_v4 : FVec F S32768x384 .f32 := Host.absf main_arg1
  let main_cst_0 : FVec F S_ .f32 := constant S_ .f32 0x7F800000#32
  let main_v5 : FVec F S32768x384 .f32 := broadcastInDim S32768x384 ![] bcast_S_S32768x384 main_cst_0
  let main_v6 : IVec S32768x384 1 := cmpf .olt main_v4 main_v5
  let main_c_1 : IVec S_ 1 := constantI S_ 1 1#1
  let main_v7 : IVec S_ 1 := (fun x v => Host.reduce IntOp.andi x v reducesTo_S32768x384_S_d0_1 h_S_) main_v6 main_c_1
  let main_v8 : IVec S_ 1 := andi main_v3 main_v7
  let main_v9 : FVec F S32768x384 .f32 := Host.absf main_arg2
  let main_cst_2 : FVec F S_ .f32 := constant S_ .f32 0x7F800000#32
  let main_v10 : FVec F S32768x384 .f32 := broadcastInDim S32768x384 ![] bcast_S_S32768x384 main_cst_2
  let main_v11 : IVec S32768x384 1 := cmpf .olt main_v9 main_v10
  let main_c_3 : IVec S_ 1 := constantI S_ 1 1#1
  let main_v12 : IVec S_ 1 := (fun x v => Host.reduce IntOp.andi x v reducesTo_S32768x384_S_d0_1 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Pre_weights_finite.lean ====
abbrev S32768x1024 : Shape := ⟨2, ![32768, 1024]⟩
abbrev S1024 : Shape := ⟨1, ![1024]⟩
abbrev S1024x3474 : Shape := ⟨2, ![1024, 3474]⟩
abbrev S64 : Shape := ⟨1, ![64]⟩
abbrev S3x64 : Shape := ⟨2, ![3, 64]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3474 : S_.BroadcastsInDim S1024x3474 (![] : Fin 0 → Fin S1024x3474.rank)
  reducesTo_S1024x3474_S_d0_1 : S1024x3474.ReducesTo [0, 1] S_

variable [Facts]

def fn {F : FTy → Type} [FloatOps F] (main_arg0 : FVec F S32768x1024 .f32) (main_arg1 : FVec F S1024 .f32) (main_arg2 : FVec F S1024x3474 .f32) (main_arg3 : FVec F S64 .f32) (main_arg4 : FVec F S3x64 .f32) (main_arg5 : FVec F S32 .f32) (main_arg6 : FVec F S32 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3474 .f32 := Host.absf main_arg2
  let main_cst_0 : FVec F S_ .f32 := constant S_ .f32 0x7F800000#32
  let main_v5 : FVec F S1024x3474 .f32 := broadcastInDim S1024x3474 ![] bcast_S_S1024x3474 main_cst_0
  let main_v6 : IVec S1024x3474 1 := cmpf .olt main_v4 main_v5
  let main_c_1 : IVec S_ 1 := constantI S_ 1 1#1
  let main_v7 : IVec S_ 1 := (fun x v => Host.reduce IntOp.andi x v reducesTo_S1024x3474_S_d0_1 h_S_) main_v6 main_c_1
  let main_v8 : IVec S_ 1 := andi main_v3 main_v7
  main_v8
-- ==== Kernel.lean ====
abbrev S32768x384 : Shape := ⟨2, ![32768, 384]⟩
abbrev S384 : Shape := ⟨1, ![384]⟩
abbrev S64 : Shape := ⟨1, ![64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1024x128 : Shape := ⟨2, ![1024, 128]⟩
abbrev S1x384 : Shape := ⟨2, ![1, 384]⟩
abbrev S1x64 : Shape := ⟨2, ![1, 64]⟩
abbrev S6x64 : Shape := ⟨2, ![6, 64]⟩
abbrev S128x384 : Shape := ⟨2, ![128, 384]⟩
abbrev S3x128x128 : Shape := ⟨3, ![3, 128, 128]⟩
abbrev S1024x384 : Shape := ⟨2, ![1024, 384]⟩
abbrev S256x128 : Shape := ⟨2, ![256, 128]⟩
abbrev S1x128x128 : Shape := ⟨3, ![1, 128, 128]⟩

abbrev nBuf : Space → Nat
  | .hbm => 106
  | .vmem => 14
  | .smem => 0
  | _ => 0

abbrev bufTy : (tb : Table) → Fin (tcTables nBuf tb) → BufTy
  | .hbm, ⟨0, _⟩ => ⟨S32768x384, .f32⟩
  | .hbm, ⟨1, _⟩ => ⟨S32768x384, .f32⟩
  | .hbm, ⟨2, _⟩ => ⟨S32768x384, .f32⟩
  | .hbm, ⟨3, _⟩ => ⟨S32768x384, .f32⟩
  | .hbm, ⟨4, _⟩ => ⟨S384, .f32⟩
  | .hbm, ⟨5, _⟩ => ⟨S64, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i32⟩
  | .hbm, ⟨62, _⟩ => ⟨S128x1, .i32⟩
  | .hbm, ⟨63, _⟩ => ⟨S128x1, .i32⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S_, .i32⟩
  | .hbm, ⟨74, _⟩ => ⟨S128x1, .i32⟩
  | .hbm, ⟨75, _⟩ => ⟨S128x1, .i32⟩
  | .hbm, ⟨76, _⟩ => ⟨S_, .i32⟩
  | .hbm, ⟨77, _⟩ => ⟨S128x1, .i32⟩
  | .hbm, ⟨78, _⟩ => ⟨S128x1, .i32⟩
  | .hbm, ⟨79, _⟩ => ⟨S_, .i32⟩
  | .hbm, ⟨80, _⟩ => ⟨S128x1, .i32⟩
  | .hbm, ⟨81, _⟩ => ⟨S128x1, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .i32⟩
  | .hbm, ⟨86, _⟩ => ⟨S128x1, .i32⟩
  | .hbm, ⟨87, _⟩ => ⟨S128x1, .i32⟩
  | .hbm, ⟨88, _⟩ => ⟨S_, .i32⟩
  | .hbm, ⟨89, _⟩ => ⟨S128x1, .i32⟩
  | .hbm, ⟨90, _⟩ => ⟨S128x1, .i32⟩
  | .hbm, ⟨91, _⟩ => ⟨S_, .i32⟩
  | .hbm, ⟨92, _⟩ => ⟨S128x1, .i32⟩
  | .hbm, ⟨93, _⟩ => ⟨S128x1, .i32⟩
  | .hbm, ⟨94, _⟩ => ⟨S128x128, .i32⟩
  | .hbm, ⟨95, _⟩ => ⟨S128x128, .i32⟩
  | .hbm, ⟨96, _⟩ => ⟨S128x128, .i1⟩
  | .hbm, ⟨97, _⟩ => ⟨S1024x128, .i1⟩
  | .hbm, ⟨98, _⟩ => ⟨S1024x128, .f32⟩
  | .hbm, ⟨99, _⟩ => ⟨S1024x128, .bf16⟩
  | .hbm, ⟨100, _⟩ => ⟨S1x384, .f32⟩
  | .hbm, ⟨101, _⟩ => ⟨S1x64, .f32⟩
  | .hbm, ⟨102, _⟩ => ⟨S6x64, .f32⟩
  | .hbm, ⟨103, _⟩ => ⟨S384, .f32⟩
  | .hbm, ⟨104, _⟩ => ⟨S1x384, .f32⟩
  | .hbm, ⟨105, _⟩ => ⟨S32768x384, .bf16⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S1x384, .f32⟩
  | .local _ .vmem, ⟨9, _⟩ => ⟨S1x384, .f32⟩
  | .local _ .vmem, ⟨10, _⟩ => ⟨S1024x128, .bf16⟩
  | .local _ .vmem, ⟨11, _⟩ => ⟨S128x384, .bf16⟩
  | .local _ .vmem, ⟨12, _⟩ => ⟨S128x384, .bf16⟩
  | .local _ .vmem, ⟨13, _⟩ => ⟨S3x128x128, .f32⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_11 : Ref sig .tc := ⟨.hbm, 61, rfl⟩
abbrev main_v43 : Ref sig .tc := ⟨.hbm, 62, rfl⟩
abbrev main_v44 : Ref sig .tc := ⟨.hbm, 63, rfl⟩
abbrev main_c_12 : Ref sig .tc := ⟨.hbm, 64, rfl⟩
abbrev main_v45 : Ref sig .tc := ⟨.hbm, 65, rfl⟩
abbrev main_v46 : Ref sig .tc := ⟨.hbm, 66, rfl⟩
abbrev main_c_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_14 : Ref sig .tc := ⟨.hbm, 73, rfl⟩
abbrev main_v52 : Ref sig .tc := ⟨.hbm, 74, rfl⟩
abbrev main_v53 : Ref sig .tc := ⟨.hbm, 75, rfl⟩
abbrev main_c_15 : Ref sig .tc := ⟨.hbm, 76, rfl⟩
abbrev main_v54 : Ref sig .tc := ⟨.hbm, 77, rfl⟩
abbrev main_v55 : Ref sig .tc := ⟨.hbm, 78, rfl⟩
abbrev main_c_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_17 : Ref sig .tc := ⟨.hbm, 85, rfl⟩
abbrev main_v61 : Ref sig .tc := ⟨.hbm, 86, rfl⟩
abbrev main_v62 : Ref sig .tc := ⟨.hbm, 87, rfl⟩
abbrev main_c_18 : Ref sig .tc := ⟨.hbm, 88, rfl⟩
abbrev main_v63 : Ref sig .tc := ⟨.hbm, 89, rfl⟩
abbrev main_v64 : Ref sig .tc := ⟨.hbm, 90, rfl⟩
abbrev main_c_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x384 : Shape := ⟨2, ![32768, 384]⟩
abbrev S384 : Shape := ⟨1, ![384]⟩
abbrev S64 : Shape := ⟨1, ![64]⟩
abbrev S4x8192x6x64 : Shape := ⟨4, ![4, 8192, 6, 64]⟩
abbrev S6x64 : Shape := ⟨2, ![6, 64]⟩
abbrev S_ : Shape := ⟨0, ![]⟩
abbrev S1x1x6x64 : Shape := ⟨4, ![1, 1, 6, 64]⟩
abbrev S64x64 : Shape := ⟨2, ![64, 64]⟩
abbrev S4x6x64x64 : Shape := ⟨4, ![4, 6, 64, 64]⟩
abbrev S4x128x64x6x64 : Shape := ⟨5, ![4, 128, 64, 6, 64]⟩
abbrev S128x4x6x64x64 : Shape := ⟨5, ![128, 4, 6, 64, 64]⟩
abbrev S1x4x6x64x64 : Shape := ⟨5, ![1, 4, 6, 64, 64]⟩
abbrev S64x64x1 : Shape := ⟨3, ![64, 64, 1]⟩
abbrev S4x6x64x1x64 : Shape := ⟨5, ![4, 6, 64, 1, 64]⟩
abbrev S4x6x1x64x64 : Shape := ⟨5, ![4, 6, 1, 64, 64]⟩
abbrev S4x6x64x64x64 : Shape := ⟨5, ![4, 6, 64, 64, 64]⟩
abbrev S4x6x1x64 : Shape := ⟨4, ![4, 6, 1, 64]⟩
abbrev S4x6x64 : Shape := ⟨3, ![4, 6, 64]⟩
abbrev S4x6x64x1 : Shape := ⟨4, ![4, 6, 64, 1]⟩
abbrev S4x8192x6 : Shape := ⟨3, ![4, 8192, 6]⟩
abbrev S4x8192x6x1 : Shape := ⟨4, ![4, 8192, 6, 1]⟩
abbrev S1x1x1x64 : Shape := ⟨4, ![1, 1, 1, 64]⟩

abbrev nBuf : Space → Nat
  | .hbm => 207
  | .vmem => 0
  | .smem => 0
  | _ => 0

abbrev hbmTy0_0 (i : Nat) : BufTy := match i % 128 with
  | 0 => ⟨S32768x384, .f32⟩
  | 1 => ⟨S32768x384, .f32⟩
  | 2 => ⟨S32768x384, .f32⟩
  | 3 => ⟨S32768x384, .f32⟩
  | 4 => ⟨S384, .f32⟩
  | 5 => ⟨S64, .f32⟩
  | 6 => ⟨S4x8192x6x64, .f32⟩
  | 7 => ⟨S6x64, .f32⟩
  | 8 => ⟨S6x64, .f32⟩
  | 9 => ⟨S6x64, .f32⟩
  | 10 => ⟨S6x64, .f32⟩
  | 11 => ⟨S4x8192x6x64, .f32⟩
  | 12 => ⟨S_, .f32⟩
  | 13 => ⟨S4x8192x6x64, .f32⟩
  | 14 => ⟨S4x8192x6x64, .f32⟩
  | 15 => ⟨S4x8192x6x64, .f32⟩
  | 16 => ⟨S4x8192x6x64, .f32⟩
  | 17 => ⟨S4x8192x6x64, .i1⟩
  | 18 => ⟨S4x8192x6x64, .f32⟩
  | 19 => ⟨S4x8192x6x64, .f32⟩
  | 20 => ⟨S4x8192x6x64, .f32⟩
  | 21 => ⟨S4x8192x6x64, .f32⟩
  | 22 => ⟨S4x8192x6x64, .f32⟩
  | 23 => ⟨S4x8192x6x64, .f32⟩
  | 24 => ⟨S4x8192x6x64, .f32⟩
  | 25 => ⟨S4x8192x6x64, .f32⟩
  | 26 => ⟨S4x8192x6x64, .f32⟩
  | 27 => ⟨S1x1x6x64, .f32⟩
  | 28 => ⟨S4x8192x6x64, .f32⟩
  | 29 => ⟨S4x8192x6x64, .f32⟩
  | 30 => ⟨S1x1x6x64, .f32⟩
  | 31 => ⟨S4x8192x6x64, .f32⟩
  | 32 => ⟨S4x8192x6x64, .f32⟩
  | 33 => ⟨S4x8192x6x64, .f32⟩
  | 34 => ⟨S4x8192x6x64, .f32⟩
  | 35 => ⟨S4x8192x6x64, .i1⟩
  | 36 => ⟨S4x8192x6x64, .f32⟩
  | 37 => ⟨S4x8192x6x64, .f32⟩
  | 38 => ⟨S4x8192x6x64, .f32⟩
  | 39 => ⟨S4x8192x6x64, .f32⟩
  | 40 => ⟨S4x8192x6x64, .f32⟩
  | 41 => ⟨S4x8192x6x64, .f32⟩
  | 42 => ⟨S4x8192x6x64, .f32⟩
  | 43 => ⟨S4x8192x6x64, .f32⟩
  | 44 => ⟨S_, .f32⟩
  | 45 => ⟨S6x64, .f32⟩
  | 46 => ⟨S6x64, .f32⟩
  | 47 => ⟨S4x8192x6x64, .f32⟩
  | 48 => ⟨S4x8192x6x64, .f32⟩
  | 49 => ⟨S4x8192x6x64, .f32⟩
  | 50 => ⟨S_, .f32⟩
  | 51 => ⟨S4x8192x6x64, .f32⟩
  | 52 => ⟨S4x8192x6x64, .f32⟩
  | 53 => ⟨S_, .f32⟩
  | 54 => ⟨S4x8192x6x64, .f32⟩
  | 55 => ⟨S4x8192x6x64, .f32⟩
  | 56 => ⟨S1x1x6x64, .f32⟩
  | 57 => ⟨S4x8192x6x64, .f32⟩
  | 58 => ⟨S4x8192x6x64, .f32⟩
  | 59 => ⟨S4x8192x6x64, .f32⟩
  | 60 => ⟨S4x8192x6x64, .f32⟩
  | 61 => ⟨S4x8192x6x64, .f32⟩
  | 62 => ⟨S_, .f32⟩
  | 63 => ⟨S4x8192x6x64, .f32⟩
  | 64 => ⟨S4x8192x6x64, .f32⟩
  | 65 => ⟨S_, .f32⟩
  | 66 => ⟨S4x8192x6x64, .f32⟩
  | 67 => ⟨S4x8192x6x64, .f32⟩
  | 68 => ⟨S4x8192x6x64, .f32⟩
  | 69 => ⟨S4x8192x6x64, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S_, .f32⟩
  | 82 => ⟨S4x6x64x64, .f32⟩
  | 83 => ⟨S4x128x64x6x64, .f32⟩
  | 84 => ⟨S128x4x6x64x64, .f32⟩
  | 85 => ⟨S4x128x64x6x64, .f32⟩
  | 86 => ⟨S128x4x6x64x64, .f32⟩
  | 87 => ⟨S4x128x64x6x64, .f32⟩
  | 88 => ⟨S128x4x6x64x64, .f32⟩
  | 89 => ⟨S4x128x64x6x64, .f32⟩
  | 90 => ⟨S128x4x6x64x64, .f32⟩
  | 91 => ⟨S_, .f32⟩
  | 92 => ⟨S128x4x6x64x64, .f32⟩
  | 93 => ⟨S_, .i32⟩
  | 94 => ⟨S128x4x6x64x64, .f32⟩
  | 95 => ⟨S128x4x6x64x64, .f32⟩
  | 96 => ⟨S128x4x6x64x64, .f32⟩
  | 97 => ⟨S128x4x6x64x64, .f32⟩
  | 98 => ⟨S64x64, .i1⟩
  | 99 => ⟨S_, .i32⟩
  | 100 => ⟨S4x6x64x64, .f32⟩
  | 101 => ⟨S128x4x6x64x64, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x4x6x64x64, .f32⟩
  | 109 => ⟨S4x6x64x64, .f32⟩
  | 110 => ⟨S_, .i32⟩
  | 111 => ⟨S_, .i32⟩
  | 112 => ⟨S_, .i32⟩
  | 113 => ⟨S_, .i32⟩
  | 114 => ⟨S1x4x6x64x64, .f32⟩
  | 115 => ⟨S4x6x64x64, .f32⟩
  | 116 => ⟨S_, .i32⟩
  | 117 => ⟨S_, .i32⟩
  | 118 => ⟨S_, .i32⟩
  | 119 => ⟨S_, .i32⟩
  | 120 => ⟨S1x4x6x64x64, .f32⟩
  | 121 => ⟨S4x6x64x64, .f32⟩
  | 122 => ⟨S_, .i32⟩
  | 123 => ⟨S_, .i32⟩
  | 124 => ⟨S_, .i32⟩
  | 125 => ⟨S_, .i32⟩
  | 126 => ⟨S1x4x6x64x64, .f32⟩
  | 127 => ⟨S4x6x64x64, .f32⟩
  | _ => ⟨S32768x384, .f32⟩

abbrev hbmTy0_1 (i : Nat) : BufTy := match i % 128 with
  | 0 => ⟨S_, .f32⟩
  | 1 => ⟨S_, .f32⟩
  | 2 => ⟨S4x6x64x64, .f32⟩
  | 3 => ⟨S4x6x64x64, .f32⟩
  | 4 => ⟨S4x6x64x64, .f32⟩
  | 5 => ⟨S4x6x64x64, .f32⟩
  | 6 => ⟨S64x64x1, .i1⟩
  | 7 => ⟨S4x6x64x1x64, .f32⟩
  | 8 => ⟨S4x6x1x64x64, .f32⟩
  | 9 => ⟨S4x6x64x64x64, .f32⟩
  | 10 => ⟨S4x6x64x64x64, .f32⟩
  | 11 => ⟨S4x6x64x64x64, .f32⟩
  | 12 => ⟨S_, .f32⟩
  | 13 => ⟨S_, .f32⟩
  | 14 => ⟨S4x6x64x64x64, .i1⟩
  | 15 => ⟨S4x6x64x64x64, .f32⟩
  | 16 => ⟨S4x6x64x64x64, .f32⟩
  | 17 => ⟨S4x6x64x64x64, .f32⟩
  | 18 => ⟨S4x6x64x1x64, .f32⟩
  | 19 => ⟨S4x6x1x64x64, .f32⟩
  | 20 => ⟨S4x6x64x64x64, .f32⟩
  | 21 => ⟨S4x6x64x64x64, .f32⟩
  | 22 => ⟨S4x6x64x64x64, .f32⟩
  | 23 => ⟨S4x6x64x64x64, .f32⟩
  | 24 => ⟨S_, .f32⟩
  | 25 => ⟨S4x6x64x64, .f32⟩
  | 26 => ⟨S4x6x64x64, .f32⟩
  | 27 => ⟨S4x6x1x64, .f32⟩
  | 28 => ⟨S4x6x64, .f32⟩
  | 29 => ⟨S4x6x64, .f32⟩
  | 30 => ⟨S4x6x64x1, .f32⟩
  | 31 => ⟨S4x6x64x64, .f32⟩
  | 32 => ⟨S4x6x64x64, .f32⟩
  | 33 => ⟨S4x6x64x64, .f32⟩
  | 34 => ⟨S4x6x64x64, .f32⟩
  | 35 => ⟨S4x6x64x64, .f32⟩
  | 36 => ⟨S4x6x64x64, .f32⟩
  | 37 => ⟨S4x6x64x64, .f32⟩
  | 38 => ⟨S4x6x64x64, .f32⟩
  | 39 => ⟨S4x6x64x64, .f32⟩
  | 40 => ⟨S1x4x6x64x64, .f32⟩
  | 41 => ⟨S_, .i32⟩
  | 42 => ⟨S_, .i32⟩
  | 43 => ⟨S_, .i32⟩
  | 44 => ⟨S_, .i32⟩
  | 45 => ⟨S128x4x6x64x64, .f32⟩
  | 46 => ⟨S_, .i32⟩
  | 47 => ⟨S_, .i32⟩
  | 48 => ⟨S4x128x64x6x64, .f32⟩
  | 49 => ⟨S4x8192x6x64, .f32⟩
  | 50 => ⟨S4x8192x6x64, .f32⟩
  | 51 => ⟨S_, .f32⟩
  | 52 => ⟨S4x8192x6, .f32⟩
  | 53 => ⟨S4x8192x6x1, .f32⟩
  | 54 => ⟨S_, .f32⟩
  | 55 => ⟨S4x8192x6x1, .f32⟩
  | 56 => ⟨S4x8192x6x1, .f32⟩
  | 57 => ⟨S_, .f32⟩
  | 58 => ⟨S4x8192x6x1, .f32⟩
  | 59 => ⟨S4x8192x6x1, .f32⟩
  | 60 => ⟨S4x8192x6x1, .f32⟩
  | 61 => ⟨S4x8192x6x64, .f32⟩
  | 62 => ⟨S4x8192x6x64, .f32⟩
  | 63 => ⟨S1x1x1x64, .f32⟩
  | 64 => ⟨S4x8192x6x64, .f32⟩
  | 65 => ⟨S4x8192x6x64, .f32⟩
  | 66 => ⟨S4x8192x6x64, .f32⟩
  | 67 => ⟨S4x8192x6x64, .f32⟩
  | 68 => ⟨S4x8192x6x64, .f32⟩
  | 69 => ⟨S_, .f32⟩
  | 70 => ⟨S4x8192x6x64, .f32⟩
  | 71 => ⟨S4x8192x6x64, .f32⟩
  | 72 => ⟨S_, .f32⟩
  | 73 => ⟨S4x8192x6x64, .f32⟩
  | 74 => ⟨S4x8192x6x64, .f32⟩
  | 75 => ⟨S4x8192x6x64, .f32⟩
  | 76 => ⟨S4x8192x6x64, .f32⟩
  | 77 => ⟨S32768x384, .f32⟩
  | 78 => ⟨S32768x384, .bf16⟩
  | _ => ⟨S32768x384, .f32⟩

abbrev hbmTy (i : Nat) : BufTy := match i / 128 with
  | 0 => hbmTy0_0 i
  | 1 => hbmTy0_1 i
  | _ => ⟨S32768x384, .f32⟩

abbrev bufTy : (tb : Table) → Fin (tcTables nBuf tb) → BufTy
  | .hbm, ⟨i, _⟩ => hbmTy i
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_0 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v38 : Ref sig .tc := ⟨.hbm, 68, rfl⟩
abbrev main_v39 : Ref sig .tc := ⟨.hbm, 69, rfl⟩
abbrev main_c : Ref sig .tc := ⟨.hbm, 70, rfl⟩
abbrev main_v40 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v41 : Ref sig .tc := ⟨.hbm, 80, rfl⟩
abbrev main_cst_2 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_3 : Ref sig .tc := ⟨.hbm, 91, rfl⟩
abbrev main_v51 : Ref sig .tc := ⟨.hbm, 92, rfl⟩
abbrev main_c_4 : Ref sig .tc := ⟨.hbm, 93, rfl⟩
abbrev main_v52_0 : Ref sig .tc := ⟨.hbm, 94, rfl⟩
abbrev main_v52_1 : Ref sig .tc := ⟨.hbm, 95, rfl⟩
abbrev main_v52_2 : Ref sig .tc := ⟨.hbm, 96, rfl⟩
abbrev main_v52_3 : Ref sig .tc := ⟨.hbm, 97, rfl⟩
abbrev main_v52_4 : Ref sig .tc := ⟨.hbm, 98, rfl⟩
abbrev main_v52_5 : Ref sig .tc := ⟨.hbm, 99, rfl⟩
abbrev main_v52_6 : Ref sig .tc := ⟨.hbm, 100, rfl⟩
abbrev main_v52_7 : Ref sig .tc := ⟨.hbm, 101, rfl⟩
abbrev main_while0c_c_15 : Ref sig .tc := ⟨.hbm, 102, rfl⟩
abbrev main_while0c_v73 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v73 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_c_1 : Ref sig .tc := ⟨.hbm, 112, rfl⟩
abbrev main_while0b_call4_c_2 : Ref sig .tc := ⟨.hbm, 113, rfl⟩
abbrev main_while0b_call4_v0 : Ref sig .tc := ⟨.hbm, 114, rfl⟩
abbrev main_while0b_v74 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_call5_c_2 : Ref sig .tc := ⟨.hbm, 119, rfl⟩
abbrev main_while0b_call5_v0 : Ref sig .tc := ⟨.hbm, 120, rfl⟩
abbrev main_while0b_v75 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_c_2 : Ref sig .tc := ⟨.hbm, 125, rfl⟩
abbrev main_while0b_call6_v0 : Ref sig .tc := ⟨.hbm, 126, rfl⟩
abbrev main_while0b_v76 : Ref sig .tc := ⟨.hbm, 127, rfl⟩
abbrev main_while0b_call7_call0_cst : Ref sig .tc := ⟨.hbm, 128, rfl⟩
abbrev main_while0b_call7_call0_v0 : Ref sig .tc := ⟨.hbm, 129, rfl⟩
abbrev main_while0b_v77 : Ref sig .tc := ⟨.hbm, 130, rfl⟩
abbrev main_while0b_v78 : Ref sig .tc := ⟨.hbm, 131, rfl⟩
abbrev main_while0b_v79 : Ref sig .tc := ⟨.hbm, 132, rfl⟩
abbrev main_while0b_v80 : Ref sig .tc := ⟨.hbm, 133, rfl⟩
abbrev main_while0b_v81 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_v85 : Ref sig .tc := ⟨.hbm, 138, rfl⟩
abbrev main_while0b_v86 : Ref sig .tc := ⟨.hbm, 139, rfl⟩
abbrev main_while0b_cst_15 : Ref sig .tc := ⟨.hbm, 140, rfl⟩
abbrev main_while0b_call8_v0 : Ref sig .tc := ⟨.hbm, 141, rfl⟩
abbrev main_while0b_call8_v1 : Ref sig .tc := ⟨.hbm, 142, rfl⟩
abbrev main_while0b_call8_v2 : Ref sig .tc := ⟨.hbm, 143, rfl⟩
abbrev main_while0b_v87 : Ref sig .tc := ⟨.hbm, 144, rfl⟩
abbrev main_while0b_v88 : Ref sig .tc := ⟨.hbm, 145, rfl⟩
abbrev main_while0b_v89 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_v94 : Ref sig .tc := ⟨.hbm, 151, rfl⟩
abbrev main_while0b_cst_16 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_v98 : Ref sig .tc := ⟨.hbm, 156, rfl⟩
abbrev main_while0b_v99 : Ref sig .tc := ⟨.hbm, 157, rfl⟩
abbrev main_while0b_v100 : Ref sig .tc := ⟨.hbm, 158, rfl⟩
abbrev main_while0b_v101 : Ref sig .tc := ⟨.hbm, 159, rfl⟩
abbrev main_while0b_v102 : Ref sig .tc := ⟨.hbm, 160, rfl⟩
abbrev main_while0b_v103 : Ref sig .tc := ⟨.hbm, 161, rfl⟩
abbrev main_while0b_v104 : Ref sig .tc := ⟨.hbm, 162, rfl⟩
abbrev main_while0b_v105 : Ref sig .tc := ⟨.hbm, 163, rfl⟩
abbrev main_while0b_v106 : Ref sig .tc := ⟨.hbm, 164, rfl⟩
abbrev main_while0b_v107 : Ref sig .tc := ⟨.hbm, 165, rfl⟩
abbrev main_while0b_v108 : Ref sig .tc := ⟨.hbm, 166, rfl⟩
abbrev main_while0b_v109 : Ref sig .tc := ⟨.hbm, 167, rfl⟩
abbrev main_while0b_call9_v0 : Ref sig .tc := ⟨.hbm, 168, rfl⟩
abbrev main_while0b_call9_c : Ref sig .tc := ⟨.hbm, 169, rfl⟩
abbrev main_while0b_call9_c_0 : Ref sig .tc := ⟨.hbm, 170, rfl⟩
abbrev main_while0b_call9_c_1 : Ref sig .tc := ⟨.hbm, 171, rfl⟩
abbrev main_while0b_call9_c_2 : Ref sig .tc := ⟨.hbm, 172, rfl⟩
abbrev main_while0b_v110 : Ref sig .tc := ⟨.hbm, 173, rfl⟩
abbrev main_while0b_c_17 : Ref sig .tc := ⟨.hbm, 174, rfl⟩
abbrev main_while0b_v111 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_cst_5 : Ref sig .tc := ⟨.hbm, 179, rfl⟩
abbrev main_v56 : Ref sig .tc := ⟨.hbm, 180, rfl⟩
abbrev main_v57 : Ref sig .tc := ⟨.hbm, 181, rfl⟩
abbrev main_cst_6 : Ref sig .tc := ⟨.hbm, 182, rfl⟩
abbrev main_v58 : Ref sig .tc := ⟨.hbm, 183, rfl⟩
abbrev main_v59 : Ref sig .tc := ⟨.hbm, 184, rfl⟩
abbrev main_cst_7 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_v68 : Ref sig .tc := ⟨.hbm, 194, rfl⟩
abbrev main_call10_v0 : Ref sig .tc := ⟨.hbm, 195, rfl⟩
abbrev main_call10_v1 : Ref sig .tc := ⟨.hbm, 196, rfl⟩
abbrev main_call10_cst : Ref sig .tc := ⟨.hbm, 197, rfl⟩
abbrev main_call10_v2 : Ref sig .tc := ⟨.hbm, 198, rfl⟩
abbrev main_call10_v3 : Ref sig .tc := ⟨.hbm, 199, rfl⟩
abbrev main_call10_cst_0 : Ref sig .tc := ⟨.hbm, 200, rfl⟩
abbrev main_call10_v4 : Ref sig .tc := ⟨.hbm, 201, rfl⟩
abbrev main_call10_v5 : Ref sig .tc := ⟨.hbm, 202, rfl⟩
abbrev main_v69 : Ref sig .tc := ⟨.hbm, 203, rfl⟩
abbrev main_v70 : Ref sig .tc := ⟨.hbm, 204, rfl⟩
abbrev main_v71 : Ref sig .tc := ⟨.hbm, 205, rfl⟩
abbrev main_v72 : Ref sig .tc := ⟨.hbm, 206, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S32768x1024 : Shape := ⟨2, ![32768, 1024]⟩
abbrev S2x32768x192 : Shape := ⟨3, ![2, 32768, 192]⟩
abbrev S32768x256 : Shape := ⟨2, ![32768, 256]⟩
abbrev S32768x384 : Shape := ⟨2, ![32768, 384]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S384x1024 : Shape := ⟨2, ![384, 1024]⟩
abbrev S2x192x1024 : Shape := ⟨3, ![2, 192, 1024]⟩
abbrev S1x1024 : Shape := ⟨2, ![1, 1024]⟩
abbrev S512x1024 : Shape := ⟨2, ![512, 1024]⟩
abbrev S2x512x192 : Shape := ⟨3, ![2, 512, 192]⟩
abbrev S512x256 : Shape := ⟨2, ![512, 256]⟩
abbrev S512x384 : Shape := ⟨2, ![512, 384]⟩
abbrev S1x512x192 : Shape := ⟨3, ![1, 512, 192]⟩
abbrev S512x192 : Shape := ⟨2, ![512, 192]⟩
abbrev S1x192x1024 : Shape := ⟨3, ![1, 192, 1024]⟩
abbrev S192x1024 : Shape := ⟨2, ![192, 1024]⟩
abbrev S512 : Shape := ⟨1, ![512]⟩
abbrev S512x1 : Shape := ⟨2, ![512, 1]⟩
abbrev S1024x256 : Shape := ⟨2, ![1024, 256]⟩

abbrev nBuf : Space → Nat
  | .hbm => 28
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S2x32768x192, .bf16⟩
  | .hbm, ⟨2, _⟩ => ⟨S32768x256, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x256, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S1024x1024, .bf16⟩
  | .hbm, ⟨15, _⟩ => ⟨S384x1024, .bf16⟩
  | .hbm, ⟨16, _⟩ => ⟨S2x192x1024, .bf16⟩
  | .hbm, ⟨17, _⟩ => ⟨S256x1024, .bf16⟩
  | .hbm, ⟨18, _⟩ => ⟨S384x1024, .bf16⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S1024x1024, .bf16⟩
  | .hbm, ⟨25, _⟩ => ⟨S256x1024, .bf16⟩
  | .hbm, ⟨26, _⟩ => ⟨S1x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S2x512x192, .bf16⟩
  | .local _ .vmem, ⟨3, _⟩ => ⟨S2x512x192, .bf16⟩
  | .local _ .vmem, ⟨4, _⟩ => ⟨S512x256, .bf16⟩
  | .local _ .vmem, ⟨5, _⟩ => ⟨S512x256, .bf16⟩
  | .local _ .vmem, ⟨6, _⟩ => ⟨S512x384, .bf16⟩
  | .local _ .vmem, ⟨7, _⟩ => ⟨S512x384, .bf16⟩
  | .local _ .vmem, ⟨8, _⟩ => ⟨S2x192x1024, .bf16⟩
  | .local _ .vmem, ⟨9, _⟩ => ⟨S256x1024, .bf16⟩
  | .local _ .vmem, ⟨10, _⟩ => ⟨S384x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x256, .f32⟩
  | .local _ .vmem, ⟨16, _⟩ => ⟨S512x256, .f32⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S32768x1024 : Shape := ⟨2, ![32768, 1024]⟩
abbrev S2x32768x192 : Shape := ⟨3, ![2, 32768, 192]⟩
abbrev S32768x256 : Shape := ⟨2, ![32768, 256]⟩
abbrev S32768x384 : Shape := ⟨2, ![32768, 384]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S32768x2x192 : Shape := ⟨3, ![32768, 2, 192]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x32768x192, .bf16⟩
  | .hbm, ⟨2, _⟩ => ⟨S32768x256, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x256, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S2x32768x192, .f32⟩
  | .hbm, ⟨15, _⟩ => ⟨S32768x2x192, .f32⟩
  | .hbm, ⟨16, _⟩ => ⟨S32768x384, .f32⟩
  | .hbm, ⟨17, _⟩ => ⟨S32768x256, .f32⟩
  | .hbm, ⟨18, _⟩ => ⟨S32768x384, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S_, .f32⟩
  | .hbm, ⟨42, _⟩ => ⟨S32768x2816, .f32⟩
  | .hbm, ⟨43, _⟩ => ⟨S32768x2816, .f32⟩
  | .hbm, ⟨44, _⟩ => ⟨S_, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1024, .f32⟩
  | .hbm, ⟨93, _⟩ => ⟨S32768x1024, .f32⟩
  | .hbm, ⟨94, _⟩ => ⟨S1x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x3474 : Shape := ⟨2, ![1024, 3474]⟩
abbrev S64 : Shape := ⟨1, ![64]⟩
abbrev S3x64 : Shape := ⟨2, ![3, 64]⟩
abbrev S32 : Shape := ⟨1, ![32]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S_ : Shape := ⟨0, ![]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1x1024 : Shape := ⟨2, ![1, 1024]⟩
abbrev S1024x384 : Shape := ⟨2, ![1024, 384]⟩
abbrev S1024x128 : Shape := ⟨2, ![1024, 128]⟩
abbrev S1024x18 : Shape := ⟨2, ![1024, 18]⟩
abbrev S1024x256 : Shape := ⟨2, ![1024, 256]⟩
abbrev S1024x9 : Shape := ⟨2, ![1024, 9]⟩
abbrev S1024x16 : Shape := ⟨2, ![1024, 16]⟩
abbrev S1024x96 : Shape := ⟨2, ![1024, 96]⟩
abbrev S1024x3584 : Shape := ⟨2, ![1024, 3584]⟩
abbrev S2x64 : Shape := ⟨2, ![2, 64]⟩
abbrev S128 : Shape := ⟨1, ![128]⟩
abbrev S1x128 : Shape := ⟨2, ![1, 128]⟩
abbrev S384x32768 : Shape := ⟨2, ![384, 32768]⟩
abbrev S4x32768x64 : Shape := ⟨3, ![4, 32768, 64]⟩
abbrev S2x32768x208 : Shape := ⟨3, ![2, 32768, 208]⟩
abbrev S2x128x80x256 : Shape := ⟨4, ![2, 128, 80, 256]⟩
abbrev S2x32768x80 : Shape := ⟨3, ![2, 32768, 80]⟩
abbrev S2x16x32768 : Shape := ⟨3, ![2, 16, 32768]⟩
abbrev S256x32768 : Shape := ⟨2, ![256, 32768]⟩
abbrev S2x32768x144 : Shape := ⟨3, ![2, 32768, 144]⟩
abbrev S2x128x144x256 : Shape := ⟨4, ![2, 128, 144, 256]⟩
abbrev S32768x384 : Shape := ⟨2, ![32768, 384]⟩
abbrev S512x1024 : Shape := ⟨2, ![512, 1024]⟩
abbrev S384x512 : Shape := ⟨2, ![384, 512]⟩
abbrev S4x512x64 : Shape := ⟨3, ![4, 512, 64]⟩
abbrev S2x512x208 : Shape := ⟨3, ![2, 512, 208]⟩
abbrev S2x2x80x256 : Shape := ⟨4, ![2, 2, 80, 256]⟩
abbrev S2x512x80 : Shape := ⟨3, ![2, 512, 80]⟩
abbrev S2x16x512 : Shape := ⟨3, ![2, 16, 512]⟩
abbrev S256x512 : Shape := ⟨2, ![256, 512]⟩
abbrev S2x512x144 : Shape := ⟨3, ![2, 512, 144]⟩
abbrev S2x2x144x256 : Shape := ⟨4, ![2, 2, 144, 256]⟩
abbrev S512x384 : Shape := ⟨2, ![512, 384]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x128 : Shape := ⟨2, ![128, 128]⟩
abbrev S512x128 : Shape := ⟨2, ![512, 128]⟩
abbrev S128x512 : Shape := ⟨2, ![128, 512]⟩
abbrev S16x512 : Shape := ⟨2, ![16, 512]⟩
abbrev S1x16x512 : Shape := ⟨3, ![1, 16, 512]⟩
abbrev S512x256 : Shape := ⟨2, ![512, 256]⟩
abbrev S512x64 : Shape := ⟨2, ![512, 64]⟩
abbrev S1x512x64 : Shape := ⟨3, ![1, 512, 64]⟩
abbrev S512x16 : Shape := ⟨2, ![512, 16]⟩
abbrev S512x208 : Shape := ⟨2, ![512, 208]⟩
abbrev S1x512x208 : Shape := ⟨3, ![1, 512, 208]⟩
abbrev S16x256 : Shape := ⟨2, ![16, 256]⟩
abbrev S64x256 : Shape := ⟨2, ![64, 256]⟩
abbrev S80x256 : Shape := ⟨2, ![80, 256]⟩
abbrev S1x1x80x256 : Shape := ⟨4, ![1, 1, 80, 256]⟩
abbrev S512x80 : Shape := ⟨2, ![512, 80]⟩
abbrev S1x512x80 : Shape := ⟨3, ![1, 512, 80]⟩
abbrev S512x144 : Shape := ⟨2, ![512, 144]⟩
abbrev S1x512x144 : Shape := ⟨3, ![1, 512, 144]⟩
abbrev S128x256 : Shape := ⟨2, ![128, 256]⟩
abbrev S144x256 : Shape := ⟨2, ![144, 256]⟩
abbrev S1x1x144x256 : Shape := ⟨4, ![1, 1, 144, 256]⟩
abbrev S1024x768 : Shape := ⟨2, ![1024, 768]⟩
abbrev S512x768 : Shape := ⟨2, ![512, 768]⟩

abbrev nBuf : Space → Nat
  | .hbm => 80
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3474, .f32⟩
  | .hbm, ⟨3, _⟩ => ⟨S64, .f32⟩
  | .hbm, ⟨4, _⟩ => ⟨S3x64, .f32⟩
  | .hbm, ⟨5, _⟩ => ⟨S32, .f32⟩
  | .hbm, ⟨6, _⟩ => ⟨S32, .f32⟩
  | .hbm, ⟨7, _⟩ => ⟨S1x64, .f32⟩
  | .hbm, ⟨8, _⟩ => ⟨S6x64, .f32⟩
  | .hbm, ⟨9, _⟩ => ⟨S384, .f32⟩
  | .hbm, ⟨10, _⟩ => ⟨S1x384, .f32⟩
  | .hbm, ⟨11, _⟩ => ⟨S_, .f32⟩
  | .hbm, ⟨12, _⟩ => ⟨S1x384, .f32⟩
  | .hbm, ⟨13, _⟩ => ⟨S1x384, .f32⟩
  | .hbm, ⟨14, _⟩ => ⟨S1x32, .f32⟩
  | .hbm, ⟨15, _⟩ => ⟨S8x32, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S1x1024, .f32⟩
  | .hbm, ⟨22, _⟩ => ⟨S1024x384, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S1024x18, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S1024x9, .f32⟩
  | .hbm, ⟨38, _⟩ => ⟨S_, .i32⟩
  | .hbm, ⟨39, _⟩ => ⟨S_, .f32⟩
  | .hbm, ⟨40, _⟩ => ⟨S1024x16, .f32⟩
  | .hbm, ⟨41, _⟩ => ⟨S1024x9, .f32⟩
  | .hbm, ⟨42, _⟩ => ⟨S_, .i32⟩
  | .hbm, ⟨43, _⟩ => ⟨S_, .f32⟩
  | .hbm, ⟨44, _⟩ => ⟨S1024x16, .f32⟩
  | .hbm, ⟨45, _⟩ => ⟨S_, .f32⟩
  | .hbm, ⟨46, _⟩ => ⟨S1024x96, .f32⟩
  | .hbm, ⟨47, _⟩ => ⟨S1024x128, .f32⟩
  | .hbm, ⟨48, _⟩ => ⟨S1024x3584, .f32⟩
  | .hbm, ⟨49, _⟩ => ⟨S1024x3584, .bf16⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S2x64, .f32⟩
  | .hbm, ⟨54, _⟩ => ⟨S128, .f32⟩
  | .hbm, ⟨55, _⟩ => ⟨S1x128, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S1x32, .f32⟩
  | .hbm, ⟨63, _⟩ => ⟨S8x32, .f32⟩
  | .hbm, ⟨64, _⟩ => ⟨S256, .f32⟩
  | .hbm, ⟨65, _⟩ => ⟨S1x256, .f32⟩
  | .hbm, ⟨66, _⟩ => ⟨S384x32768, .bf16⟩
  | .hbm, ⟨67, _⟩ => ⟨S4x32768x64, .f32⟩
  | .hbm, ⟨68, _⟩ => ⟨S2x32768x208, .bf16⟩
  | .hbm, ⟨69, _⟩ => ⟨S2x128x80x256, .bf16⟩
  | .hbm, ⟨70, _⟩ => ⟨S2x32768x80, .bf16⟩
  | .hbm, ⟨71, _⟩ => ⟨S2x128x80x256, .bf16⟩
  | .hbm, ⟨72, _⟩ => ⟨S2x16x32768, .f32⟩
  | .hbm, ⟨73, _⟩ => ⟨S256x32768, .bf16⟩
  | .hbm, ⟨74, _⟩ => ⟨S2x32768x144, .bf16⟩
  | .hbm, ⟨75, _⟩ => ⟨S2x128x144x256, .bf16⟩
  | .hbm, ⟨76, _⟩ => ⟨S32768x384, .f32⟩
  | .hbm, ⟨77, _⟩ => ⟨S32768x384, .f32⟩
  | .hbm, ⟨78, _⟩ => ⟨S32768x384, .f32⟩
  | .hbm, ⟨79, _⟩ => ⟨S32768x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x384, .f32⟩
  | .local _ .vmem, ⟨5, _⟩ => ⟨S1x128, .f32⟩
  | .local _ .vmem, ⟨6, _⟩ => ⟨S1x128, .f32⟩
  | .local _ .vmem, ⟨7, _⟩ => ⟨S1x256, .f32⟩
  | .local _ .vmem, ⟨8, _⟩ => ⟨S1x256, .f32⟩
  | .local _ .vmem, ⟨9, _⟩ => ⟨S384x512, .bf16⟩
  | .local _ .vmem, ⟨10, _⟩ => ⟨S384x512, .bf16⟩
  | .local _ .vmem, ⟨11, _⟩ => ⟨S4x512x64, .f32⟩
  | .local _ .vmem, ⟨12, _⟩ => ⟨S4x512x64, .f32⟩
  | .local _ .vmem, ⟨13, _⟩ => ⟨S2x512x208, .bf16⟩
  | .local _ .vmem, ⟨14, _⟩ => ⟨S2x512x208, .bf16⟩
  | .local _ .vmem, ⟨15, _⟩ => ⟨S2x2x80x256, .bf16⟩
  | .local _ .vmem, ⟨16, _⟩ => ⟨S2x2x80x256, .bf16⟩
  | .local _ .vmem, ⟨17, _⟩ => ⟨S2x512x80, .bf16⟩
  | .local _ .vmem, ⟨18, _⟩ => ⟨S2x512x80, .bf16⟩
  | .local _ .vmem, ⟨19, _⟩ => ⟨S2x2x80x256, .bf16⟩
  | .local _ .vmem, ⟨20, _⟩ => ⟨S2x2x80x256, .bf16⟩
  | .local _ .vmem, ⟨21, _⟩ => ⟨S2x16x512, .f32⟩
  | .local _ .vmem, ⟨22, _⟩ => ⟨S2x16x512, .f32⟩
  | .local _ .vmem, ⟨23, _⟩ => ⟨S256x512, .bf16⟩
  | .local _ .vmem, ⟨24, _⟩ => ⟨S256x512, .bf16⟩
  | .local _ .vmem, ⟨25, _⟩ => ⟨S2x512x144, .bf16⟩
  | .local _ .vmem, ⟨26, _⟩ => ⟨S2x512x144, .bf16⟩
  | .local _ .vmem, ⟨27, _⟩ => ⟨S2x2x144x256, .bf16⟩
  | .local _ .vmem, ⟨28, _⟩ => ⟨S2x2x144x256, .bf16⟩
  | .local _ .vmem, ⟨29, _⟩ => ⟨S512x384, .f32⟩
  | .local _ .vmem, ⟨30, _⟩ => ⟨S512x384, .f32⟩
  | .local _ .vmem, ⟨31, _⟩ => ⟨S512x384, .f32⟩
  | .local _ .vmem, ⟨32, _⟩ => ⟨S512x384, .f32⟩
  | .local _ .vmem, ⟨33, _⟩ => ⟨S512x384, .f32⟩
  | .local _ .vmem, ⟨34, _⟩ => ⟨S512x384, .f32⟩
  | .local _ .vmem, ⟨35, _⟩ => ⟨S512x384, .f32⟩
  | .local _ .vmem, ⟨36, _⟩ => ⟨S512x384, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_c_1 : Ref sig .tc := ⟨.hbm, 42, rfl⟩
abbrev main_call1_v0 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev main_v52_3 : Ref sig .tc := ⟨.hbm, 69, rfl⟩
abbrev main_v52_4 : Ref sig .tc := ⟨.hbm, 70, rfl⟩
abbrev main_v52_5 : Ref sig .tc := ⟨.hbm, 71, rfl⟩
abbrev main_v52_6 : Ref sig .tc := ⟨.hbm, 72, rfl⟩
abbrev main_v52_7 : Ref sig .tc := ⟨.hbm, 73, rfl⟩
abbrev main_v52_8 : Ref sig .tc := ⟨.hbm, 74, rfl⟩
abbrev main_v52_9 : Ref sig .tc := ⟨.hbm, 75, rfl⟩
abbrev main_v52_10 : Ref sig .tc := ⟨.hbm, 76, rfl⟩
abbrev main_v52_11 : Ref sig .tc := ⟨.hbm, 77, rfl⟩
abbrev main_v52_12 : Ref sig .tc := ⟨.hbm, 78, rfl⟩
abbrev main_v52_13 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x208 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x2x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x80 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x2x80x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x144 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x2x144x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S32768x1024 : Shape := ⟨2, ![32768, 1024]⟩
abbrev S1024 : Shape := ⟨1, ![1024]⟩
abbrev S1024x3474 : Shape := ⟨2, ![1024, 3474]⟩
abbrev S64 : Shape := ⟨1, ![64]⟩
abbrev S3x64 : Shape := ⟨2, ![3, 64]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3474 : Shape := ⟨2, ![32768, 3474]⟩
abbrev S32768x384 : Shape := ⟨2, ![32768, 384]⟩
abbrev S32768x128 : Shape := ⟨2, ![32768, 128]⟩
abbrev S32768x18 : Shape := ⟨2, ![32768, 18]⟩
abbrev S32768x256 : Shape := ⟨2, ![32768, 256]⟩
abbrev S32768x6x64 : Shape := ⟨3, ![32768, 6, 64]⟩
abbrev S32768x6 : Shape := ⟨2, ![32768, 6]⟩
abbrev S32768x6x1 : Shape := ⟨3, ![32768, 6, 1]⟩
abbrev S1x1x64 : Shape := ⟨3, ![1, 1, 64]⟩
abbrev S32768x2x64 : Shape := ⟨3, ![32768, 2, 64]⟩
abbrev S1x64 : Shape := ⟨2, ![1, 64]⟩
abbrev S32768x2 : Shape := ⟨2, ![32768, 2]⟩
abbrev S32768x2x1 : Shape := ⟨3, ![32768, 2, 1]⟩
abbrev S32768x8x32 : Shape := ⟨3, ![32768, 8, 32]⟩
abbrev S32768x8 : Shape := ⟨2, ![32768, 8]⟩
abbrev S32768x8x1 : Shape := ⟨3, ![32768, 8, 1]⟩
abbrev S1x1x32 : Shape := ⟨3, ![1, 1, 32]⟩
abbrev S2x32768x16 : Shape := ⟨3, ![2, 32768, 16]⟩
abbrev S128 : Shape := ⟨1, ![128]⟩
abbrev S1x128 : Shape := ⟨2, ![1, 128]⟩
abbrev S2x32768x128 : Shape := ⟨3, ![2, 32768, 128]⟩
abbrev S32768x2x9 : Shape := ⟨3, ![32768, 2, 9]⟩
abbrev S32768x2x7 : Shape := ⟨3, ![32768, 2, 7]⟩
abbrev S32768x2x16 : Shape := ⟨3, ![32768, 2, 16]⟩
abbrev S2x16x32768 : Shape := ⟨3, ![2, 16, 32768]⟩
abbrev S384x32768 : Shape := ⟨2, ![384, 32768]⟩
abbrev S2x32768x64 : Shape := ⟨3, ![2, 32768, 64]⟩
abbrev S4x32768x64 : Shape := ⟨3, ![4, 32768, 64]⟩
abbrev S2x32768x208 : Shape := ⟨3, ![2, 32768, 208]⟩
abbrev S128x256x2x64 : Shape := ⟨4, ![128, 256, 2, 64]⟩
abbrev S2x128x64x256 : Shape := ⟨4, ![2, 128, 64, 256]⟩
abbrev S2x128x16x256 : Shape := ⟨4, ![2, 128, 16, 256]⟩
abbrev S2x128x80x256 : Shape := ⟨4, ![2, 128, 80, 256]⟩
abbrev S2x32768x80 : Shape := ⟨3, ![2, 32768, 80]⟩
abbrev S256x32768 : Shape := ⟨2, ![256, 32768]⟩
abbrev S32768x2x128 : Shape := ⟨3, ![32768, 2, 128]⟩
abbrev S2x32768x144 : Shape := ⟨3, ![2, 32768, 144]⟩
abbrev S128x256x2x128 : Shape := ⟨4, ![128, 256, 2, 128]⟩
abbrev S2x128x128x256 : Shape := ⟨4, ![2, 128, 128, 256]⟩
abbrev S2x128x144x256 : Shape := ⟨4, ![2, 128, 144, 256]⟩

abbrev nBuf : Space → Nat
  | .hbm => 238
  | .vmem => 0
  | .smem => 0
  | _ => 0

abbrev hbmTy0_0 (i : Nat) : BufTy := match i % 128 with
  | 0 => ⟨S32768x1024, .f32⟩
  | 1 => ⟨S1024, .f32⟩
  | 2 => ⟨S1024x3474, .f32⟩
  | 3 => ⟨S64, .f32⟩
  | 4 => ⟨S3x64, .f32⟩
  | 5 => ⟨S32, .f32⟩
  | 6 => ⟨S32, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S32768x3474, .f32⟩
  | 24 => ⟨S32768x384, .f32⟩
  | 25 => ⟨S32768x128, .f32⟩
  | 26 => ⟨S32768x128, .f32⟩
  | 27 => ⟨S32768x128, .f32⟩
  | 28 => ⟨S32768x128, .f32⟩
  | 29 => ⟨S32768x128, .f32⟩
  | 30 => ⟨S32768x128, .f32⟩
  | 31 => ⟨S32768x18, .f32⟩
  | 32 => ⟨S32768x256, .f32⟩
  | 33 => ⟨S32768x256, .f32⟩
  | 34 => ⟨S32768x256, .f32⟩
  | 35 => ⟨S32768x384, .f32⟩
  | 36 => ⟨S32768x384, .f32⟩
  | 37 => ⟨S32768x384, .f32⟩
  | 38 => ⟨S32768x384, .f32⟩
  | 39 => ⟨S32768x6x64, .f32⟩
  | 40 => ⟨S32768x6x64, .f32⟩
  | 41 => ⟨S_, .f32⟩
  | 42 => ⟨S32768x6, .f32⟩
  | 43 => ⟨S32768x6x1, .f32⟩
  | 44 => ⟨S_, .f32⟩
  | 45 => ⟨S32768x6x1, .f32⟩
  | 46 => ⟨S32768x6x1, .f32⟩
  | 47 => ⟨S_, .f32⟩
  | 48 => ⟨S32768x6x1, .f32⟩
  | 49 => ⟨S32768x6x1, .f32⟩
  | 50 => ⟨S32768x6x1, .f32⟩
  | 51 => ⟨S32768x6x64, .f32⟩
  | 52 => ⟨S32768x6x64, .f32⟩
  | 53 => ⟨S1x1x64, .f32⟩
  | 54 => ⟨S32768x6x64, .f32⟩
  | 55 => ⟨S32768x6x64, .f32⟩
  | 56 => ⟨S32768x384, .f32⟩
  | 57 => ⟨S32768x2x64, .f32⟩
  | 58 => ⟨S1x64, .f32⟩
  | 59 => ⟨S64, .f32⟩
  | 60 => ⟨S32768x2x64, .f32⟩
  | 61 => ⟨S_, .f32⟩
  | 62 => ⟨S32768x2, .f32⟩
  | 63 => ⟨S32768x2x1, .f32⟩
  | 64 => ⟨S_, .f32⟩
  | 65 => ⟨S32768x2x1, .f32⟩
  | 66 => ⟨S32768x2x1, .f32⟩
  | 67 => ⟨S_, .f32⟩
  | 68 => ⟨S32768x2x1, .f32⟩
  | 69 => ⟨S32768x2x1, .f32⟩
  | 70 => ⟨S32768x2x1, .f32⟩
  | 71 => ⟨S32768x2x64, .f32⟩
  | 72 => ⟨S32768x2x64, .f32⟩
  | 73 => ⟨S1x1x64, .f32⟩
  | 74 => ⟨S32768x2x64, .f32⟩
  | 75 => ⟨S32768x2x64, .f32⟩
  | 76 => ⟨S32768x2x64, .f32⟩
  | 77 => ⟨S1x64, .f32⟩
  | 78 => ⟨S64, .f32⟩
  | 79 => ⟨S32768x2x64, .f32⟩
  | 80 => ⟨S_, .f32⟩
  | 81 => ⟨S32768x2, .f32⟩
  | 82 => ⟨S32768x2x1, .f32⟩
  | 83 => ⟨S_, .f32⟩
  | 84 => ⟨S32768x2x1, .f32⟩
  | 85 => ⟨S32768x2x1, .f32⟩
  | 86 => ⟨S_, .f32⟩
  | 87 => ⟨S32768x2x1, .f32⟩
  | 88 => ⟨S32768x2x1, .f32⟩
  | 89 => ⟨S32768x2x1, .f32⟩
  | 90 => ⟨S32768x2x64, .f32⟩
  | 91 => ⟨S32768x2x64, .f32⟩
  | 92 => ⟨S1x1x64, .f32⟩
  | 93 => ⟨S32768x2x64, .f32⟩
  | 94 => ⟨S32768x2x64, .f32⟩
  | 95 => ⟨S32768x18, .f32⟩
  | 96 => ⟨S32768x18, .f32⟩
  | 97 => ⟨S_, .f32⟩
  | 98 => ⟨S32768x18, .f32⟩
  | 99 => ⟨S32768x18, .f32⟩
  | 100 => ⟨S_, .f32⟩
  | 101 => ⟨S32768x18, .f32⟩
  | 102 => ⟨S32768x18, .f32⟩
  | 103 => ⟨S32768x8x32, .f32⟩
  | 104 => ⟨S32768x8x32, .f32⟩
  | 105 => ⟨S_, .f32⟩
  | 106 => ⟨S32768x8, .f32⟩
  | 107 => ⟨S32768x8x1, .f32⟩
  | 108 => ⟨S_, .f32⟩
  | 109 => ⟨S32768x8x1, .f32⟩
  | 110 => ⟨S32768x8x1, .f32⟩
  | 111 => ⟨S_, .f32⟩
  | 112 => ⟨S32768x8x1, .f32⟩
  | 113 => ⟨S32768x8x1, .f32⟩
  | 114 => ⟨S32768x8x1, .f32⟩
  | 115 => ⟨S32768x8x32, .f32⟩
  | 116 => ⟨S32768x8x32, .f32⟩
  | 117 => ⟨S1x1x32, .f32⟩
  | 118 => ⟨S32768x8x32, .f32⟩
  | 119 => ⟨S32768x8x32, .f32⟩
  | 120 => ⟨S32768x256, .f32⟩
  | 121 => ⟨S32768x8x32, .f32⟩
  | 122 => ⟨S32768x8x32, .f32⟩
  | 123 => ⟨S_, .f32⟩
  | 124 => ⟨S32768x8, .f32⟩
  | 125 => ⟨S32768x8x1, .f32⟩
  | 126 => ⟨S_, .f32⟩
  | 127 => ⟨S32768x8x1, .f32⟩
  | _ => ⟨S32768x1024, .f32⟩

abbrev hbmTy0_1 (i : Nat) : BufTy := match i % 128 with
  | 0 => ⟨S32768x8x1, .f32⟩
  | 1 => ⟨S_, .f32⟩
  | 2 => ⟨S32768x8x1, .f32⟩
  | 3 => ⟨S32768x8x1, .f32⟩
  | 4 => ⟨S32768x8x1, .f32⟩
  | 5 => ⟨S32768x8x32, .f32⟩
  | 6 => ⟨S32768x8x32, .f32⟩
  | 7 => ⟨S1x1x32, .f32⟩
  | 8 => ⟨S32768x8x32, .f32⟩
  | 9 => ⟨S32768x8x32, .f32⟩
  | 10 => ⟨S32768x256, .f32⟩
  | 11 => ⟨S_, .f32⟩
  | 12 => ⟨S2x32768x16, .f32⟩
  | 13 => ⟨S32768, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S32768, .i32⟩
  | 21 => ⟨S32768, .i32⟩
  | 22 => ⟨S_, .i32⟩
  | 23 => ⟨S32768, .i32⟩
  | 24 => ⟨S32768, .i1⟩
  | 25 => ⟨S_, .i32⟩
  | 26 => ⟨S32768, .i32⟩
  | 27 => ⟨S32768, .i1⟩
  | 28 => ⟨S_, .i32⟩
  | 29 => ⟨S_, .i1⟩
  | 30 => ⟨S32768, .i1⟩
  | 31 => ⟨S32768, .i1⟩
  | 32 => ⟨S32768, .i1⟩
  | 33 => ⟨S32768, .i32⟩
  | 34 => ⟨S32768, .i32⟩
  | 35 => ⟨S32768, .i32⟩
  | 36 => ⟨S_, .i32⟩
  | 37 => ⟨S_, .i32⟩
  | 38 => ⟨S32768, .i32⟩
  | 39 => ⟨S32768, .i32⟩
  | 40 => ⟨S32768, .i32⟩
  | 41 => ⟨S_, .i32⟩
  | 42 => ⟨S32768, .i32⟩
  | 43 => ⟨S32768, .i1⟩
  | 44 => ⟨S32768, .i32⟩
  | 45 => ⟨S32768, .i32⟩
  | 46 => ⟨S_, .i32⟩
  | 47 => ⟨S32768, .i32⟩
  | 48 => ⟨S32768, .i1⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S128, .i32⟩
  | 56 => ⟨S1x128, .i32⟩
  | 57 => ⟨S32768x128, .i32⟩
  | 58 => ⟨S32768x128, .i32⟩
  | 59 => ⟨S32768x128, .i1⟩
  | 60 => ⟨S32768x128, .f32⟩
  | 61 => ⟨S2x32768x128, .f32⟩
  | 62 => ⟨S32768x2x9, .f32⟩
  | 63 => ⟨S_, .f32⟩
  | 64 => ⟨S32768x2x7, .f32⟩
  | 65 => ⟨S32768x2x16, .f32⟩
  | 66 => ⟨S2x16x32768, .f32⟩
  | 67 => ⟨S_, .f32⟩
  | 68 => ⟨S32768x384, .f32⟩
  | 69 => ⟨S32768x384, .f32⟩
  | 70 => ⟨S384x32768, .f32⟩
  | 71 => ⟨S384x32768, .bf16⟩
  | 72 => ⟨S32768x2x64, .f32⟩
  | 73 => ⟨S2x32768x64, .f32⟩
  | 74 => ⟨S32768x2x64, .f32⟩
  | 75 => ⟨S2x32768x64, .f32⟩
  | 76 => ⟨S4x32768x64, .f32⟩
  | 77 => ⟨S2x32768x64, .f32⟩
  | 78 => ⟨S2x32768x208, .f32⟩
  | 79 => ⟨S2x32768x208, .bf16⟩
  | 80 => ⟨S128x256x2x64, .f32⟩
  | 81 => ⟨S2x128x64x256, .f32⟩
  | 82 => ⟨S_, .f32⟩
  | 83 => ⟨S2x128x16x256, .f32⟩
  | 84 => ⟨S2x128x80x256, .f32⟩
  | 85 => ⟨S2x128x80x256, .bf16⟩
  | 86 => ⟨S2x32768x64, .f32⟩
  | 87 => ⟨S2x32768x80, .f32⟩
  | 88 => ⟨S2x32768x80, .bf16⟩
  | 89 => ⟨S128x256x2x64, .f32⟩
  | 90 => ⟨S2x128x64x256, .f32⟩
  | 91 => ⟨S_, .f32⟩
  | 92 => ⟨S2x128x16x256, .f32⟩
  | 93 => ⟨S2x128x80x256, .f32⟩
  | 94 => ⟨S2x128x80x256, .bf16⟩
  | 95 => ⟨S_, .f32⟩
  | 96 => ⟨S32768x256, .f32⟩
  | 97 => ⟨S32768x256, .f32⟩
  | 98 => ⟨S256x32768, .f32⟩
  | 99 => ⟨S256x32768, .bf16⟩
  | 100 => ⟨S32768x2x128, .f32⟩
  | 101 => ⟨S2x32768x128, .f32⟩
  | 102 => ⟨S2x32768x144, .f32⟩
  | 103 => ⟨S2x32768x144, .bf16⟩
  | 104 => ⟨S128x256x2x128, .f32⟩
  | 105 => ⟨S2x128x128x256, .f32⟩
  | 106 => ⟨S_, .f32⟩
  | 107 => ⟨S2x128x16x256, .f32⟩
  | 108 => ⟨S2x128x144x256, .f32⟩
  | 109 => ⟨S2x128x144x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_cst_17 : Ref sig .tc := ⟨.hbm, 126, rfl⟩
abbrev main_v101 : Ref sig .tc := ⟨.hbm, 127, rfl⟩
abbrev main_v102 : Ref sig .tc := ⟨.hbm, 128, rfl⟩
abbrev main_cst_18 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_19 : Ref sig .tc := ⟨.hbm, 139, rfl⟩
abbrev main_v112 : Ref sig .tc := ⟨.hbm, 140, rfl⟩
abbrev main_v113 : Ref sig .tc := ⟨.hbm, 141, rfl⟩
abbrev main_c : Ref sig .tc := ⟨.hbm, 142, rfl⟩
abbrev main_call0_v0 : Ref sig .tc := ⟨.hbm, 143, rfl⟩
abbrev main_call0_c : Ref sig .tc := ⟨.hbm, 144, rfl⟩
abbrev main_call0_v1 : Ref sig .tc := ⟨.hbm, 145, rfl⟩
abbrev main_call0_c_0 : Ref sig .tc := ⟨.hbm, 146, rfl⟩
abbrev main_call0_v2 : Ref sig .tc := ⟨.hbm, 147, rfl⟩
abbrev main_call0_v3 : Ref sig .tc := ⟨.hbm, 148, rfl⟩
abbrev main_call0_v4 : Ref sig .tc := ⟨.hbm, 149, rfl⟩
abbrev main_call0_c_1 : Ref sig .tc := ⟨.hbm, 150, rfl⟩
abbrev main_call0_v5 : Ref sig .tc := ⟨.hbm, 151, rfl⟩
abbrev main_call0_v6 : Ref sig .tc := ⟨.hbm, 152, rfl⟩
abbrev main_call0_c_2 : Ref sig .tc := ⟨.hbm, 153, rfl⟩
abbrev main_call0_v7 : Ref sig .tc := ⟨.hbm, 154, rfl⟩
abbrev main_call0_v8 : Ref sig .tc := ⟨.hbm, 155, rfl⟩
abbrev main_call0_c_3 : Ref sig .tc := ⟨.hbm, 156, rfl⟩
abbrev main_call0_v9 : Ref sig .tc := ⟨.hbm, 157, rfl⟩
abbrev main_call0_v10 : Ref sig .tc := ⟨.hbm, 158, rfl⟩
abbrev main_call0_v11 : Ref sig .tc := ⟨.hbm, 159, rfl⟩
abbrev main_call0_v12 : Ref sig .tc := ⟨.hbm, 160, rfl⟩
abbrev main_call0_v13 : Ref sig .tc := ⟨.hbm, 161, rfl⟩
abbrev main_call0_v14 : Ref sig .tc := ⟨.hbm, 162, rfl⟩
abbrev main_v114 : Ref sig .tc := ⟨.hbm, 163, rfl⟩
abbrev main_c_20 : Ref sig .tc := ⟨.hbm, 164, rfl⟩
abbrev main_call1_v0 : Ref sig .tc := ⟨.hbm, 165, rfl⟩
abbrev main_call1_v1 : Ref sig .tc := ⟨.hbm, 166, rfl⟩
abbrev main_call1_v2 : Ref sig .tc := ⟨.hbm, 167, rfl⟩
abbrev main_call1_v3 : Ref sig .tc := ⟨.hbm, 168, rfl⟩
abbrev main_call1_v4 : Ref sig .tc := ⟨.hbm, 169, rfl⟩
abbrev main_call1_v5 : Ref sig .tc := ⟨.hbm, 170, rfl⟩
abbrev main_call1_v6 : Ref sig .tc := ⟨.hbm, 171, rfl⟩
abbrev main_call1_v7 : Ref sig .tc := ⟨.hbm, 172, rfl⟩
abbrev main_call1_v8 : Ref sig .tc := ⟨.hbm, 173, rfl⟩
abbrev main_call1_c : Ref sig .tc := ⟨.hbm, 174, rfl⟩
abbrev main_call1_v9 : Ref sig .tc := ⟨.hbm, 175, rfl⟩
abbrev main_call1_v10 : Ref sig .tc := ⟨.hbm, 176, rfl⟩
abbrev main_call1_v11 : Ref sig .tc := ⟨.hbm, 177, rfl⟩
abbrev main_call1_c_0 : Ref sig .tc := ⟨.hbm, 178, rfl⟩
abbrev main_call1_v12 : Ref sig .tc := ⟨.hbm, 179, rfl⟩
abbrev main_call1_v13 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_21 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_22 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_23 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_24 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_25 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_cst_26 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩

abbrev nD : Nat := 1
abbrev τ : Topo := Topo.v7x

variable {F : FTy → Type} [FloatOps F]
-- ==== Proof.Body.lean ====
/-
  One grid point of the recurrence kernel as a few named vector functions.

  The body works on 128 tokens and six heads, two heads at a time. `upd` and `mix` say what one pair of heads leaves in the
  carried state and what it puts out, for any pair; `row_A`, `row_B`, `state_A`, `state_B` say that the body's stores are these
  functions of the point's input blocks, at the first point of a sequence (state zero) and at the others (state carried).
-/
module

public import proofs.«01_k».proof.Proof.Gen.KernelIdeal.Value
public import Idealize.ShloMosaic.Lib.Pipeline.Value
public import Idealize.ShloMosaic.Lib.Pointwise

@[expose] public section

set_option maxRecDepth 16384
noncomputable section
open Idealize.ShloMosaic Idealize.ShloMosaic.TcCoe Idealize.SL.Sem
namespace Cert.KernelIdeal.Body
open Cert.KernelIdeal Cert.KernelIdeal.Gen
variable {F : FTy → Type} [FloatOps F]

/-! ### Integer masks -/

/-- The remainder rounded towards minus infinity. -/
def flMod {s : Shape} (x : IVec s 32) (n : BitVec 32) : IVec s 32 :=
  select (andi (xori (cmpi .slt (remsi x (broadcast s n)) (broadcast s 0#32)) (broadcast s (Scalar.cmpi .slt n 0#32)))
      (cmpi .ne (remsi x (broadcast s n)) (broadcast s 0#32)))
    (addi (remsi x (broadcast s n)) (broadcast s n)) (remsi x (broadcast s n))

/-- The quotient rounded towards minus infinity. -/
def flDiv {s : Shape} (x : IVec s 32) (n : BitVec 32) : IVec s 32 :=
  select (andi (cmpi .ne (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- The block size of level `l`: 128, 64, …, 2 for levels 1 to 7. -/
abbrev bs (l : ℕ) : BitVec 32 := BitVec.ofNat 32 (256 / 2 ^ l)

def tRow : IVec S256x128 32 := flMod (iota .tc S256x128 32 [0] iota_S256x128_d0_w32) 128#32
def sCol : IVec S256x128 32 := iota .tc S256x128 32 [1] iota_S256x128_d1_w32
/-- The rows in the upper half of their block of level `l`. -/
def upper (l : ℕ) : IVec S128x384 1 :=
  cmpi .sge (flMod (iota .tc S128x384 32 [0] iota_S128x384_d0_w32) (bs l)) (broadcast S128x384 (bs (l + 1)))
/-- The pairs of positions in one block of level `l`. -/
def same (l : ℕ) : IVec S256x128 1 := cmpi .eq (flDiv tRow (bs l)) (flDiv sCol (bs l))
/-- The lanes of the first head of a pair. -/
def lo : IVec S128x128 1 := cmpi .slt (iota .tc S128x128 32 [1] iota_S128x128_d1_w32) (broadcast S128x128 64#32)
/-- The pairs of lanes that belong to one head. -/
def sameHead : IVec S128x128 1 :=
  cmpi .eq (flDiv (iota .tc S128x128 32 [0] iota_S128x128_d0_w32) 64#32) (flDiv (iota .tc S128x128 32 [1] iota_S128x128_d1_w32) 64#32)

/-! ### Slices -/

theorem slices_level : ∀ l : Fin 8, S1024x384.Slices ![128 * l.val, 0] S128x384 := by decide
theorem slices_pair : ∀ p : Fin 3, S128x384.Slices ![0, 128 * p.val] S128x128 := by decide
theorem slices_pair1 : ∀ p : Fin 3, S1x384.Slices ![0, 128 * p.val] S1x128 := by decide

/-- The 128 columns of a pair of heads. -/
def cols {α : Type} (p : ℕ) (hp : p < 3) (x : S128x384.Idx → α) : S128x128.Idx → α :=
  extractStridedSlice S128x128 ![0, 128 * p] x (slices_pair ⟨p, hp⟩)

/-- The two heads of a pair, one above the other, the other head's lanes zero. -/
def split (p : ℕ) (hp : p < 3) (x : FVec F S128x384 .bf16) : FVec F S256x128 .bf16 :=
  concatenate S256x128 0 [⟨S128x128, select lo (cols p hp x) (broadcast S128x128 (Scalar.ofBits .bf16 0x0000#16))⟩,
    ⟨S128x128, select lo (broadcast S128x128 (Scalar.ofBits .bf16 0x0000#16)) (cols p hp x)⟩] concatenates_S128x128_S128x128_S256x128_d0

/-! ### The levels -/

section
variable (q k cum : FVec F S128x384 .f32) (sums : FVec F S1024x384 .f32)

/-- The prefix sums at the middle of each row's block of level `l`. -/
def ref (l : ℕ) (hl : l < 8) : FVec F S128x384 .f32 := extractStridedSlice S128x384 ![128 * l, 0] sums (slices_level ⟨l, hl⟩)

def lvQ (l : ℕ) (hl : l < 8) : FVec F S128x384 .bf16 :=
  truncf .bf16 (mulf q (exp (select (upper l) (subf cum (ref sums l hl)) (broadcast S128x384 (Scalar.ofBits .f32 0xFF800000#32))))) bitsLt_bf16_f32
def lvK (l : ℕ) (hl : l < 8) : FVec F S128x384 .bf16 :=
  truncf .bf16 (mulf k (exp (select (upper l) (broadcast S128x384 (Scalar.ofBits .f32 0xFF800000#32)) (subf (ref sums l hl) cum)))) bitsLt_bf16_f32

/-- The products of a pair's rows. -/
def prod (p : ℕ) (hp : p < 3) (a b : FVec F S128x384 .bf16) : FVec F S256x128 .f32 :=
  matmul dot_S256x128_S128x128_S256x128_1_1_0_0_n_n none (split p hp a) (cols p hp b) (constant S256x128 .f32 0x00000000#32)

/-- The scores through level `l`. -/
def scores (p : ℕ) (hp : p < 3) : (l : ℕ) → l < 8 → FVec F S256x128 .f32
  | 0, _ => select (cmpi .eq tRow sCol) (prod p hp (truncf .bf16 q bitsLt_bf16_f32) (truncf .bf16 k bitsLt_bf16_f32))
      (broadcast S256x128 (Scalar.ofBits .f32 0x00000000#32))
  | l + 1, hl => addf (scores p hp l (Nat.lt_of_succ_lt hl))
      (select (same (l + 1)) (prod p hp (lvQ q cum sums (l + 1) hl) (lvK k cum sums (l + 1) hl)) (broadcast S256x128 (Scalar.ofBits .f32 0x00000000#32)))
end

/-! ### One pair of heads -/

section
variable (p : ℕ) (hp : p < 3) (x0 x1 x2 : Vec F S128x384 .f32) (x4 : Vec F S1x384 .f32) (x6 : Vec F S1024x128 .bf16) (st : Vec F S1x128x128 .f32)

/-- What the pair puts out before the head norm: the carried state's part and the chunk's own. -/
def mix : FVec F S128x128 .f32 :=
  addf (matmul dot_S128x128_S128x128_S128x128_1_1_0_0_n_n none (cols p hp (k0_pay11 (k0_pay4 x1 x4) x0 x6))
      (truncf .bf16 (shapeCast S128x128 st shapeCasts_S1x128x128_S128x128 : FVec F S128x128 .f32) bitsLt_bf16_f32) (constant S128x128 .f32 0x00000000#32))
    (select lo
      (extractStridedSlice S128x128 ![0, 0] (matmul dot_S256x128_S128x128_S256x128_1_0_0_1_n_n none
        (truncf .bf16 (scores (k0_pay6 x0) (k0_pay5 x1 x4) (k0_pay9 (k0_pay4 x1 x4) x6) (k0_pay8 (k0_pay4 x1 x4) x6) p hp 7 (by decide)) bitsLt_bf16_f32)
        (cols p hp (k0_pay7 x2)) (constant S256x128 .f32 0x00000000#32)) slices_S256x128_o0_0_S128x128)
      (extractStridedSlice S128x128 ![128, 0] (matmul dot_S256x128_S128x128_S256x128_1_0_0_1_n_n none
        (truncf .bf16 (scores (k0_pay6 x0) (k0_pay5 x1 x4) (k0_pay9 (k0_pay4 x1 x4) x6) (k0_pay8 (k0_pay4 x1 x4) x6) p hp 7 (by decide)) bitsLt_bf16_f32)
        (cols p hp (k0_pay7 x2)) (constant S256x128 .f32 0x00000000#32)) slices_S256x128_o128_0_S128x128))

/-- The state the pair leaves. -/
def upd : FVec F S1x128x128 .f32 :=
  shapeCast S1x128x128 (addf (mulf (shapeCast S128x128 st shapeCasts_S1x128x128_S128x128 : FVec F S128x128 .f32)
      (broadcastTo S128x128 (extractStridedSlice S1x128 ![0, 128 * p] (k0_pay13 (k0_pay4 x1 x4) x6) (slices_pair1 ⟨p, hp⟩)) broadcasts_S1x128_S128x128))
    (select sameHead (matmul dot_S128x128_S128x128_S128x128_0_0_1_1_n_n none (cols p hp (k0_pay7 x2)) (cols p hp (k0_pay12 (k0_pay4 x1 x4) (k0_pay5 x1 x4) x6))
      (constant S128x128 .f32 0x00000000#32)) (broadcast S128x128 (Scalar.ofBits .f32 0x00000000#32)))) shapeCasts_S128x128_S1x128x128
end

/-! ### The carried state -/

theorem inb_slot : ∀ (p : Fin 3) (a : Fin 3), (![p.val, 0, 0] : Fin 3 → Nat) a + (![1, 128, 128] : Fin 3 → Nat) a ≤ S3x128x128.size a := by decide
/-- Where a pair's state lies. -/
abbrev slot (p : ℕ) (hp : p < 3) : Rect S3x128x128 := Rect.unit ![p, 0, 0] ![1, 128, 128] (inb_slot ⟨p, hp⟩)
/-- A pair's state. -/
def stOf (p : ℕ) (hp : p < 3) (s : Vec F S3x128x128 .f32) : Vec F S1x128x128 .f32 := View.ld s (slot p hp)

theorem ld_canon_here {Val : EltTy → Type} [∀ e, Nonempty (Val e)] {s : Shape} {e : EltTy} (r : Rect s) (w : r.shape.Idx → Val e)
    (L : List (View.Piece Val s e)) : View.ld (View.canon (⟨r, w⟩ :: L)) r = w := funext fun j => View.canon_cons_emb r w L j
theorem ld_canon_skip {Val : EltTy → Type} [∀ e, Nonempty (Val e)] {s : Shape} {e : EltTy} (r r' : Rect s) (w : r'.shape.Idx → Val e)
    (L : List (View.Piece Val s e)) (h : Disjoint r'.set r.set) : View.ld (View.canon (⟨r', w⟩ :: L)) r = View.ld (View.canon L) r :=
  funext fun j => View.canon_cons_of_not_mem _ L (Finset.disjoint_right.mp h (r.toLoadRect.idx_mem j))
theorem slot_sep (p q : ℕ) (h : p ≠ q) : (![q, 0, 0] : Fin 3 → Nat) 0 + (![1, 128, 128] : Fin 3 → Nat) 0 ≤ (![p, 0, 0] : Fin 3 → Nat) 0 ∨
    (![p, 0, 0] : Fin 3 → Nat) 0 + (![1, 128, 128] : Fin 3 → Nat) 0 ≤ (![q, 0, 0] : Fin 3 → Nat) 0 := by
  show q + 1 ≤ p ∨ p + 1 ≤ q; omega
theorem slot_disjoint (p q : ℕ) (hp : p < 3) (hq : q < 3) (h : p ≠ q) : Disjoint (slot q hq).set (slot p hp).set := by
  refine Rect.unit_disjoint (0 : Fin 3) ?_
  exact slot_sep p q h

section
variable (v : View sig .tc .vmem S3x128x128 .f32) (p q : ℕ) (hp : p < 3) (hq : q < 3)
  (L : List (View.Piece (Elt F) S3x128x128 .f32))

theorem stOf_here (w : (slot p hp).shape.Idx → Elt F .f32) : stOf p hp (View.canon (Val := Elt F) (⟨slot p hp, w⟩ :: L)) = w := ld_canon_here (Val := Elt F) (slot p hp) w L
theorem stOf_skip (w : (slot q hq).shape.Idx → Elt F .f32) (h : p ≠ q) :
    stOf p hp (View.canon (Val := Elt F) (⟨slot q hq, w⟩ :: L)) = stOf p hp (View.canon (Val := Elt F) L) := by
  have := ld_canon_skip (Val := Elt F) (slot p hp) (slot q hq) w L (slot_disjoint p q hp hq h)
  exact this
theorem stOf_readCov : v.readCov L (slot p hp).toLoadRect = stOf p hp (View.canon L) := View.readCov_eq_canon' v L _
end

/-- The sum of a pair's squares over one head's lanes, along the rows. -/
def meanSq (o : FVec F S128x128 .f32) : FVec F S128x128 .f32 :=
  select lo
    (broadcastTo S128x128 (shapeCast S128x1 (shapeCast S128x1 (multiReduction .add [1] S128
      (select lo (mulf o o) (broadcast S128x128 (Scalar.ofBits .f32 0x00000000#32)) : FVec F S128x128 .f32) 0x00000000#32 reduces_S128x128_S128 (.inl rfl) rfl)
      shapeCasts_S128_S128x1) shapeCasts_S128x1_S128x1) broadcasts_S128x1_S128x128)
    (broadcastTo S128x128 (shapeCast S128x1 (shapeCast S128x1 (multiReduction .add [1] S128
      (select lo (broadcast S128x128 (Scalar.ofBits .f32 0x00000000#32)) (mulf o o) : FVec F S128x128 .f32) 0x00000000#32 reduces_S128x128_S128 (.inl rfl) rfl)
      shapeCasts_S128_S128x1) shapeCasts_S128x1_S128x1) broadcasts_S128x1_S128x128)

/-- The head norm of a pair. -/
def norm (o : FVec F S128x128 .f32) : FVec F S128x128 .f32 :=
  mulf o (rsqrt (addf (mulf (meanSq o) (broadcast S128x128 (Scalar.ofBits .f32 0x3C800000#32))) (broadcast S128x128 (Scalar.ofBits .f32 0x358637BD#32))))

/-- The three pairs side by side, times the gain and the gate. -/
def gate (a b d : FVec F S128x128 .f32) (x3 : Vec F S128x384 .f32) (x5 : Vec F S1x384 .f32) : FVec F S128x384 .bf16 :=
  truncf .bf16 (mulf (mulf (concatenate S128x384 1 [⟨S128x128, norm a⟩, ⟨S128x128, norm b⟩, ⟨S128x128, norm d⟩]
      concatenates_S128x128_S128x128_S128x128_S128x384_d1 : FVec F S128x384 .f32) (broadcastTo S128x384 (k0_pay186 x5) broadcasts_S1x384_S128x384)) (mulf x3 (logistic x3))) bitsLt_bf16_f32

/-- A row of the output. -/
def row (x0 x1 x2 x3 : Vec F S128x384 .f32) (x4 x5 : Vec F S1x384 .f32) (x6 : Vec F S1024x128 .bf16) (s : Vec F S3x128x128 .f32) : FVec F S128x384 .bf16 :=
  gate (mix 0 (by decide) x0 x1 x2 x4 x6 (stOf 0 (by decide) s)) (mix 1 (by decide) x0 x1 x2 x4 x6 (stOf 1 (by decide) s))
    (mix 2 (by decide) x0 x1 x2 x4 x6 (stOf 2 (by decide) s)) x3 x5

theorem hz3 : (![0, 0, 0] : Fin 3 → Nat) = fun _ => 0 := funext fun a => by fin_cases a <;> rfl
theorem hz : (![0, 0] : Fin 2 → Nat) = fun _ => 0 := funext fun a => by fin_cases a <;> rfl

section
variable (v : View sig .tc .vmem S3x128x128 .f32) (w w' : S1x128x128.Idx → F .f32) (z : S3x128x128.Idx → F .f32)
theorem rc0 (h) (h') : v.readCov (Val := Elt F) [⟨Rect.unit ![0, 0, 0] ![3, 128, 128] h, z⟩] (Rect.unit (s := S3x128x128) ![0, 0, 0] ![1, 128, 128] h').toLoadRect
    = stOf 0 (by decide) z := by
  refine (stOf_readCov v 0 (by decide) _).trans ?_
  rw [View.canon_cons_unit_zero (S := S3x128x128) hz3]
theorem rc1 (h) (h') (h'') : v.readCov (Val := Elt F) [⟨Rect.unit ![0, 0, 0] ![1, 128, 128] h'', w⟩, ⟨Rect.unit ![0, 0, 0] ![3, 128, 128] h, z⟩]
    (Rect.unit (s := S3x128x128) ![1, 0, 0] ![1, 128, 128] h').toLoadRect = stOf 1 (by decide) z := by
  refine (stOf_readCov v 1 (by decide) _).trans ((stOf_skip 1 0 (by decide) (by decide) _ _ (by decide)).trans ?_)
  rw [View.canon_cons_unit_zero (S := S3x128x128) hz3]
theorem rc2 (h) (h') (h'') (h3) : v.readCov (Val := Elt F) [⟨Rect.unit ![1, 0, 0] ![1, 128, 128] h3, w'⟩, ⟨Rect.unit ![0, 0, 0] ![1, 128, 128] h'', w⟩,
      ⟨Rect.unit ![0, 0, 0] ![3, 128, 128] h, z⟩]
    (Rect.unit (s := S3x128x128) ![2, 0, 0] ![1, 128, 128] h').toLoadRect = stOf 2 (by decide) z := by
  refine (stOf_readCov v 2 (by decide) _).trans ((stOf_skip 2 1 (by decide) (by decide) _ _ (by decide)).trans
    ((stOf_skip 2 0 (by decide) (by decide) _ _ (by decide)).trans ?_))
  rw [View.canon_cons_unit_zero (S := S3x128x128) hz3]
end
theorem row_B (c : Dev nD) (i : grid0.Coords) (arg2 : Memref sig .tc .vmem S128x384 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1024x128 .bf16) (harg8 : arg8.IsWhole) (arg9 : Memref sig .tc .vmem S128x384 .bf16) (harg9 : arg9.IsWhole) (arg10 : Memref sig .tc .vmem S3x128x128 .f32) (harg10 : arg10.IsWhole) (hc0 : ¬cond0_0 i)
    (x0 x1 x2 x3 : Vec F S128x384 .f32) (x4 x5 : Vec F S1x384 .f32) (x6 : Vec F S1024x128 .bf16) (s : Vec F S3x128x128 .f32) :
    out0_B_7 c i arg2 harg2 arg3 harg3 arg4 harg4 arg5 harg5 arg6 harg6 arg7 harg7 arg8 harg8 arg9 harg9 arg10 harg10 hc0 x0 x1 x2 x3 x4 x5 x6 s =
      row x0 x1 x2 x3 x4 x5 x6 s := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 s)]
  unfold kernelRun0_B
  dsimp only
  rw [View.canon_unit_zero hz]
  sl_unfold_words
  simp only [View.readAt_eq_ld, harg2.read_unread, harg3.read_unread, harg4.read_unread, harg5.read_unread, harg6.read_unread, harg7.read_unread, harg8.read_unread, harg10.read_unread, View.ld_unit_zero (S := S128x384) hz, View.ld_unit_zero (S := S1x384) hz, View.ld_unit_zero (S := S1024x128) hz, shapeCast_self]
  unfold row stOf
  rfl

theorem row_A (c : Dev nD) (i : grid0.Coords) (arg2 : Memref sig .tc .vmem S128x384 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1024x128 .bf16) (harg8 : arg8.IsWhole) (arg9 : Memref sig .tc .vmem S128x384 .bf16) (harg9 : arg9.IsWhole) (arg10 : Memref sig .tc .vmem S3x128x128 .f32) (harg10 : arg10.IsWhole) (hc0 : cond0_0 i)
    (x0 x1 x2 x3 : Vec F S128x384 .f32) (x4 x5 : Vec F S1x384 .f32) (x6 : Vec F S1024x128 .bf16) :
    out0_A_7 c i arg2 harg2 arg3 harg3 arg4 harg4 arg5 harg5 arg6 harg6 arg7 harg7 arg8 harg8 arg9 harg9 arg10 harg10 hc0 x0 x1 x2 x3 x4 x5 x6 =
      row x0 x1 x2 x3 x4 x5 x6 k0_pay2 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  rw [View.canon_unit_zero hz]
  sl_unfold_words
  simp only [View.readAt_eq_ld, harg2.read_unread, harg3.read_unread, harg4.read_unread, harg5.read_unread, harg6.read_unread, harg7.read_unread, harg8.read_unread, harg10.read_unread, View.ld_unit_zero (S := S128x384) hz, View.ld_unit_zero (S := S1x384) hz, View.ld_unit_zero (S := S1024x128) hz, shapeCast_self]
  simp only [rc0, rc1, rc2]
  unfold row
  rfl

theorem state_A (c : Dev nD) (i : grid0.Coords) (arg2 : Memref sig .tc .vmem S128x384 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1024x128 .bf16) (harg8 : arg8.IsWhole) (arg9 : Memref sig .tc .vmem S128x384 .bf16) (harg9 : arg9.IsWhole) (arg10 : Memref sig .tc .vmem S3x128x128 .f32) (harg10 : arg10.IsWhole) (hc0 : cond0_0 i)
    (x0 x1 x2 x3 : Vec F S128x384 .f32) (x4 x5 : Vec F S1x384 .f32) (x6 : Vec F S1024x128 .bf16) :
    ∀ (p : ℕ) (hp : p < 3), stOf p hp (sout0_A_0 c i arg2 harg2 arg3 harg3 arg4 harg4 arg5 harg5 arg6 harg6 arg7 harg7 arg8 harg8 arg9 harg9 arg10 harg10 hc0 x0 x1 x2 x3 x4 x5 x6) =
      upd p hp x1 x2 x4 x6 (stOf p hp k0_pay2) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, View.ld_unit_zero (S := S128x384) hz, View.ld_unit_zero (S := S1x384) hz, View.ld_unit_zero (S := S1024x128) hz, shapeCast_self]
  simp only [rc0, rc1, rc2]
  intro p hp
  obtain rfl | rfl | rfl : p = 0 ∨ p = 1 ∨ p = 2 := by omega
  · exact ((stOf_skip 0 2 hp (by decide) _ _ (by decide)).trans (stOf_skip 0 1 hp (by decide) _ _ (by decide))).trans (stOf_here 0 hp _ _)
  · exact (stOf_skip 1 2 hp (by decide) _ _ (by decide)).trans (stOf_here 1 hp _ _)
  · exact stOf_here 2 hp _ _

theorem state_B (c : Dev nD) (i : grid0.Coords) (arg2 : Memref sig .tc .vmem S128x384 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1024x128 .bf16) (harg8 : arg8.IsWhole) (arg9 : Memref sig .tc .vmem S128x384 .bf16) (harg9 : arg9.IsWhole) (arg10 : Memref sig .tc .vmem S3x128x128 .f32) (harg10 : arg10.IsWhole) (hc0 : ¬cond0_0 i)
    (x0 x1 x2 x3 : Vec F S128x384 .f32) (x4 x5 : Vec F S1x384 .f32) (x6 : Vec F S1024x128 .bf16) (s : Vec F S3x128x128 .f32) :
    ∀ (p : ℕ) (hp : p < 3), stOf p hp (sout0_B_0 c i arg2 harg2 arg3 harg3 arg4 harg4 arg5 harg5 arg6 harg6 arg7 harg7 arg8 harg8 arg9 harg9 arg10 harg10 hc0 x0 x1 x2 x3 x4 x5 x6 s) =
      upd p hp x1 x2 x4 x6 (stOf p hp s) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 s)]
  unfold kernelRun0_B
  dsimp only
  sl_unfold_words
  simp only [View.readAt_eq_ld, harg2.read_unread, harg3.read_unread, harg4.read_unread, harg5.read_unread, harg6.read_unread, harg7.read_unread, harg8.read_unread, harg10.read_unread, View.ld_unit_zero (S := S128x384) hz, View.ld_unit_zero (S := S1x384) hz, View.ld_unit_zero (S := S1024x128) hz, shapeCast_self]
  intro p hp
  obtain rfl | rfl | rfl : p = 0 ∨ p = 1 ∨ p = 2 := by omega
  · exact ((stOf_skip 0 2 hp (by decide) _ _ (by decide)).trans (stOf_skip 0 1 hp (by decide) _ _ (by decide))).trans (stOf_here 0 hp _ _)
  · exact (stOf_skip 1 2 hp (by decide) _ _ (by decide)).trans (stOf_here 1 hp _ _)
  · exact stOf_here 2 hp _ _

end Cert.KernelIdeal.Body

end
-- ==== Proof.Recur.lean ====
/-
  The recurrence as real sequences: one key lane and one value lane of the state, its closed form over a chunk of tokens, and
  the split of a chunk's causal half into the blocks of seven levels.
-/
module

public import Idealize.ShloMosaic.Lib.Pointwise
public import Mathlib.Tactic.Ring
public import Mathlib.Tactic.Linarith

@[expose] public section

noncomputable section
namespace Cert.Recur
open Finset

/-- The state of one key lane and one value lane after `n` tokens: it decays by `exp (lf n)` and gains `kk n * v n`. -/
def run (lf kk v : ℕ → ℝ) (s0 : ℝ) : ℕ → ℝ
  | 0 => s0
  | n + 1 => Real.exp (lf n) * run lf kk v s0 n + kk n * v n

/-- The sum of the first `n` log decays. -/
def cs (lf : ℕ → ℝ) (n : ℕ) : ℝ := ∑ j ∈ range n, lf j

theorem cs_succ (lf : ℕ → ℝ) (n : ℕ) : cs lf (n + 1) = cs lf n + lf n := sum_range_succ _ _

variable (lf kk v : ℕ → ℝ) (s0 : ℝ)

theorem run_add (c n : ℕ) : run lf kk v s0 (c + n) = run (fun i => lf (c + i)) (fun i => kk (c + i)) (fun i => v (c + i)) (run lf kk v s0 c) n := by
  induction n with
  | zero => rfl
  | succ n ih => show run lf kk v s0 (c + n + 1) = _; rw [run, run, ih]

theorem run_congr {lf' kk' v' : ℕ → ℝ} (n : ℕ) (h : ∀ i < n, lf i = lf' i ∧ kk i = kk' i ∧ v i = v' i) :
    run lf kk v s0 n = run lf' kk' v' s0 n := by
  induction n with
  | zero => rfl
  | succ n ih =>
    obtain ⟨h1, h2, h3⟩ := h n n.lt_succ_self
    rw [run, run, ih fun i hi => h i (hi.trans n.lt_succ_self), h1, h2, h3]

/-- After a chunk: the state before it decayed, and each token's gain decayed from there. -/
theorem run_eq (n : ℕ) :
    run lf kk v s0 n = Real.exp (cs lf n) * s0 + ∑ s ∈ range n, kk s * Real.exp (cs lf n - cs lf (s + 1)) * v s := by
  induction n with
  | zero => simp [run, cs]
  | succ n ih =>
    rw [run, ih, sum_range_succ, cs_succ, sub_self, Real.exp_zero, mul_one, mul_add, mul_sum, ← mul_assoc, ← Real.exp_add,
      add_comm (lf n) (cs lf n), ← add_assoc]
    congr 2
    refine sum_congr rfl fun s _ => ?_
    rw [show cs lf n + lf n - cs lf (s + 1) = lf n + (cs lf n - cs lf (s + 1)) by ring, Real.exp_add]
    ring

/-- After token `t` of a chunk of `N`, with the sum over the whole chunk and a causal weight. -/
theorem run_causal {N : ℕ} (t : ℕ) (ht : t < N) :
    run lf kk v s0 (t + 1) = Real.exp (cs lf (t + 1)) * s0
      + ∑ s : Fin N, kk s * (if s.val ≤ t then Real.exp (cs lf (t + 1) - cs lf (s.val + 1)) else 0) * v s := by
  rw [run_eq, ← Finset.sum_range fun s => kk s * (if s ≤ t then Real.exp (cs lf (t + 1) - cs lf (s + 1)) else 0) * v s]
  congr 1
  rw [← sum_subset (s₁ := range (t + 1)) (s₂ := range N) (range_mono ht) (fun s _ hs => by
    rw [if_neg (by simpa using hs)]; ring)]
  exact sum_congr rfl fun s hs => by rw [if_pos (by have := mem_range.mp hs; omega)]

/-! ### Levels -/

/-- Whether `(t, s)` is in the lower left quarter of one diagonal block of level `l`. -/
def inLevel (l t s : ℕ) : Prop :=
  t / (256 / 2 ^ l) = s / (256 / 2 ^ l) ∧ 256 / 2 ^ (l + 1) ≤ t % (256 / 2 ^ l) ∧ ¬ 256 / 2 ^ (l + 1) ≤ s % (256 / 2 ^ l)
instance (l t s : ℕ) : Decidable (inLevel l t s) := by unfold inLevel; infer_instance

/-- The middle of the block of level `l` that holds `t`. -/
def mid (l t : ℕ) : ℕ := t / (256 / 2 ^ l) * (256 / 2 ^ l) + 256 / 2 ^ (l + 1)

theorem level_count : ∀ t s : Fin 128,
    ((if t = s then 1 else 0) + (if inLevel 1 t s then 1 else 0) + (if inLevel 2 t s then 1 else 0) + (if inLevel 3 t s then 1 else 0)
      + (if inLevel 4 t s then 1 else 0) + (if inLevel 5 t s then 1 else 0) + (if inLevel 6 t s then 1 else 0)
      + (if inLevel 7 t s then 1 else 0) : ℕ) = if s ≤ t then 1 else 0 := by decide +kernel

/-- The diagonal and the levels make up the causal half. -/
theorem level_sum (t s : Fin 128) (x : ℝ) :
    (if t = s then x else 0) + (if inLevel 1 t s then x else 0) + (if inLevel 2 t s then x else 0) + (if inLevel 3 t s then x else 0)
      + (if inLevel 4 t s then x else 0) + (if inLevel 5 t s then x else 0) + (if inLevel 6 t s then x else 0)
      + (if inLevel 7 t s then x else 0) = if s ≤ t then x else 0 := by
  have h := level_count t s
  have e : ∀ (p : Prop) [Decidable p], (if p then x else 0) = ((if p then 1 else 0 : ℕ) : ℝ) * x := by intro p _; split <;> simp
  simp only [e, ← add_mul, ← Nat.cast_add]
  rw [h]

/-! ### Real sums among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

end Cert.Recur

end
-- ==== Proof.Gate.lean ====
/-
  The gates of the recurrence over the reals: on real arguments the log decay, the key and the query are real.
-/
module

public import Idealize.ShloMosaic.Lib.Pointwise
public import Mathlib.Tactic.Ring
public import Mathlib.Tactic.Linarith

@[expose] public section

noncomputable section
open Idealize.ShloMosaic
namespace Cert.Gate

/-- The logarithm of the sigmoid. -/
def lsig (x : EReal) : EReal := min x 0 - Ideal.log (1 + Ideal.exp (0 - max x (-x)))
/-- `log (lb + (1 - lb) e^s)`, the larger term taken out. -/
def gateOf (lb s : EReal) : EReal :=
  max (Ideal.log lb) (Ideal.log1p (0 - lb) + s)
    + Ideal.log (1 + Ideal.exp (0 - max (Ideal.log lb - (Ideal.log1p (0 - lb) + s)) (-(Ideal.log lb - (Ideal.log1p (0 - lb) + s)))))

theorem exp_real (r : ℝ) : Ideal.exp ((r : ℝ) : EReal) = ((Real.exp r : ℝ) : EReal) := rfl
theorem log_pos (r : ℝ) (h : 0 < r) : Ideal.log ((r : ℝ) : EReal) = ((Real.log r : ℝ) : EReal) := if_neg (not_le.mpr h)
theorem log_nonpos (r : ℝ) (h : r ≤ 0) : Ideal.log ((r : ℝ) : EReal) = ⊥ := if_pos h
theorem max_real (a b : ℝ) : max (a : EReal) (b : EReal) = ((max a b : ℝ) : EReal) := (EReal.coe_strictMono.monotone.map_max).symm
theorem min_real (a b : ℝ) : min (a : EReal) (b : EReal) = ((min a b : ℝ) : EReal) := (EReal.coe_strictMono.monotone.map_min).symm

/-- `log (1 + e^(-|d|))` of a real `d`. -/
theorem soft_real (d : ℝ) : Ideal.log (1 + Ideal.exp (0 - max (d : EReal) (-(d : EReal)))) = ((Real.log (1 + Real.exp (0 - max d (-d))) : ℝ) : EReal) := by
  rw [← EReal.coe_neg, max_real, ← EReal.coe_zero, ← EReal.coe_sub, exp_real, ← EReal.coe_one, ← EReal.coe_add, log_pos _ (by positivity)]

theorem lsig_real (x : ℝ) : lsig x = ((min x 0 - Real.log (1 + Real.exp (0 - max x (-x))) : ℝ) : EReal) := by
  rw [lsig, soft_real, ← EReal.coe_zero, min_real, ← EReal.coe_sub]

theorem soft_top : Ideal.log (1 + Ideal.exp (0 - (⊤ : EReal))) = 0 := by
  have h : (0 - (⊤ : EReal)) = ⊥ := rfl
  have h2 : Ideal.exp (⊥ : EReal) = 0 := rfl
  rw [h, h2, add_zero, ← EReal.coe_one, log_pos _ one_pos, Real.log_one, EReal.coe_zero]

theorem gate_real (lb s : ℝ) : ∃ r : ℝ, gateOf lb s = (r : EReal) := by
  have e : Ideal.log1p (0 - (lb : EReal)) = Ideal.log ((1 - lb : ℝ) : EReal) := by
    rw [Ideal.log1p, ← EReal.coe_zero, ← EReal.coe_one, ← EReal.coe_sub, ← EReal.coe_add]
    congr 2; ring
  unfold gateOf
  rw [e]
  by_cases h0 : 0 < lb
  · rw [log_pos _ h0]
    by_cases h1 : 0 < 1 - lb
    · rw [log_pos _ h1, ← EReal.coe_add, ← EReal.coe_sub, soft_real, max_real, ← EReal.coe_add]
      exact ⟨_, rfl⟩
    · rw [log_nonpos _ (not_lt.mp h1), EReal.bot_add, EReal.coe_sub_bot, max_eq_left bot_le, max_eq_left le_top, soft_top, add_zero]
      exact ⟨_, rfl⟩
  · rw [log_nonpos _ (not_lt.mp h0), log_pos _ (by linarith), ← EReal.coe_add, EReal.bot_sub, max_eq_right bot_le, EReal.neg_bot, max_eq_right bot_le, soft_top, add_zero]
    exact ⟨_, rfl⟩

/-- The log decay of a real gate. -/
def logDecay (lb x : ℝ) : ℝ := (gateOf lb (lsig x)).toReal
theorem gate_eq (lb x : ℝ) : gateOf lb (lsig x) = ((logDecay lb x : ℝ) : EReal) := by
  obtain ⟨r, h⟩ := gate_real lb (min x 0 - Real.log (1 + Real.exp (0 - max x (-x))))
  rw [← lsig_real] at h
  rw [logDecay, h, EReal.toReal_coe]

/-- The sigmoid. -/
def sig (x : ℝ) : ℝ := 1 * (1 + Real.exp (-x))⁻¹
theorem logistic_real (x : ℝ) : Ideal.logistic x = ((sig x : ℝ) : EReal) := by
  have h : (1 + Real.exp (-x)) ≠ 0 := by positivity
  rw [Ideal.logistic, Ideal.div, ← EReal.coe_neg, exp_real, ← EReal.coe_one, ← EReal.coe_add, if_neg (fun h' => h (EReal.coe_injective (h'.trans EReal.coe_zero.symm))),
    ← EReal.coe_inv, ← EReal.coe_mul]
  rfl

/-- The key of a gate, and the query. -/
def key (lb x : ℝ) : ℝ := (1 - lb) * sig (0 - x)
theorem key_eq (lb x : ℝ) : (1 - (lb : EReal)) * Ideal.logistic (0 - (x : EReal)) = ((key lb x : ℝ) : EReal) := by
  rw [← EReal.coe_zero, ← EReal.coe_one, ← EReal.coe_sub, ← EReal.coe_sub, logistic_real, ← EReal.coe_mul]; rfl
def query (x : ℝ) : ℝ := x * sig x
theorem query_eq (x : ℝ) : (x : EReal) * Ideal.logistic x = ((query x : ℝ) : EReal) := by
  rw [logistic_real, ← EReal.coe_mul]; rfl

end Cert.Gate

end
-- ==== Proof.Spec.lean ====
/-
  What the recurrence puts out, over the reals: each head's state carried along a sequence, read by the query, and the head norm.
-/
module

public import proofs.«01_k».proof.Proof.Recur
public import proofs.«01_k».proof.Proof.Gate

@[expose] public section

noncomputable section
open Idealize.ShloMosaic
namespace Cert.Recur
open Cert.Gate

/-- A head's output at token `t`, column `c`, before the norm, from the state `S` before token 0. -/
def outR (q k lf v S : ℕ → ℕ → ℝ) (t c : ℕ) : ℝ :=
  ∑ i ∈ Finset.range 64, q t (c / 64 * 64 + i) * run (fun s => lf s (c / 64 * 64 + i)) (fun s => k s (c / 64 * 64 + i)) (fun s => v s c) (S (c / 64 * 64 + i) c) (t + 1)

/-- The head norm of a row. -/
def headOut (O : ℕ → ℝ) (c : ℕ) : EReal :=
  (O c : EReal) * Ideal.rsqrt (((∑ i ∈ Finset.range 64, O (c / 64 * 64 + i) * O (c / 64 * 64 + i) : ℝ) : EReal) * Ideal.ofBits .f32 0x3C800000#32 + Ideal.ofBits .f32 0x358637BD#32)

variable (hq hf hi : ℕ → ℕ → ℝ) (lb : ℕ → ℝ)

/-- The state of key column `a` and value column `e` of sequence `b` after `n` tokens. -/
def state (b n a e : ℕ) : ℝ :=
  run (fun s => logDecay (lb a) (hf (8192 * b + s) a)) (fun s => key (lb a) (hf (8192 * b + s) a)) (fun s => hi (8192 * b + s) e) 0 n

/-- Row `r`, column `c` before the norm. -/
def mixed (r c : ℕ) : ℝ :=
  ∑ i ∈ Finset.range 64, query (hq r (c / 64 * 64 + i)) * state hf hi lb (r / 8192) (r % 8192 + 1) (c / 64 * 64 + i) c

/-- The state, `t` tokens after token `o` of its sequence. -/
theorem state_add (b o t a e : ℕ) : state hf hi lb b (o + t) a e = run (fun s => logDecay (lb a) (hf (8192 * b + o + s) a)) (fun s => key (lb a) (hf (8192 * b + o + s) a))
    (fun s => hi (8192 * b + o + s) e) (state hf hi lb b o a e) t := by
  rw [state, run_add]
  simp only [← Nat.add_assoc]
  rfl

/-- A chunk's outputs, from the state before the chunk. -/
theorem out_chunk (b o t r c : ℕ) (h : r = 8192 * b + o + t) (ho : o + t < 8192) :
    outR (fun s c => query (hq (8192 * b + o + s) c)) (fun s c => key (lb c) (hf (8192 * b + o + s) c)) (fun s c => logDecay (lb c) (hf (8192 * b + o + s) c))
      (fun s c => hi (8192 * b + o + s) c) (fun a e => state hf hi lb b o a e) t c = mixed hq hf hi lb r c := by
  subst h
  rw [outR, mixed, show (8192 * b + o + t) / 8192 = b by omega, show (8192 * b + o + t) % 8192 + 1 = o + (t + 1) by omega]
  simp only [state_add]

end Cert.Recur

end
-- ==== Proof.BodyVal.lean ====
/-
  The pieces of one grid point of the recurrence kernel, read at an index over the reals.
-/
module

public import proofs.«01_k».proof.Proof.Body
public import proofs.«01_k».proof.Proof.Spec

@[expose] public section

set_option maxRecDepth 16384
noncomputable section
open Idealize.ShloMosaic Idealize.ShloMosaic.TcCoe Idealize.SL.Sem
namespace Cert.KernelIdeal.Body
open Cert.KernelIdeal Cert.KernelIdeal.Gen Cert.Recur

/-! ### The masks -/

/-- `flMod` of one word. -/
abbrev flModS (x n : BitVec 32) : BitVec 32 :=
  Scalar.select (Scalar.andi (Scalar.xori (Scalar.cmpi .slt (Scalar.remsi x n) 0#32) (Scalar.cmpi .slt n 0#32)) (Scalar.cmpi .ne (Scalar.remsi x n) 0#32))
    (Scalar.addi (Scalar.remsi x n) n) (Scalar.remsi x n)
/-- `flDiv` of one word. -/
abbrev flDivS (x n : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt n 0#32)) (Scalar.extui (Scalar.cmpi .slt n 0#32)))) (Scalar.cmpi .ne (Scalar.remsi x n) 0#32))
    (Scalar.subi (Scalar.divsi x n) 1#32) (Scalar.divsi x n)

theorem flMod_apply {s : Shape} (x : IVec s 32) (n : BitVec 32) (i : s.Idx) : flMod x n i = flModS (x i) n := rfl
theorem flDiv_apply {s : Shape} (x : IVec s 32) (n : BitVec 32) (i : s.Idx) : flDiv x n i = flDivS (x i) n := rfl

theorem upperS : ∀ (l : Fin 7) (t : Fin 128), Scalar.cmpi .sge (flModS (BitVec.ofNat 32 t.val) (bs (l.val + 1))) (bs (l.val + 1 + 1))
    = if 256 / 2 ^ (l.val + 1 + 1) ≤ t.val % (256 / 2 ^ (l.val + 1)) then 1#1 else 0#1 := by decide +kernel
theorem divS : ∀ (l : Fin 7) (t : Fin 128), flDivS (BitVec.ofNat 32 t.val) (bs (l.val + 1)) = BitVec.ofNat 32 (t.val / (256 / 2 ^ (l.val + 1))) := by
  decide +kernel
theorem modS : ∀ r : Fin 256, flModS (BitVec.ofNat 32 r.val) 128#32 = BitVec.ofNat 32 (r.val % 128) := by decide +kernel
theorem headS : ∀ r : Fin 128, flDivS (BitVec.ofNat 32 r.val) 64#32 = BitVec.ofNat 32 (r.val / 64) := by decide +kernel
theorem loS : ∀ r : Fin 128, Scalar.cmpi .slt (BitVec.ofNat 32 r.val) 64#32 = if r.val < 64 then 1#1 else 0#1 := by decide +kernel

theorem eqS (a b : ℕ) (ha : a < 2 ^ 32) (hb : b < 2 ^ 32) : Scalar.cmpi .eq (BitVec.ofNat 32 a) (BitVec.ofNat 32 b) = if a = b then 1#1 else 0#1 := by
  by_cases h : a = b
  · subst h; simp [Scalar.cmpi, IntOp.cmpi]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [Scalar.cmpi, IntOp.cmpi, h, beq_eq_false_iff_ne.mpr this]

theorem iotaRow (t : Fin 128) (c : Fin 384) (h) : iota .tc S128x384 32 [0] h (ix2 t c) = BitVec.ofNat 32 t.val := by pointwise
theorem iotaRow2 (r : Fin 256) (s : Fin 128) (h) : iota .tc S256x128 32 [0] h (ix2 r s) = BitVec.ofNat 32 r.val := by pointwise
theorem iotaCol2 (r : Fin 256) (s : Fin 128) (h) : iota .tc S256x128 32 [1] h (ix2 r s) = BitVec.ofNat 32 s.val := by pointwise
theorem iotaRow1 (t s : Fin 128) (h) : iota .tc S128x128 32 [0] h (ix2 t s) = BitVec.ofNat 32 t.val := by pointwise
theorem iotaCol1 (t s : Fin 128) (h) : iota .tc S128x128 32 [1] h (ix2 t s) = BitVec.ofNat 32 s.val := by pointwise

theorem upper_apply (l : ℕ) (h0 : 0 < l) (hl : l < 8) (t : Fin 128) (c : Fin 384) :
    upper l (ix2 t c) = if 256 / 2 ^ (l + 1) ≤ t.val % (256 / 2 ^ l) then 1#1 else 0#1 := by
  have := upperS ⟨l - 1, by omega⟩ t
  simp only [show l - 1 + 1 = l by omega] at this
  rw [← this, ← iotaRow t c iota_S128x384_d0_w32]; rfl
theorem tRow_apply (r : Fin 256) (s : Fin 128) : tRow (ix2 r s) = BitVec.ofNat 32 (r.val % 128) := by
  rw [← modS r, ← iotaRow2 r s iota_S256x128_d0_w32]; rfl
theorem sCol_apply (r : Fin 256) (s : Fin 128) : sCol (ix2 r s) = BitVec.ofNat 32 s.val := iotaCol2 r s _
theorem same_apply (l : ℕ) (h0 : 0 < l) (hl : l < 8) (r : Fin 256) (s : Fin 128) :
    same l (ix2 r s) = if r.val % 128 / (256 / 2 ^ l) = s.val / (256 / 2 ^ l) then 1#1 else 0#1 := by
  have h1 := divS ⟨l - 1, by omega⟩ ⟨r.val % 128, Nat.mod_lt _ (by decide)⟩
  have h2 := divS ⟨l - 1, by omega⟩ s
  simp only [show l - 1 + 1 = l by omega] at h1 h2
  show Scalar.cmpi .eq (flDivS (tRow (ix2 r s)) (bs l)) (flDivS (sCol (ix2 r s)) (bs l)) = _
  rw [tRow_apply, sCol_apply, h1, h2, eqS _ _ ((Nat.div_le_self _ _).trans_lt (by omega)) ((Nat.div_le_self _ _).trans_lt (by omega))]
theorem diag_apply (r : Fin 256) (s : Fin 128) : cmpi .eq tRow sCol (ix2 r s) = if r.val % 128 = s.val then 1#1 else 0#1 := by
  show Scalar.cmpi .eq (tRow (ix2 r s)) (sCol (ix2 r s)) = _
  rw [tRow_apply, sCol_apply, eqS _ _ (by omega) (by omega)]
theorem lo_apply (t n : Fin 128) : lo (ix2 t n) = if n.val < 64 then 1#1 else 0#1 := by
  rw [← loS n, ← iotaCol1 t n iota_S128x128_d1_w32]; rfl
theorem sameHead_apply (n k : Fin 128) : sameHead (ix2 n k) = if n.val / 64 = k.val / 64 then 1#1 else 0#1 := by
  show Scalar.cmpi .eq (flDivS (iota .tc S128x128 32 [0] iota_S128x128_d0_w32 (ix2 n k)) 64#32) (flDivS (iota .tc S128x128 32 [1] iota_S128x128_d1_w32 (ix2 n k)) 64#32) = _
  rw [iotaRow1, iotaCol1, headS, headS, eqS _ _ (by omega) (by omega)]

/-- A select on a decided bit. -/
theorem sel_ite {α : Type} (p : Prop) [Decidable p] (a b : α) : Scalar.select (if p then 1#1 else 0#1) a b = if p then a else b := by
  split <;> rfl

/-! ### Levels, pairs and products -/

theorem exp_coe (r : ℝ) : Ideal.exp ((r : ℝ) : EReal) = ((Real.exp r : ℝ) : EReal) := rfl
theorem exp_bot : Ideal.exp (⊥ : EReal) = 0 := rfl
theorem ofBits_negInf : Ideal.ofBits .f32 0xFF800000#32 = (⊥ : EReal) := by
  unfold Ideal.ofBits Ideal.ieee; simp

/-- An array that holds real numbers. -/
def Holds {a b : ℕ} (x : (⟨2, ![a, b]⟩ : Shape).Idx → EReal) (f : ℕ → ℕ → ℝ) : Prop :=
  ∀ (i : Fin a) (j : Fin b), x (ix2 i j) = ((f i.val j.val : ℝ) : EReal)

/-! ### The prefix sums -/

/-- How many log decays row `r` of the mask adds up. -/
def lim (r : ℕ) : ℕ := if r < 128 then r + 1 else mid (r / 128) (r % 128)
theorem lim_le : ∀ r : Fin 1024, lim r.val ≤ 128 := by decide +kernel
theorem lim_level (l t : ℕ) (hl : 0 < l) (ht : t < 128) : lim (128 * l + t) = mid l t := by
  unfold lim
  rw [if_neg (by omega), show (128 * l + t) / 128 = l by omega, show (128 * l + t) % 128 = t by omega]
theorem lim_zero (t : ℕ) (ht : t < 128) : lim t = t + 1 := if_pos ht

/-- The mask matrix: row `r` has ones in its first `lim r` columns. -/
def Masks (x6 : Vec Ideal S1024x128 .bf16) : Prop :=
  ∀ (r : Fin 1024) (j : Fin 128), x6 (ix2 r j) = (((if j.val < lim r.val then 1 else 0 : ℝ) : ℝ) : EReal)

theorem sum_lim (f : ℕ → ℝ) (n : ℕ) (hn : n ≤ 128) : ∑ j : Fin 128, (if j.val < n then 1 else 0) * f j.val = cs f n := by
  rw [← Finset.sum_range fun j => (if j < n then 1 else 0) * f j, cs,
    ← Finset.sum_subset (s₁ := Finset.range n) (Finset.range_mono hn) (fun j _ hj => by
      rw [if_neg (by simpa using hj), zero_mul])]
  exact Finset.sum_congr rfl fun j hj => by rw [if_pos (Finset.mem_range.mp hj), one_mul]

section
variable {x6 : Vec Ideal S1024x128 .bf16} (hm : Masks x6) {l : FVec Ideal S128x384 .f32} {lf : ℕ → ℕ → ℝ} (hl : Holds l lf)
  (t : Fin 128) (c : Fin 384)
include hm hl

theorem sums_apply (r : Fin 1024) : k0_pay8 (F := Ideal) l x6 (ix2 r c) = ((cs (fun i => lf i c.val) (lim r.val) : ℝ) : EReal) := by
  pointwise [k0_pay8]
  simp only [hm r, hl _ c, ← EReal.coe_sub, ← EReal.coe_mul, coe_sum, ← EReal.coe_add, sub_self, mul_zero, Finset.sum_const_zero, add_zero]
  rw [sum_lim (fun i => lf i c.val) _ (lim_le r)]

theorem cum_apply : k0_pay9 (F := Ideal) l x6 (ix2 t c) = ((cs (fun i => lf i c.val) (t.val + 1) : ℝ) : EReal) := by
  pointwise [k0_pay9]
  rw [sums_apply hm hl, lim_zero _ t.isLt]

theorem last_apply (z : Fin 1) : k0_pay10 (F := Ideal) l x6 (ix2 z c) = ((cs (fun i => lf i c.val) 128 : ℝ) : EReal) := by
  obtain rfl : z = 0 := Subsingleton.elim _ _
  pointwise [k0_pay10]
  exact cum_apply hm hl ⟨127, by decide⟩ c

theorem ref_apply (n : ℕ) (hn : n < 8) (h0 : 0 < n) : ref (k0_pay8 (F := Ideal) l x6) n hn (ix2 t c) = ((cs (fun i => lf i c.val) (mid n t.val) : ℝ) : EReal) := by
  pointwise [ref]
  rw [sums_apply hm hl, lim_level _ _ h0 t.isLt]

theorem decay_apply (z : Fin 1) : k0_pay13 (F := Ideal) l x6 (ix2 z c) = ((Real.exp (cs (fun i => lf i c.val) 128) : ℝ) : EReal) := by
  pointwise [k0_pay13]
  rw [last_apply hm hl, exp_coe]

variable {x0 : Vec Ideal S128x384 .f32} {q : ℕ → ℕ → ℝ} (hq : Holds (k0_pay6 (F := Ideal) x0) q) {kk : FVec Ideal S128x384 .f32} {k : ℕ → ℕ → ℝ} (hk : Holds kk k)
include hq in
theorem qin_apply : k0_pay11 (F := Ideal) l x0 x6 (ix2 t c) = ((q t.val c.val * Real.exp (cs (fun i => lf i c.val) (t.val + 1)) : ℝ) : EReal) := by
  pointwise [k0_pay11]
  rw [cum_apply hm hl, exp_coe, hq, EReal.coe_mul]
include hk in
theorem kout_apply : k0_pay12 (F := Ideal) l kk x6 (ix2 t c)
    = ((k t.val c.val * Real.exp (cs (fun i => lf i c.val) 128 - cs (fun i => lf i c.val) (t.val + 1)) : ℝ) : EReal) := by
  pointwise [k0_pay12]
  rw [cum_apply hm hl, last_apply hm hl, hk, ← EReal.coe_sub, exp_coe, EReal.coe_mul]
end

/-! ### Levels, pairs and products -/

/-- The rows in the upper half of their block of level `n`. -/
abbrev up (n t : ℕ) : Prop := 256 / 2 ^ (n + 1) ≤ t % (256 / 2 ^ n)

section
variable {x6 : Vec Ideal S1024x128 .bf16} (hm : Masks x6) {l qv kv : FVec Ideal S128x384 .f32} {lf q k : ℕ → ℕ → ℝ} (hl : Holds l lf)
  (hq : Holds qv q) (hk : Holds kv k) (n : ℕ) (hn : n < 8) (h0 : 0 < n)
include hm hl h0

include hq in
theorem lvQ_holds : Holds (lvQ qv (k0_pay9 (F := Ideal) l x6) (k0_pay8 (F := Ideal) l x6) n hn)
    fun t c => q t c * (if up n t then Real.exp (cs (fun i => lf i c) (t + 1) - cs (fun i => lf i c) (mid n t)) else 0) := fun t c => by
  pointwise [lvQ]
  rw [upper_apply n h0 hn, sel_ite, cum_apply hm hl, ref_apply hm hl t c n hn h0, hq, ofBits_negInf, ← EReal.coe_sub]
  split <;> simp only [exp_coe, exp_bot, EReal.coe_mul, EReal.coe_zero]
include hk in
theorem lvK_holds : Holds (lvK kv (k0_pay9 (F := Ideal) l x6) (k0_pay8 (F := Ideal) l x6) n hn)
    fun t c => k t c * (if up n t then 0 else Real.exp (cs (fun i => lf i c) (mid n t) - cs (fun i => lf i c) (t + 1))) := fun t c => by
  pointwise [lvK]
  rw [upper_apply n h0 hn, sel_ite, cum_apply hm hl, ref_apply hm hl t c n hn h0, hk, ofBits_negInf, ← EReal.coe_sub]
  split <;> simp only [exp_coe, exp_bot, EReal.coe_mul, EReal.coe_zero]
end

theorem cols_apply {α : Type} (p : ℕ) (hp : p < 3) (x : S128x384.Idx → α) (t n : Fin 128) : cols p hp x (ix2 t n) = x (ix2 t ⟨128 * p + n.val, by omega⟩) := by
  pointwise [cols]

theorem split_apply (p : ℕ) (hp : p < 3) {x : FVec Ideal S128x384 .bf16} {f : ℕ → ℕ → ℝ} (hx : Holds x f) (r : Fin 256) (j : Fin 128) :
    split p hp x (ix2 r j) = (((if j.val / 64 = r.val / 128 then f (r.val % 128) (128 * p + j.val) else 0 : ℝ) : ℝ) : EReal) := by
  pointwise [split]
  split
  · rename_i h
    rw [lo_apply, sel_ite, cols_apply, hx]
    by_cases hj : j.val < 64
    · refine (if_pos hj).trans (Eq.trans ?_ (congrArg _ (if_pos (by omega)).symm))
      exact congrArg (fun i => ((f i (128 * p + j.val) : ℝ) : EReal)) (Nat.mod_eq_of_lt h).symm
    · refine (if_neg hj).trans (EReal.coe_zero.symm.trans (congrArg Real.toEReal (if_neg (by omega)).symm))
  · rename_i h
    rw [lo_apply, sel_ite, cols_apply, hx]
    have h' : ¬ r.val < 128 := h
    by_cases hj : j.val < 64
    · refine (if_pos hj).trans (EReal.coe_zero.symm.trans (congrArg Real.toEReal (if_neg (by omega)).symm))
    · refine (if_neg hj).trans (Eq.trans ?_ (congrArg _ (if_pos (by omega)).symm))
      exact congrArg (fun i => ((f i (128 * p + j.val) : ℝ) : EReal)) (show r.val - 128 = r.val % 128 by omega)

theorem prod_apply (p : ℕ) (hp : p < 3) {a b : FVec Ideal S128x384 .bf16} {f g : ℕ → ℕ → ℝ} (ha : Holds a f) (hb : Holds b g) (r : Fin 256) (s : Fin 128) :
    prod p hp a b (ix2 r s) = ((∑ j : Fin 128, (if j.val / 64 = r.val / 128 then f (r.val % 128) (128 * p + j.val) * g s.val (128 * p + j.val) else 0) : ℝ) : EReal) := by
  pointwise [prod]
  rw [← coe_sum]
  refine Finset.sum_congr rfl fun j _ => ?_
  rw [split_apply p hp ha, cols_apply, hb, ← EReal.coe_mul, ite_mul, zero_mul]

/-! ### The scores -/

/-- What level `n` adds to a score, per column. -/
def lev (q k lf : ℕ → ℕ → ℝ) (n t s c : ℕ) : ℝ :=
  if n = 0 then (if t = s then q t c * k s c else 0)
  else if inLevel n t s then q t c * k s c * Real.exp (cs (fun i => lf i c) (t + 1) - cs (fun i => lf i c) (s + 1)) else 0

theorem lev_sum (q k lf : ℕ → ℕ → ℝ) (t s : Fin 128) (c : ℕ) : ∑ n ∈ Finset.range 8, lev q k lf n t.val s.val c
    = if s.val ≤ t.val then q t.val c * k s.val c * Real.exp (cs (fun i => lf i c) (t.val + 1) - cs (fun i => lf i c) (s.val + 1)) else 0 := by
  have h := level_sum t s (q t.val c * k s.val c * Real.exp (cs (fun i => lf i c) (t.val + 1) - cs (fun i => lf i c) (s.val + 1)))
  simp only [Fin.le_def] at h
  rw [← h]
  simp only [Finset.sum_range_succ, Finset.sum_range_zero, zero_add, lev, if_true, OfNat.ofNat_ne_zero, if_false, one_ne_zero]
  congr 7
  by_cases e : t = s
  · subst e; simp
  · rw [if_neg e, if_neg fun h => e (Fin.ext h)]

/-- One pair's product at a level, in one block. -/
theorem lev_prod (q k lf : ℕ → ℕ → ℝ) (n t s c : ℕ) (h0 : 0 < n) (h : t / (256 / 2 ^ n) = s / (256 / 2 ^ n)) :
    (q t c * (if up n t then Real.exp (cs (fun i => lf i c) (t + 1) - cs (fun i => lf i c) (mid n t)) else 0))
      * (k s c * (if up n s then 0 else Real.exp (cs (fun i => lf i c) (mid n s) - cs (fun i => lf i c) (s + 1)))) = lev q k lf n t s c := by
  have hmid : mid n s = mid n t := by unfold mid; rw [h]
  have hlev : lev q k lf n t s c = if inLevel n t s then q t c * k s c * Real.exp (cs (fun i => lf i c) (t + 1) - cs (fun i => lf i c) (s + 1)) else 0 :=
    if_neg (by omega)
  rw [hlev]
  by_cases h1 : up n t
  · by_cases h2 : up n s
    · rw [if_pos h2, if_neg (show ¬ inLevel n t s from fun x => x.2.2 h2)]; ring
    · rw [if_pos h1, if_neg h2, if_pos (show inLevel n t s from ⟨h, h1, h2⟩), hmid]
      rw [show cs (fun i => lf i c) (t + 1) - cs (fun i => lf i c) (s + 1) = (cs (fun i => lf i c) (t + 1) - cs (fun i => lf i c) (mid n t))
        + (cs (fun i => lf i c) (mid n t) - cs (fun i => lf i c) (s + 1)) by ring, Real.exp_add]; ring
  · rw [if_neg h1, if_neg (show ¬ inLevel n t s from fun x => h1 x.2.1)]; ring

section
variable {x6 : Vec Ideal S1024x128 .bf16} (hm : Masks x6) {l qv kv : FVec Ideal S128x384 .f32} {lf q k : ℕ → ℕ → ℝ} (hl : Holds l lf)
  (hq : Holds qv q) (hk : Holds kv k) (p : ℕ) (hp : p < 3)
include hm hl hq hk

theorem scores_apply (n : ℕ) (hn : n < 8) (r : Fin 256) (s : Fin 128) :
    scores qv kv (k0_pay9 (F := Ideal) l x6) (k0_pay8 (F := Ideal) l x6) p hp n hn (ix2 r s)
      = ((∑ j : Fin 128, (if j.val / 64 = r.val / 128 then ∑ i ∈ Finset.range (n + 1), lev q k lf i (r.val % 128) s.val (128 * p + j.val) else 0) : ℝ) : EReal) := by
  induction n with
  | zero =>
    have hq' : Holds (truncf .bf16 qv bitsLt_bf16_f32 : FVec Ideal S128x384 .bf16) q := hq
    have hk' : Holds (truncf .bf16 kv bitsLt_bf16_f32 : FVec Ideal S128x384 .bf16) k := hk
    rw [scores]
    show Scalar.select (cmpi .eq tRow sCol (ix2 r s)) (prod p hp _ _ (ix2 r s)) (Ideal.ofBits .f32 0x00000000#32) = _
    rw [diag_apply, sel_ite, prod_apply p hp hq' hk', Ideal.ofBits_zero_f32]
    simp only [zero_add, Finset.sum_range_one, lev, if_true]
    by_cases e : r.val % 128 = s.val
    · rw [if_pos e]; simp only [if_pos e]
    · rw [if_neg e]; simp only [if_neg e, ite_self, Finset.sum_const_zero, EReal.coe_zero]
  | succ n ih =>
    rw [scores]
    show scores qv kv _ _ p hp n _ (ix2 r s) + Scalar.select (same (n + 1) (ix2 r s)) (prod p hp _ _ (ix2 r s)) (Ideal.ofBits .f32 0x00000000#32) = _
    rw [ih, same_apply (n + 1) (Nat.succ_pos n) hn, sel_ite, prod_apply p hp (lvQ_holds hm hl hq (n + 1) hn (Nat.succ_pos n)) (lvK_holds hm hl hk (n + 1) hn (Nat.succ_pos n)),
      Ideal.ofBits_zero_f32]
    have hstep : (if r.val % 128 / (256 / 2 ^ (n + 1)) = s.val / (256 / 2 ^ (n + 1)) then
        ((∑ j : Fin 128, (if j.val / 64 = r.val / 128 then
          (q (r.val % 128) (128 * p + j.val) * (if up (n + 1) (r.val % 128) then Real.exp (cs (fun i => lf i (128 * p + j.val)) (r.val % 128 + 1) - cs (fun i => lf i (128 * p + j.val)) (mid (n + 1) (r.val % 128))) else 0))
          * (k s.val (128 * p + j.val) * (if up (n + 1) s.val then 0 else Real.exp (cs (fun i => lf i (128 * p + j.val)) (mid (n + 1) s.val) - cs (fun i => lf i (128 * p + j.val)) (s.val + 1)))) else 0) : ℝ) : EReal) else 0)
        = ((∑ j : Fin 128, (if j.val / 64 = r.val / 128 then lev q k lf (n + 1) (r.val % 128) s.val (128 * p + j.val) else 0) : ℝ) : EReal) := by
      by_cases e : r.val % 128 / (256 / 2 ^ (n + 1)) = s.val / (256 / 2 ^ (n + 1))
      · rw [if_pos e]; simp only [lev_prod q k lf (n + 1) _ _ _ (Nat.succ_pos n) e]
      · rw [if_neg e]
        have z : ∀ c, lev q k lf (n + 1) (r.val % 128) s.val c = 0 := fun c => by
          rw [lev, if_neg (Nat.succ_ne_zero n), if_neg (fun x => e x.1)]
        simp only [z, ite_self, Finset.sum_const_zero, EReal.coe_zero]
    rw [hstep, ← EReal.coe_add, ← Finset.sum_add_distrib]
    refine congrArg _ (Finset.sum_congr rfl fun j _ => ?_)
    rw [Finset.sum_range_succ _ (n + 1)]
    split <;> simp

/-- The whole score: the causal half, decayed. -/
theorem scores_all (r : Fin 256) (s : Fin 128) : scores qv kv (k0_pay9 (F := Ideal) l x6) (k0_pay8 (F := Ideal) l x6) p hp 7 (by decide) (ix2 r s)
      = ((∑ j : Fin 128, (if j.val / 64 = r.val / 128 then (if s.val ≤ r.val % 128 then q (r.val % 128) (128 * p + j.val) * k s.val (128 * p + j.val)
          * Real.exp (cs (fun i => lf i (128 * p + j.val)) (r.val % 128 + 1) - cs (fun i => lf i (128 * p + j.val)) (s.val + 1)) else 0) else 0) : ℝ) : EReal) := by
  rw [scores_apply hm hl hq hk p hp 7 (by decide)]
  refine congrArg _ (Finset.sum_congr rfl fun j _ => ?_)
  rw [lev_sum q k lf ⟨r.val % 128, Nat.mod_lt _ (by decide)⟩ s]
end

/-! ### A pair of heads -/

/-- A pair's state: keys along the second axis, values along the first, nothing across the heads. -/
def HoldsState (p : ℕ) (st : Vec Ideal S1x128x128 .f32) (S : ℕ → ℕ → ℝ) : Prop :=
  ∀ (z : Fin 1) (n j : Fin 128), st (ix3 z n j) = (((if n.val / 64 = j.val / 64 then S (128 * p + j.val) (128 * p + n.val) else 0 : ℝ) : ℝ) : EReal)

section
variable {x6 : Vec Ideal S1024x128 .bf16} (hm : Masks x6) {x0 x1 x2 : Vec Ideal S128x384 .f32} {x4 : Vec Ideal S1x384 .f32} {q k lf v : ℕ → ℕ → ℝ}
  (hl : Holds (k0_pay4 (F := Ideal) x1 x4) lf) (hq : Holds (k0_pay6 (F := Ideal) x0) q) (hk : Holds (k0_pay5 (F := Ideal) x1 x4) k) (hv : Holds (k0_pay7 (F := Ideal) x2) v)
  (p : ℕ) (hp : p < 3) {st : Vec Ideal S1x128x128 .f32} {S : ℕ → ℕ → ℝ} (hS : HoldsState p st S)
include hm hl hk hv hS

/-- The state after the chunk. -/
theorem upd_holds : HoldsState p (upd p hp x1 x2 x4 x6 st) fun c n => run (fun i => lf i c) (fun i => k i c) (fun i => v i n) (S c n) 128 := fun z n j => by
  pointwise [upd]
  simp only [decay_apply hm hl, hS _ n j, sameHead_apply, sel_ite, cols_apply, kout_apply hm hl _ _ hk, hv _ _, ← EReal.coe_mul, coe_sum]
  by_cases e : n.val / 64 = j.val / 64
  · simp only [if_pos e, ← EReal.coe_add]
    rw [run_eq, Finset.sum_range]
    refine congrArg _ (congrArg₂ _ (mul_comm _ _) (Finset.sum_congr rfl fun i _ => by ring))
  · simp only [if_neg e, zero_mul, EReal.coe_zero, add_zero]

include hq
/-- What the pair puts out. -/
theorem mix_apply (t n : Fin 128) : mix p hp x0 x1 x2 x4 x6 st (ix2 t n) = ((∑ j : Fin 128, (if j.val / 64 = n.val / 64 then
      q t.val (128 * p + j.val) * run (fun i => lf i (128 * p + j.val)) (fun i => k i (128 * p + j.val)) (fun i => v i (128 * p + n.val)) (S (128 * p + j.val) (128 * p + n.val)) (t.val + 1) else 0) : ℝ) : EReal) := by
  pointwise [mix]
  have hs := scores_all hm hl hq hk p hp
  simp only [lo_apply, sel_ite, cols_apply, hv _ _, hs, qin_apply hm hl _ _ hq, hS _ _ _, ← EReal.coe_mul, coe_sum]
  have key : ∀ b : ℕ, b = n.val / 64 → ((∑ s : Fin 128, (∑ j : Fin 128, (if j.val / 64 = b then (if s.val ≤ t.val then q t.val (128 * p + j.val) * k s.val (128 * p + j.val)
          * Real.exp (cs (fun i => lf i (128 * p + j.val)) (t.val + 1) - cs (fun i => lf i (128 * p + j.val)) (s.val + 1)) else 0) else 0)) * v s.val (128 * p + n.val) : ℝ))
      = ∑ j : Fin 128, if j.val / 64 = n.val / 64 then q t.val (128 * p + j.val) * ∑ s : Fin 128, k s.val (128 * p + j.val) * (if s.val ≤ t.val then Real.exp (cs (fun i => lf i (128 * p + j.val)) (t.val + 1) - cs (fun i => lf i (128 * p + j.val)) (s.val + 1)) else 0) * v s.val (128 * p + n.val) else 0 := by
    rintro b rfl
    simp only [Finset.sum_mul]
    rw [Finset.sum_comm]
    refine Finset.sum_congr rfl fun j _ => ?_
    by_cases e : j.val / 64 = n.val / 64
    · simp only [if_pos e, Finset.mul_sum]
      refine Finset.sum_congr rfl fun s _ => ?_
      split <;> ring
    · simp only [if_neg e, zero_mul, Finset.sum_const_zero]
  have fin : ((∑ x : Fin 128, q t.val (128 * p + x.val) * Real.exp (cs (fun i => lf i (128 * p + x.val)) (t.val + 1)) * (if n.val / 64 = x.val / 64 then S (128 * p + x.val) (128 * p + n.val) else 0) : ℝ)
      + ∑ j : Fin 128, if j.val / 64 = n.val / 64 then q t.val (128 * p + j.val) * ∑ s : Fin 128, k s.val (128 * p + j.val) * (if s.val ≤ t.val then Real.exp (cs (fun i => lf i (128 * p + j.val)) (t.val + 1) - cs (fun i => lf i (128 * p + j.val)) (s.val + 1)) else 0) * v s.val (128 * p + n.val) else 0)
      = ∑ j : Fin 128, (if j.val / 64 = n.val / 64 then
      q t.val (128 * p + j.val) * run (fun i => lf i (128 * p + j.val)) (fun i => k i (128 * p + j.val)) (fun i => v i (128 * p + n.val)) (S (128 * p + j.val) (128 * p + n.val)) (t.val + 1) else 0) := by
    rw [← Finset.sum_add_distrib]
    refine Finset.sum_congr rfl fun j _ => ?_
    by_cases e : j.val / 64 = n.val / 64
    · simp only [if_pos e, if_pos e.symm]
      rw [run_causal (N := 128) _ _ _ _ t.val t.isLt]; ring
    · simp only [if_neg e, if_neg (Ne.symm e), mul_zero, add_zero]
  rw [← fin]
  by_cases hn : n.val < 64
  · rw [if_pos hn, ← EReal.coe_add]
    refine congrArg Real.toEReal (congrArg _ ((Finset.sum_congr rfl fun s _ => ?_).trans (key 0 (by omega))))
    simp only [Nat.mod_eq_of_lt t.isLt, Nat.div_eq_of_lt t.isLt]
  · rw [if_neg hn, ← EReal.coe_add]
    refine congrArg Real.toEReal (congrArg _ ((Finset.sum_congr rfl fun s _ => ?_).trans (key 1 (by omega))))
    simp only [show (128 + t.val) % 128 = t.val by omega, show (128 + t.val) / 128 = 1 by omega]
end

/-! ### Heads -/

/-- A sum over one head's lanes of a pair is a sum over the head's 64 columns. -/
theorem sum_head (p n : ℕ) (hn : n < 128) (f : ℕ → ℝ) : (∑ j : Fin 128, if j.val / 64 = n / 64 then f (128 * p + j.val) else 0)
    = ∑ i ∈ Finset.range 64, f ((128 * p + n) / 64 * 64 + i) := by
  rw [← Finset.sum_range fun j => if j / 64 = n / 64 then f (128 * p + j) else 0, show (128 : ℕ) = 64 + 64 from rfl, Finset.sum_range_add]
  by_cases h : n < 64
  · have e : n / 64 = 0 := by omega
    rw [show (∑ x ∈ Finset.range 64, if (64 + x) / 64 = n / 64 then f ((64 + 64) * p + (64 + x)) else 0) = 0 from Finset.sum_eq_zero fun x hx => if_neg (by omega), add_zero]
    refine Finset.sum_congr rfl fun x hx => ?_
    have := Finset.mem_range.mp hx
    rw [if_pos (by omega)]; congr 1; omega
  · rw [show (∑ x ∈ Finset.range 64, if x / 64 = n / 64 then f ((64 + 64) * p + x) else 0) = 0 from
      Finset.sum_eq_zero fun x hx => if_neg (by have := Finset.mem_range.mp hx; omega), zero_add]
    refine Finset.sum_congr rfl fun x hx => ?_
    have := Finset.mem_range.mp hx
    rw [if_pos (by omega)]; congr 1; omega

theorem norm_apply (p : ℕ) {o : FVec Ideal S128x128 .f32} {O : ℕ → ℝ} (t : Fin 128) (ho : ∀ n : Fin 128, o (ix2 t n) = ((O (128 * p + n.val) : ℝ) : EReal)) (n : Fin 128) :
    norm o (ix2 t n) = headOut O (128 * p + n.val) := by
  pointwise [norm, meanSq]
  simp only [lo_apply, sel_ite, ho]
  rw [headOut, ← sum_head p n.val n.isLt fun c => O c * O c, ← coe_sum]
  congr 4
  by_cases hn : n.val < 64
  · rw [if_pos hn]
    refine Finset.sum_congr rfl fun j _ => ?_
    by_cases hj : j.val < 64
    · rw [if_pos hj, if_pos (by omega), EReal.coe_mul]
    · rw [if_neg hj, if_neg (by omega), EReal.coe_zero]
  · rw [if_neg hn]
    refine Finset.sum_congr rfl fun j _ => ?_
    by_cases hj : j.val < 64
    · rw [if_pos hj, if_neg (by omega), EReal.coe_zero]
    · rw [if_neg hj, if_pos (by omega), EReal.coe_mul]

section
variable {x6 : Vec Ideal S1024x128 .bf16} (hm : Masks x6) {x0 x1 x2 x3 : Vec Ideal S128x384 .f32} {x4 x5 : Vec Ideal S1x384 .f32} {q k lf v : ℕ → ℕ → ℝ}
  (hl : Holds (k0_pay4 (F := Ideal) x1 x4) lf) (hq : Holds (k0_pay6 (F := Ideal) x0) q) (hk : Holds (k0_pay5 (F := Ideal) x1 x4) k) (hv : Holds (k0_pay7 (F := Ideal) x2) v)
  {s : Vec Ideal S3x128x128 .f32} {S : ℕ → ℕ → ℝ} (hS : ∀ p hp, HoldsState p (stOf p hp s) S)
include hm hl hk hv hS hq

theorem mix_out (p : ℕ) (hp : p < 3) (t n : Fin 128) : mix p hp x0 x1 x2 x4 x6 (stOf p hp s) (ix2 t n) = ((outR q k lf v S t.val (128 * p + n.val) : ℝ) : EReal) := by
  rw [mix_apply hm hl hq hk hv p hp (hS p hp)]
  exact congrArg _ (sum_head p n.val n.isLt fun c => q t.val c * run (fun i => lf i c) (fun i => k i c) (fun i => v i (128 * p + n.val)) (S c (128 * p + n.val)) (t.val + 1))

/-- A row of the kernel's output. -/
theorem row_apply (t : Fin 128) (c : Fin 384) : row x0 x1 x2 x3 x4 x5 x6 s (ix2 t c)
    = headOut (outR q k lf v S t.val) c.val * x5 (ix2 0 c) * (x3 (ix2 t c) * Ideal.logistic (x3 (ix2 t c))) := by
  pointwise [row, gate, k0_pay186]
  refine congrArg (· * x5 (ix2 0 c) * (x3 (ix2 t c) * Ideal.logistic (x3 (ix2 t c)))) ?_
  have hmix := fun p hp => norm_apply p t (mix_out hm hl hq hk hv hS p hp t)
  split
  · rw [hmix]
    exact congrArg _ (show 128 * 0 + c.val = c.val by omega)
  · rename_i h
    have h' : ¬ c.val < 128 := h
    split
    · rw [hmix]
      exact congrArg _ (show 128 * 1 + (c.val - 128) = c.val by omega)
    · rename_i h2
      have h2' : ¬ c.val - 128 < 128 := h2
      rw [hmix]
      exact congrArg _ (show 128 * 2 + (c.val - 128 - 128) = c.val by omega)
end

theorem zero_holds (p : ℕ) (hp : p < 3) : HoldsState p (stOf p hp (k0_pay2 (F := Ideal))) fun _ _ => 0 := fun z n j => by
  have : (k0_pay2 (F := Ideal)) = fun _ => Ideal.ofBits .f32 0x00000000#32 := rfl
  rw [this, ite_self, EReal.coe_zero, ← Ideal.ofBits_zero_f32]; rfl

/-! ### The gates -/

theorem gate_apply (x1 : Vec Ideal S128x384 .f32) (x4 : Vec Ideal S1x384 .f32) (t : Fin 128) (c : Fin 384) :
    k0_pay4 (F := Ideal) x1 x4 (ix2 t c) = Gate.gateOf (x4 (ix2 0 c)) (Gate.lsig (x1 (ix2 t c))) := by
  pointwise [k0_pay4, k0_pay3]
  rfl
theorem key_apply (x1 : Vec Ideal S128x384 .f32) (x4 : Vec Ideal S1x384 .f32) (t : Fin 128) (c : Fin 384) :
    k0_pay5 (F := Ideal) x1 x4 (ix2 t c) = (1 - x4 (ix2 0 c)) * Ideal.logistic (0 - x1 (ix2 t c)) := by
  pointwise [k0_pay5, k0_pay3]
theorem query_apply (x0 : Vec Ideal S128x384 .f32) (t : Fin 128) (c : Fin 384) :
    k0_pay6 (F := Ideal) x0 (ix2 t c) = x0 (ix2 t c) * Ideal.logistic (x0 (ix2 t c)) := by
  pointwise [k0_pay6]

end Cert.KernelIdeal.Body

end
-- ==== Proof.HostVal.lean ====
/-
  What the host code hands to the recurrence kernel: the mask matrix, the row of lower bounds and the tiled gain.
-/
module

public import proofs.«01_k».proof.Proof.BodyVal
public import Idealize.ShloMosaic.Lib.StableHlo.RunRead
public import Idealize.ShloMosaic.Lib.Claim

@[expose] public section

set_option maxRecDepth 16384
noncomputable section
open Idealize.ShloMosaic Idealize.ShloMosaic.TcCoe Idealize.SL.Sem
namespace Cert.KernelIdeal.Body
open Cert.KernelIdeal Cert.KernelIdeal.Gen Cert.Recur

variable (m : (ℓ : Loc nD τ sig) → Buf (Elt Ideal) ℓ)

theorem V_arg0 (c : Dev nD) : V (F := Ideal) m c main_arg0 = m ((c : Thread nD τ).loc main_arg0) := by
  unfold_abbrev_sides
  after_reads_simp
theorem V_arg1 (c : Dev nD) : V (F := Ideal) m c main_arg1 = m ((c : Thread nD τ).loc main_arg1) := by
  unfold_abbrev_sides
  after_reads_simp
theorem V_arg2 (c : Dev nD) : V (F := Ideal) m c main_arg2 = m ((c : Thread nD τ).loc main_arg2) := by
  unfold_abbrev_sides
  after_reads_simp
theorem V_arg3 (c : Dev nD) : V (F := Ideal) m c main_arg3 = m ((c : Thread nD τ).loc main_arg3) := by
  unfold_abbrev_sides
  after_reads_simp
theorem V_lb (c : Dev nD) : V (F := Ideal) m c main_v73 = shapeCast S1x384 (m ((c : Thread nD τ).loc main_arg4)) shapeCasts_S384_S1x384 := by
  unfold_abbrev_sides
  after_reads_simp
  rfl

/-- The head gain, once per head. -/
def gainRow (x : FVec Ideal S64 .f32) : FVec Ideal S1x384 .f32 :=
  shapeCast S1x384 (shapeCast S384 (broadcastInDim S6x64 ![0, 1] bcast_S1x64_S6x64_0_1 (shapeCast S1x64 x shapeCasts_S64_S1x64)) shapeCasts_S6x64_S384) shapeCasts_S384_S1x384
theorem V_gain (c : Dev nD) : V (F := Ideal) m c main_v77 = gainRow (m ((c : Thread nD τ).loc main_arg5)) := by
  unfold_abbrev_sides
  after_reads_simp
  rfl

/-! ### The mask -/

def colIx : IVec S1x128 32 := broadcastInDim S1x128 ![1] bcast_S128_S1x128_1 (iotaInDim S128 32 0)
def rowIx : IVec S128x1 32 := broadcastInDim S128x1 ![0] bcast_S128_S128x1_0 (iotaInDim S128 32 0)
def splat (b : BitVec 32) : IVec S128x1 32 := broadcastInDim S128x1 ![] bcast_S_S128x1 (constantI S_ 32 b)
/-- The causal block. -/
def causal : IVec S128x128 1 := cmpi .sle (broadcastInDim S128x128 ![0, 1] bcast_S1x128_S128x128_0_1 colIx) (broadcastInDim S128x128 ![0, 1] bcast_S128x1_S128x128_0_1 rowIx)
/-- The block of level `l`. -/
def level (l : ℕ) : IVec S128x128 1 := cmpi .slt (broadcastInDim S128x128 ![0, 1] bcast_S1x128_S128x128_0_1 colIx)
  (broadcastInDim S128x128 ![0, 1] bcast_S128x1_S128x128_0_1 (addi (muli (Host.divsi rowIx (splat (bs l))) (splat (bs l))) (splat (bs (l + 1)))))
/-- Eight blocks, one above the other, as numbers. -/
def stacked (a b d e f g h i : IVec S128x128 1) : FVec Ideal S1024x128 .bf16 := truncf .bf16 (uitofp .f32 (concatenate S1024x128 0 [⟨S128x128, a⟩, ⟨S128x128, b⟩, ⟨S128x128, d⟩, ⟨S128x128, e⟩,
    ⟨S128x128, f⟩, ⟨S128x128, g⟩, ⟨S128x128, h⟩, ⟨S128x128, i⟩] concatenates_S128x128_S128x128_S128x128_S128x128_S128x128_S128x128_S128x128_S128x128_S1024x128_d0) : FVec Ideal S1024x128 .f32) bitsLt_bf16_f32
/-- The mask matrix: the causal block over the seven levels. -/
def maskMat : FVec Ideal S1024x128 .bf16 := stacked causal (level 1) (level 2) (level 3) (level 4) (level 5) (level 6) (level 7)

theorem read_0 (c : Dev nD) : StableHlo.upto hostOps0 (fun b => m (c, b)) 91 (Proc.devRef .tc main_v6) = causal := by
  after_reads_simp
  rfl
theorem read_1 (c : Dev nD) : StableHlo.upto hostOps0 (fun b => m (c, b)) 91 (Proc.devRef .tc main_v15) = level 1 := by
  after_reads_simp
  rfl
theorem read_2 (c : Dev nD) : StableHlo.upto hostOps0 (fun b => m (c, b)) 91 (Proc.devRef .tc main_v24) = level 2 := by
  after_reads_simp
  rfl
theorem read_3 (c : Dev nD) : StableHlo.upto hostOps0 (fun b => m (c, b)) 91 (Proc.devRef .tc main_v33) = level 3 := by
  after_reads_simp
  rfl
theorem read_4 (c : Dev nD) : StableHlo.upto hostOps0 (fun b => m (c, b)) 91 (Proc.devRef .tc main_v42) = level 4 := by
  after_reads_simp
  rfl
theorem read_5 (c : Dev nD) : StableHlo.upto hostOps0 (fun b => m (c, b)) 91 (Proc.devRef .tc main_v51) = level 5 := by
  after_reads_simp
  rfl
theorem read_6 (c : Dev nD) : StableHlo.upto hostOps0 (fun b => m (c, b)) 91 (Proc.devRef .tc main_v60) = level 6 := by
  after_reads_simp
  rfl
theorem read_7 (c : Dev nD) : StableHlo.upto hostOps0 (fun b => m (c, b)) 91 (Proc.devRef .tc main_v69) = level 7 := by
  after_reads_simp
  rfl

theorem V_mask (c : Dev nD) : V (F := Ideal) m c main_v72 = maskMat := by
  unfold_abbrev_sides
  after_reads_simp
  refine Eq.trans (show _ = stacked (StableHlo.upto hostOps0 (fun b => m (c, b)) 91 (Proc.devRef .tc main_v6)) (StableHlo.upto hostOps0 (fun b => m (c, b)) 91 (Proc.devRef .tc main_v15))
    (StableHlo.upto hostOps0 (fun b => m (c, b)) 91 (Proc.devRef .tc main_v24)) (StableHlo.upto hostOps0 (fun b => m (c, b)) 91 (Proc.devRef .tc main_v33))
    (StableHlo.upto hostOps0 (fun b => m (c, b)) 91 (Proc.devRef .tc main_v42)) (StableHlo.upto hostOps0 (fun b => m (c, b)) 91 (Proc.devRef .tc main_v51))
    (StableHlo.upto hostOps0 (fun b => m (c, b)) 91 (Proc.devRef .tc main_v60)) (StableHlo.upto hostOps0 (fun b => m (c, b)) 91 (Proc.devRef .tc main_v69)) from rfl) ?_
  rw [read_0, read_1, read_2, read_3, read_4, read_5, read_6, read_7]
  rfl

theorem midS : ∀ (l : Fin 7) (t : Fin 128), IntOp.addi (IntOp.muli (IntOp.divsi .host (BitVec.ofNat 32 t.val) (bs (l.val + 1))) (bs (l.val + 1))) (bs (l.val + 1 + 1))
    = BitVec.ofNat 32 (mid (l.val + 1) t.val) := by decide +kernel
theorem ltS : ∀ (j : Fin 128) (n : Fin 129), Scalar.cmpi .slt (BitVec.ofNat 32 j.val) (BitVec.ofNat 32 n.val) = if j.val < n.val then 1#1 else 0#1 := by decide +kernel
theorem leS : ∀ (j t : Fin 128), Scalar.cmpi .sle (BitVec.ofNat 32 j.val) (BitVec.ofNat 32 t.val) = if j.val < t.val + 1 then 1#1 else 0#1 := by decide +kernel

theorem mid_le : ∀ (l : Fin 7) (t : Fin 128), mid (l.val + 1) t.val < 129 := by decide +kernel

theorem causal_apply (t j : Fin 128) : causal (ix2 t j) = if j.val < lim t.val then 1#1 else 0#1 := by
  rw [lim_zero _ t.isLt, ← leS j t]
  pointwise [causal, colIx, rowIx]
  rfl
theorem level_apply (l : ℕ) (h0 : 0 < l) (hl : l < 8) (t j : Fin 128) : level l (ix2 t j) = if j.val < lim (128 * l + t.val) then 1#1 else 0#1 := by
  have h1 := midS ⟨l - 1, by omega⟩ t
  have h2 := mid_le ⟨l - 1, by omega⟩ t
  simp only [show l - 1 + 1 = l by omega] at h1 h2
  pointwise [level, colIx, rowIx, splat]
  rw [h1, lim_level _ _ h0 t.isLt]
  exact ltS j ⟨_, h2⟩
theorem bit_val (p : Prop) [Decidable p] : FloatOps.uitofp (F := Ideal) .f32 (if p then 1#1 else 0#1) = (((if p then 1 else 0 : ℝ) : ℝ) : EReal) := by
  split
  · show (((1#1 : BitVec 1).toNat : ℝ) : EReal) = _
    norm_num
  · show (((0#1 : BitVec 1).toNat : ℝ) : EReal) = _
    norm_num
theorem mask_holds : Masks maskMat := fun r j => by
  rw [← bit_val]
  pointwise [maskMat, stacked]
  refine congrArg _ ?_
  have key : ∀ l, 0 < l → l < 8 → ∀ t : Fin 128, 128 * l + t.val = r.val → level l (ix2 t j) = if j.val < lim r.val then 1#1 else 0#1 :=
    fun l h0 hl t e => by rw [level_apply l h0 hl t j, e]
  have hr := r.isLt
  split
  · exact causal_apply _ j
  rename_i h1
  replace h1 : ¬ r.val < 128 := h1
  split
  · rename_i h
    replace h : r.val - 128 < 128 := h
    exact key 1 (by decide) (by decide) _ (show 128 * 1 + (r.val - 128) = r.val by omega)
  rename_i h2
  replace h2 : ¬ r.val - 128 < 128 := h2
  split
  · rename_i h
    replace h : r.val - 128 - 128 < 128 := h
    exact key 2 (by decide) (by decide) _ (show 128 * 2 + (r.val - 128 - 128) = r.val by omega)
  rename_i h3
  replace h3 : ¬ r.val - 128 - 128 < 128 := h3
  split
  · rename_i h
    replace h : r.val - 128 - 128 - 128 < 128 := h
    exact key 3 (by decide) (by decide) _ (show 128 * 3 + (r.val - 128 - 128 - 128) = r.val by omega)
  rename_i h4
  replace h4 : ¬ r.val - 128 - 128 - 128 < 128 := h4
  split
  · rename_i h
    replace h : r.val - 128 - 128 - 128 - 128 < 128 := h
    exact key 4 (by decide) (by decide) _ (show 128 * 4 + (r.val - 128 - 128 - 128 - 128) = r.val by omega)
  rename_i h5
  replace h5 : ¬ r.val - 128 - 128 - 128 - 128 < 128 := h5
  split
  · rename_i h
    replace h : r.val - 128 - 128 - 128 - 128 - 128 < 128 := h
    exact key 5 (by decide) (by decide) _ (show 128 * 5 + (r.val - 128 - 128 - 128 - 128 - 128) = r.val by omega)
  rename_i h6
  replace h6 : ¬ r.val - 128 - 128 - 128 - 128 - 128 < 128 := h6
  split
  · rename_i h
    replace h : r.val - 128 - 128 - 128 - 128 - 128 - 128 < 128 := h
    exact key 6 (by decide) (by decide) _ (show 128 * 6 + (r.val - 128 - 128 - 128 - 128 - 128 - 128) = r.val by omega)
  rename_i h7
  replace h7 : ¬ r.val - 128 - 128 - 128 - 128 - 128 - 128 < 128 := h7
  exact key 7 (by decide) (by decide) _ (show 128 * 7 + (r.val - 128 - 128 - 128 - 128 - 128 - 128 - 128) = r.val by omega)

end Cert.KernelIdeal.Body

end
-- ==== Proof.KernelVal.lean ====
/-
  The recurrence kernel's array: by induction over the grid points, the carried state is the state of the sequence after the chunk,
  and each block of the result is the head norm of what the queries read from it.
-/
module

public import proofs.«01_k».proof.Proof.HostVal

@[expose] public section

set_option maxRecDepth 16384
noncomputable section
open Idealize.ShloMosaic Idealize.ShloMosaic.TcCoe Idealize.SL.Sem
namespace Cert.KernelIdeal.Body
open Cert.KernelIdeal Cert.KernelIdeal.Gen Cert.KernelIdeal.Value Cert.Recur

variable (m : (ℓ : Loc nD τ sig) → Buf (Elt Ideal) ℓ)

/-! ### The input blocks -/

/-- Row `i` of point `t`'s block. -/
def rowOf (t : Fin cfg0.N) (i : Fin 128) : Fin 32768 := ⟨128 * t.val + i.val, by
  have h := lt_of_lt_of_eq t.isLt (show cfg0.N = 256 from N_0); have := i.isLt; omega⟩

theorem idx_in0 : ∀ t : Fin cfg0.N, win0_0.index t 0 = t.val ∧ win0_0.index t 1 = 0 :=
  (by decide +kernel : ∀ t : Fin grid0.N, win0_0.index t 0 = t.val ∧ win0_0.index t 1 = 0)
theorem blk_in0 (c : Dev nD) (t : Fin cfg0.N) (i : Fin 128) (j : Fin 384) :
    (iblk m c 0 t : Vec Ideal S128x384 .f32) (ix2 i j) = (m ((c : Thread nD τ).loc main_arg0) : Vec Ideal S32768x384 .f32) (ix2 (rowOf t i) j) := by
  unfold iblk
  rw [View.read_apply]
  show V m c main_arg0 _ = _
  rw [V_arg0]
  refine congrArg _ (funext fun a => Fin.ext ?_)
  match a with
  | ⟨0, _⟩ => show win0_0.index t 0 * 128 + 1 * i.val = 128 * t.val + i.val; rw [(idx_in0 t).1]; omega
  | ⟨1, _⟩ => show win0_0.index t 1 * 384 + 1 * j.val = j.val; rw [(idx_in0 t).2]; omega
theorem idx_in1 : ∀ t : Fin cfg0.N, win0_1.index t 0 = t.val ∧ win0_1.index t 1 = 0 :=
  (by decide +kernel : ∀ t : Fin grid0.N, win0_1.index t 0 = t.val ∧ win0_1.index t 1 = 0)
theorem blk_in1 (c : Dev nD) (t : Fin cfg0.N) (i : Fin 128) (j : Fin 384) :
    (iblk m c 1 t : Vec Ideal S128x384 .f32) (ix2 i j) = (m ((c : Thread nD τ).loc main_arg1) : Vec Ideal S32768x384 .f32) (ix2 (rowOf t i) j) := by
  unfold iblk
  rw [View.read_apply]
  show V m c main_arg1 _ = _
  rw [V_arg1]
  refine congrArg _ (funext fun a => Fin.ext ?_)
  match a with
  | ⟨0, _⟩ => show win0_1.index t 0 * 128 + 1 * i.val = 128 * t.val + i.val; rw [(idx_in1 t).1]; omega
  | ⟨1, _⟩ => show win0_1.index t 1 * 384 + 1 * j.val = j.val; rw [(idx_in1 t).2]; omega
theorem idx_in2 : ∀ t : Fin cfg0.N, win0_2.index t 0 = t.val ∧ win0_2.index t 1 = 0 :=
  (by decide +kernel : ∀ t : Fin grid0.N, win0_2.index t 0 = t.val ∧ win0_2.index t 1 = 0)
theorem blk_in2 (c : Dev nD) (t : Fin cfg0.N) (i : Fin 128) (j : Fin 384) :
    (iblk m c 2 t : Vec Ideal S128x384 .f32) (ix2 i j) = (m ((c : Thread nD τ).loc main_arg2) : Vec Ideal S32768x384 .f32) (ix2 (rowOf t i) j) := by
  unfold iblk
  rw [View.read_apply]
  show V m c main_arg2 _ = _
  rw [V_arg2]
  refine congrArg _ (funext fun a => Fin.ext ?_)
  match a with
  | ⟨0, _⟩ => show win0_2.index t 0 * 128 + 1 * i.val = 128 * t.val + i.val; rw [(idx_in2 t).1]; omega
  | ⟨1, _⟩ => show win0_2.index t 1 * 384 + 1 * j.val = j.val; rw [(idx_in2 t).2]; omega
theorem idx_in3 : ∀ t : Fin cfg0.N, win0_3.index t 0 = t.val ∧ win0_3.index t 1 = 0 :=
  (by decide +kernel : ∀ t : Fin grid0.N, win0_3.index t 0 = t.val ∧ win0_3.index t 1 = 0)
theorem blk_in3 (c : Dev nD) (t : Fin cfg0.N) (i : Fin 128) (j : Fin 384) :
    (iblk m c 3 t : Vec Ideal S128x384 .f32) (ix2 i j) = (m ((c : Thread nD τ).loc main_arg3) : Vec Ideal S32768x384 .f32) (ix2 (rowOf t i) j) := by
  unfold iblk
  rw [View.read_apply]
  show V m c main_arg3 _ = _
  rw [V_arg3]
  refine congrArg _ (funext fun a => Fin.ext ?_)
  match a with
  | ⟨0, _⟩ => show win0_3.index t 0 * 128 + 1 * i.val = 128 * t.val + i.val; rw [(idx_in3 t).1]; omega
  | ⟨1, _⟩ => show win0_3.index t 1 * 384 + 1 * j.val = j.val; rw [(idx_in3 t).2]; omega
theorem idx_in4 : ∀ t : Fin cfg0.N, win0_4.index t 0 = 0 ∧ win0_4.index t 1 = 0 :=
  (by decide +kernel : ∀ t : Fin grid0.N, win0_4.index t 0 = 0 ∧ win0_4.index t 1 = 0)
theorem blk_in4 (c : Dev nD) (t : Fin cfg0.N) : (iblk m c 4 t : Vec Ideal S1x384 .f32) = V (F := Ideal) m c main_v73 := by
  funext y
  unfold iblk
  rw [View.read_apply]
  show V m c main_v73 _ = _
  refine congrArg _ (funext fun a => Fin.ext ?_)
  match a with
  | ⟨0, _⟩ => show win0_4.index t 0 * 1 + 1 * (y 0).val = (y 0).val; rw [(idx_in4 t).1]; omega
  | ⟨1, _⟩ => show win0_4.index t 1 * 384 + 1 * (y 1).val = (y 1).val; rw [(idx_in4 t).2]; omega
theorem idx_in5 : ∀ t : Fin cfg0.N, win0_5.index t 0 = 0 ∧ win0_5.index t 1 = 0 :=
  (by decide +kernel : ∀ t : Fin grid0.N, win0_5.index t 0 = 0 ∧ win0_5.index t 1 = 0)
theorem blk_in5 (c : Dev nD) (t : Fin cfg0.N) : (iblk m c 5 t : Vec Ideal S1x384 .f32) = V (F := Ideal) m c main_v77 := by
  funext y
  unfold iblk
  rw [View.read_apply]
  show V m c main_v77 _ = _
  refine congrArg _ (funext fun a => Fin.ext ?_)
  match a with
  | ⟨0, _⟩ => show win0_5.index t 0 * 1 + 1 * (y 0).val = (y 0).val; rw [(idx_in5 t).1]; omega
  | ⟨1, _⟩ => show win0_5.index t 1 * 384 + 1 * (y 1).val = (y 1).val; rw [(idx_in5 t).2]; omega
theorem idx_in6 : ∀ t : Fin cfg0.N, win0_6.index t 0 = 0 ∧ win0_6.index t 1 = 0 :=
  (by decide +kernel : ∀ t : Fin grid0.N, win0_6.index t 0 = 0 ∧ win0_6.index t 1 = 0)
theorem blk_in6 (c : Dev nD) (t : Fin cfg0.N) : (iblk m c 6 t : Vec Ideal S1024x128 .bf16) = V (F := Ideal) m c main_v72 := by
  funext y
  unfold iblk
  rw [View.read_apply]
  show V m c main_v72 _ = _
  refine congrArg _ (funext fun a => Fin.ext ?_)
  match a with
  | ⟨0, _⟩ => show win0_6.index t 0 * 1024 + 1 * (y 0).val = (y 0).val; rw [(idx_in6 t).1]; omega
  | ⟨1, _⟩ => show win0_6.index t 1 * 128 + 1 * (y 1).val = (y 1).val; rw [(idx_in6 t).2]; omega

theorem lb_apply (x : FVec Ideal S384 .f32) (j : Fin 384) : (shapeCast S1x384 x shapeCasts_S384_S1x384) (ix2 0 j) = x (ix1 j) := by
  pointwise
theorem gain_apply (x : FVec Ideal S64 .f32) (j : Fin 384) : gainRow x (ix2 0 j) = x (ix1 ⟨j.val % 64, Nat.mod_lt _ (by decide)⟩) := by
  pointwise [gainRow]

/-! ### The induction -/

/-- The arguments are real. -/
structure Reals (c : Dev nD) (hq hf hi : ℕ → ℕ → ℝ) (lb : ℕ → ℝ) : Prop where
  hq : Holds (m ((c : Thread nD τ).loc main_arg0) : Vec Ideal S32768x384 .f32) hq
  hf : Holds (m ((c : Thread nD τ).loc main_arg1) : Vec Ideal S32768x384 .f32) hf
  hi : Holds (m ((c : Thread nD τ).loc main_arg2) : Vec Ideal S32768x384 .f32) hi
  lb : ∀ j : Fin 384, (m ((c : Thread nD τ).loc main_arg4) : Vec Ideal S384 .f32) (ix1 j) = ((lb j.val : ℝ) : EReal)

/-- The output gate and the norm's gain at an entry. -/
def outGate (c : Dev nD) (r : Fin 32768) (j : Fin 384) : EReal := (m ((c : Thread nD τ).loc main_arg3) : Vec Ideal S32768x384 .f32) (ix2 r j)
def gainAt (c : Dev nD) (j : Fin 384) : EReal := (m ((c : Thread nD τ).loc main_arg5) : Vec Ideal S64 .f32) (ix1 ⟨j.val % 64, Nat.mod_lt _ (by decide)⟩)

/-- What the kernel's result holds at row `r`, column `j`. -/
def resultAt (c : Dev nD) (hq hf hi : ℕ → ℕ → ℝ) (lb : ℕ → ℝ) (r : Fin 32768) (j : Fin 384) : EReal :=
  headOut (mixed hq hf hi lb r.val) j.val * gainAt m c j
    * (outGate m c r j * Ideal.logistic (outGate m c r j))

section
variable {m} {c : Dev nD} {hq hf hi : ℕ → ℕ → ℝ} {lb : ℕ → ℝ} (R : Reals m c hq hf hi lb) (t : Fin cfg0.N)
include R

theorem base_eq (i : ℕ) : 128 * t.val + i = 8192 * (t.val / 64) + 128 * (t.val % 64) + i := by omega

theorem blk_lf : Holds (k0_pay4 (F := Ideal) (iblk m c 1 t) (iblk m c 4 t)) fun s a => Gate.logDecay (lb a) (hf (8192 * (t.val / 64) + 128 * (t.val % 64) + s) a) := fun i j => by
  rw [gate_apply, blk_in1, blk_in4, V_lb, lb_apply, R.lb, R.hf, Gate.gate_eq, rowOf]
  beta_reduce
  rw [← base_eq R t]
theorem blk_k : Holds (k0_pay5 (F := Ideal) (iblk m c 1 t) (iblk m c 4 t)) fun s a => Gate.key (lb a) (hf (8192 * (t.val / 64) + 128 * (t.val % 64) + s) a) := fun i j => by
  rw [key_apply, blk_in1, blk_in4, V_lb, lb_apply, R.lb, R.hf, Gate.key_eq, rowOf]
  beta_reduce
  rw [← base_eq R t]
theorem blk_q : Holds (k0_pay6 (F := Ideal) (iblk m c 0 t)) fun s a => Gate.query (hq (8192 * (t.val / 64) + 128 * (t.val % 64) + s) a) := fun i j => by
  rw [query_apply, blk_in0, R.hq, Gate.query_eq, rowOf]
  beta_reduce
  rw [← base_eq R t]
theorem blk_v : Holds (k0_pay7 (F := Ideal) (iblk m c 2 t)) fun s a => hi (8192 * (t.val / 64) + 128 * (t.val % 64) + s) a := fun i j => by
  show (iblk m c 2 t : Vec Ideal S128x384 .f32) (ix2 i j) = _
  rw [blk_in2, R.hi, rowOf]
  beta_reduce
  rw [← base_eq R t]
theorem blk_mask : Masks (iblk m c 6 t) := by rw [blk_in6, V_mask]; exact mask_holds

/-- The state after a chunk, from the state before it. -/
theorem step_state (p : ℕ) (hp : p < 3) (st : Vec Ideal S1x128x128 .f32) (h : HoldsState p st fun a e => state hf hi lb (t.val / 64) (128 * (t.val % 64)) a e) :
    HoldsState p (upd p hp (iblk m c 1 t) (iblk m c 2 t) (iblk m c 4 t) (iblk m c 6 t) st) fun a e => state hf hi lb (t.val / 64) (128 * (t.val % 64) + 128) a e := by
  have := upd_holds (blk_mask R t) (blk_lf R t) (blk_k R t) (blk_v R t) p hp h
  simp only [state_add]
  exact this

/-- A chunk's rows, from the state before it. -/
theorem step_row (s : Vec Ideal S3x128x128 .f32) (h : ∀ p hp, HoldsState p (stOf p hp s) fun a e => state hf hi lb (t.val / 64) (128 * (t.val % 64)) a e) (i : Fin 128) (j : Fin 384) :
    row (F := Ideal) (iblk m c 0 t) (iblk m c 1 t) (iblk m c 2 t) (iblk m c 3 t) (iblk m c 4 t) (iblk m c 5 t) (iblk m c 6 t) s (ix2 i j) = resultAt m c hq hf hi lb (rowOf t i) j := by
  rw [row_apply (blk_mask R t) (blk_lf R t) (blk_q R t) (blk_k R t) (blk_v R t) h, blk_in5, V_gain, gain_apply, blk_in3, resultAt, outGate, gainAt]
  have : outR (fun s a => Gate.query (hq (8192 * (t.val / 64) + 128 * (t.val % 64) + s) a)) (fun s a => Gate.key (lb a) (hf (8192 * (t.val / 64) + 128 * (t.val % 64) + s) a))
      (fun s a => Gate.logDecay (lb a) (hf (8192 * (t.val / 64) + 128 * (t.val % 64) + s) a)) (fun s a => hi (8192 * (t.val / 64) + 128 * (t.val % 64) + s) a)
      (fun a e => state hf hi lb (t.val / 64) (128 * (t.val % 64)) a e) i.val = mixed hq hf hi lb (rowOf t i).val :=
    funext fun c => out_chunk hq hf hi lb (t.val / 64) (128 * (t.val % 64)) i.val _ c (base_eq R t i.val) (by have := i.isLt; omega)
  rw [this]

/-- One point, over what the point before left. -/
theorem step_at (acc : Vec Ideal S128x384 .bf16 × Vec Ideal S3x128x128 .f32)
    (h : ¬ t.val % 64 = 0 → ∀ p hp, HoldsState p (stOf p hp acc.2) fun a e => state hf hi lb (t.val / 64) (128 * (t.val % 64)) a e) :
    (∀ p hp, HoldsState p (stOf p hp (stAt0 (F := Ideal) m c t.val t.isLt acc).2) fun a e => state hf hi lb (t.val / 64) (128 * (t.val % 64) + 128) a e)
      ∧ ∀ (i : Fin 128) (j : Fin 384), (stAt0 (F := Ideal) m c t.val t.isLt acc).1 (ix2 i j) = resultAt m c hq hf hi lb (rowOf t i) j := by
  by_cases h0 : t.val % 64 = 0
  · have z : ∀ p hp, HoldsState p (stOf p hp (k0_pay2 (F := Ideal))) fun a e => state hf hi lb (t.val / 64) (128 * (t.val % 64)) a e := by
      rw [h0]; exact zero_holds
    rw [stAt0_A m c t acc h0]
    refine ⟨fun p hp => ?_, fun i j => ?_⟩
    · dsimp only
      rw [state_A]
      exact step_state R t p hp _ (z p hp)
    · dsimp only
      rw [row_A]
      exact step_row R t _ z i j
  · rw [stAt0_B m c t acc h0]
    refine ⟨fun p hp => ?_, fun i j => ?_⟩
    · dsimp only
      rw [state_B]
      exact step_state R t p hp _ (h h0 p hp)
    · dsimp only
      rw [row_B]
      exact step_row R t _ (h h0) i j

theorem at_point (n : ℕ) (hn : n < cfg0.N) :
    (∀ p hp, HoldsState p (stOf p hp (outsAt0 (F := Ideal) m c n hn).2) fun a e => state hf hi lb (n / 64) (128 * (n % 64) + 128) a e)
      ∧ ∀ (i : Fin 128) (j : Fin 384), (outsAt0 (F := Ideal) m c n hn).1 (ix2 i j) = resultAt m c hq hf hi lb (rowOf ⟨n, hn⟩ i) j := by
  induction n with
  | zero =>
    rw [outsAt0_zero]
    exact step_at R ⟨0, hn⟩ _ fun h => absurd (Nat.zero_mod 64) h
  | succ n ih =>
    rw [outsAt0_succ]
    refine step_at R ⟨n + 1, hn⟩ _ fun h p hp => ?_
    have := (ih (Nat.lt_of_succ_lt hn)).1 p hp
    have h' : ¬ (n + 1) % 64 = 0 := h
    show HoldsState p _ fun a e => state hf hi lb ((n + 1) / 64) (128 * ((n + 1) % 64)) a e
    rw [show (n + 1) / 64 = n / 64 by omega, show 128 * ((n + 1) % 64) = 128 * (n % 64) + 128 by omega]
    exact this

/-- The kernel's result array. -/
theorem result_apply (r : Fin 32768) (j : Fin 384) : (G7 (F := Ideal) m c : Vec Ideal S32768x384 .bf16) (ix2 r j) = resultAt m c hq hf hi lb r j := by
  have hr := r.isLt
  have hj := j.isLt
  have hp : pt7Of (ix2 r j) = r.val / 128 := by
    show 1 * (r.val / 128 - 0) + 1 * (j.val / 384 - 0) = _
    omega
  have hN : r.val / 128 < cfg0.N := lt_of_lt_of_eq (by omega) (show cfg0.N = 256 from N_0).symm
  unfold G7
  rw [dif_pos (by rw [hp]; exact hN), fold0_congr m c _ _ (r.val / 128) (by omega) hp, ← outsAt0_sweep m c _ hN]
  have hl : loc7Of (ix2 r j) = ix2 ⟨r.val % 128, Nat.mod_lt _ (by decide)⟩ j := by
    funext a; apply Fin.ext
    match a with
    | ⟨0, _⟩ => rfl
    | ⟨1, _⟩ => exact Nat.mod_eq_of_lt hj
  rw [hl, (at_point R _ hN).2]
  exact congrArg (fun r => resultAt m c hq hf hi lb r j) (Fin.ext (show 128 * (r.val / 128) + r.val % 128 = r.val by omega))
end

end Cert.KernelIdeal.Body

end
-- ==== Proof.RefTrip.lean ====
/-
  One chunk of the reference's recurrence, over the reals: the sum of the log decays inside the chunk, the state after the chunk and the
  chunk's outputs.
-/
module

public import proofs.«01_k».proof.Proof.Gen.ReferenceIdeal.Run
public import proofs.«01_k».proof.Proof.Gen.ReferenceIdeal.Step
public import proofs.«01_k».proof.Proof.Spec
public import Idealize.ShloMosaic.Lib.Pointwise
public import Idealize.ShloMosaic.Lib.DynamicIndex

@[expose] public section

set_option maxRecDepth 16384
noncomputable section
open Idealize.ShloMosaic Idealize.ShloMosaic.TcCoe Idealize.SL.Sem
namespace Cert.ReferenceIdeal.Trip
open Cert.ReferenceIdeal Cert.ReferenceIdeal.Gen Cert.ReferenceIdeal.Value Cert.Recur

abbrev A4 : Type := FVec Ideal S4x6x64x64 .f32
abbrev A5 : Type := FVec Ideal S128x4x6x64x64 .f32

/-- Where a trip's slices start. -/
def starts (n : ℕ) : Fin 5 → (⟨S_, .i32⟩ : BufTy).Contents (Elt Ideal) :=
  ![constantI S_ 32 (BitVec.ofNat 32 n), constantI S_ 32 0#32, constantI S_ 32 0#32, constantI S_ 32 0#32, constantI S_ 32 0#32]

theorem toInt_small (n : ℕ) (hn : n < 128) : (BitVec.ofNat 32 n).toInt = (n : ℤ) := toInt_ofNat_of_lt (by omega)

theorem start_at (n : ℕ) (hn : n < 128) (a : Fin 5) (ht : S1x4x6x64x64.rank = S128x4x6x64x64.rank) :
    Host.clampedStart S128x4x6x64x64 S1x4x6x64x64 ht (fun k => (starts n k (Shape.Idx.first h_S_)).toInt) a = if a.val = 0 then n else 0 := by
  match a with
  | ⟨0, _⟩ => exact Host.clampedStart_of_le ht _ _ n (toInt_small n hn) (show n + 1 ≤ 128 by omega)
  | ⟨1, _⟩ => exact Host.clampedStart_of_le ht _ _ 0 rfl (le_of_eq (show 0 + 4 = 4 from rfl))
  | ⟨2, _⟩ => exact Host.clampedStart_of_le ht _ _ 0 rfl (le_of_eq (show 0 + 6 = 6 from rfl))
  | ⟨3, _⟩ => exact Host.clampedStart_of_le ht _ _ 0 rfl (le_of_eq (show 0 + 64 = 64 from rfl))
  | ⟨4, _⟩ => exact Host.clampedStart_of_le ht _ _ 0 rfl (le_of_eq (show 0 + 64 = 64 from rfl))

theorem slice_apply (x : A5) (n : ℕ) (hn : n < 128) (b : Fin 4) (h : Fin 6) (t e : Fin 64) :
    shapeCast S4x6x64x64 (Host.dynamicSlice S1x4x6x64x64 x (fun k => (starts n k (Shape.Idx.first h_S_)).toInt) sliceFits_S128x4x6x64x64_S1x4x6x64x64)
      shapeCasts_S1x4x6x64x64_S4x6x64x64 (ix4 b h t e) = x (ix5 ⟨n, hn⟩ b h t e) := by
  pointwise
  refine congrArg x ?_
  funext a
  apply Fin.ext
  match a with
  | ⟨0, _⟩ => exact (congrArg (· + 0) (start_at n hn 0 rfl)).trans (Nat.add_zero n)
  | ⟨1, _⟩ => exact (congrArg (· + b.val) (start_at n hn 1 _)).trans (Nat.zero_add _)
  | ⟨2, _⟩ => exact (congrArg (· + h.val) (start_at n hn 2 _)).trans (Nat.zero_add _)
  | ⟨3, _⟩ => exact (congrArg (· + t.val) (start_at n hn 3 _)).trans (Nat.zero_add _)
  | ⟨4, _⟩ => exact (congrArg (· + e.val) (start_at n hn 4 _)).trans (Nat.zero_add _)

theorem update_apply (x : A5) (u : A4) (n : ℕ) (hn : n < 128) (i : Fin 128) (b : Fin 4) (h : Fin 6) (t e : Fin 64) :
    Host.dynamicUpdateSlice x (broadcastInDim S1x4x6x64x64 ![1, 2, 3, 4] bcast_S4x6x64x64_S1x4x6x64x64_1_2_3_4 u) (fun k => (starts n k (Shape.Idx.first h_S_)).toInt)
      updateFits_S128x4x6x64x64_S1x4x6x64x64 (ix5 i b h t e) = if i.val = n then u (ix4 b h t e) else x (ix5 i b h t e) := by
  rw [Host.dynamicUpdateSlice_apply]
  by_cases hi : i.val = n
  · rw [if_pos hi, dif_pos]
    · pointwise
      refine congrArg u ?_
      funext a
      apply Fin.ext
      match a with
      | ⟨0, _⟩ => exact (congrArg (b.val - ·) (start_at n hn 1 _)).trans rfl
      | ⟨1, _⟩ => exact (congrArg (h.val - ·) (start_at n hn 2 _)).trans rfl
      | ⟨2, _⟩ => exact (congrArg (t.val - ·) (start_at n hn 3 _)).trans rfl
      | ⟨3, _⟩ => exact (congrArg (e.val - ·) (start_at n hn 4 _)).trans rfl
    · intro a
      rw [start_at n hn]
      match a with
      | ⟨0, _⟩ => exact ⟨show n ≤ i.val by omega, show i.val < n + 1 by omega⟩
      | ⟨1, _⟩ => exact ⟨Nat.zero_le _, show b.val < 0 + 4 by omega⟩
      | ⟨2, _⟩ => exact ⟨Nat.zero_le _, show h.val < 0 + 6 by omega⟩
      | ⟨3, _⟩ => exact ⟨Nat.zero_le _, show t.val < 0 + 64 by omega⟩
      | ⟨4, _⟩ => exact ⟨Nat.zero_le _, show e.val < 0 + 64 by omega⟩
  · rw [if_neg hi, dif_neg]
    intro hin
    have h0 := hin 0
    rw [start_at n hn] at h0
    have h1 : n ≤ i.val ∧ i.val < n + 1 := h0
    omega

/-! ### The sums inside a chunk -/

theorem foldl_sum {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem pos_at : ∀ n : Fin (⟨4, ![1, 1, 64, 1]⟩ : Shape).numel, ((⟨4, ![1, 1, 64, 1]⟩ : Shape).rowMajor.symm n 0).val = 0 ∧ ((⟨4, ![1, 1, 64, 1]⟩ : Shape).rowMajor.symm n 1).val = 0
    ∧ ((⟨4, ![1, 1, 64, 1]⟩ : Shape).rowMajor.symm n 2).val = n.val ∧ ((⟨4, ![1, 1, 64, 1]⟩ : Shape).rowMajor.symm n 3).val = 0 := by
  decide +kernel

/-- The sum over the last 64 positions, of which those before the first hold nothing. -/
theorem window_sum (g : ℕ → ℝ) (t : ℕ) (ht : t < 64) :
    ∑ n : Fin 64, (if 63 ≤ t + n.val then ((g (t + n.val - 63) : ℝ) : EReal) else 0) = ((cs g (t + 1) : ℝ) : EReal) := by
  rw [cs, ← coe_sum, ← Finset.sum_filter]
  refine Finset.sum_nbij (fun n => t + n.val - 63) (fun n hn => ?_) (fun n hn n' hn' h => ?_) (fun i hi => ?_) fun n hn => rfl
  · have := (Finset.mem_filter.mp hn).2
    have := n.isLt
    exact Finset.mem_range.mpr (by omega)
  · have h1 := (Finset.mem_filter.mp hn).2
    have h2 := (Finset.mem_filter.mp hn').2
    have h' : t + n.val - 63 = t + n'.val - 63 := h
    exact Fin.ext (by omega)
  · have := Finset.mem_range.mp hi
    refine ⟨⟨i + 63 - t, by omega⟩, Finset.mem_coe.mpr (Finset.mem_filter.mpr ⟨Finset.mem_univ _, show 63 ≤ t + (i + 63 - t) by omega⟩), show t + (i + 63 - t) - 63 = i by omega⟩

theorem cum_apply (x : A4) (g : ℕ → ℝ) (b : Fin 4) (h : Fin 6) (t e : Fin 64) (hx : ∀ i : Fin 64, x (ix4 b h i e) = ((g i.val : ℝ) : EReal)) :
    Host.reduceWindowAdd ![1, 1, 64, 1] ![1, 1, 1, 1] ![0, 0, 63, 0] ![0, 0, 0, 0] x (broadcastInDim S_ ![] bcast_S_S_ (constant S_ .f32 0x00000000#32))
      reduceWindows_S4x6x64x64_S4x6x64x64_w1s1p0_0_w1s1p0_0_w64s1p63_0_w1s1p0_0 h_S_ (ix4 b h t e) = ((cs g (t.val + 1) : ℝ) : EReal) := by
  have hz : (broadcastInDim S_ ![] bcast_S_S_ (constant (F := Ideal) S_ .f32 0x00000000#32)) (Shape.Idx.first h_S_) = (0 : EReal) := by
    show Ideal.ofBits .f32 0x00000000#32 = 0
    simp
  unfold Host.reduceWindowAdd
  rw [Ideal.hostReduceWindowAdd_def, Ideal.hostReduceWindowAdd, Host.reduceWindow, hz]
  refine (foldl_sum _ _ _).trans ?_
  rw [zero_add, ← Fin.sum_univ_def]
  refine Eq.trans ?_ (window_sum g t.val t.isLt)
  refine Fintype.sum_equiv (finCongr (by decide)) _ _ fun n => ?_
  obtain ⟨p0, p1, p2, p3⟩ := pos_at n
  have hn : n.val < 64 := lt_of_lt_of_eq n.isLt (by decide)
  by_cases hlt : 63 ≤ t.val + n.val
  · refine Eq.trans ?_ (if_pos hlt).symm
    rw [dif_pos]
    · refine Eq.trans (congrArg x (eq_ix4 _)) ?_
      refine Eq.trans ?_ (hx ⟨t.val + n.val - 63, by have := t.isLt; omega⟩)
      refine congrArg x ?_
      funext a
      apply Fin.ext
      match a with
      | ⟨0, _⟩ => show b.val * 1 + ((⟨4, ![1, 1, 64, 1]⟩ : Shape).rowMajor.symm n 0).val - 0 = b.val; rw [p0]; omega
      | ⟨1, _⟩ => show h.val * 1 + ((⟨4, ![1, 1, 64, 1]⟩ : Shape).rowMajor.symm n 1).val - 0 = h.val; rw [p1]; omega
      | ⟨2, _⟩ => show t.val * 1 + ((⟨4, ![1, 1, 64, 1]⟩ : Shape).rowMajor.symm n 2).val - 63 = t.val + n.val - 63; rw [p2]; omega
      | ⟨3, _⟩ => show e.val * 1 + ((⟨4, ![1, 1, 64, 1]⟩ : Shape).rowMajor.symm n 3).val - 0 = e.val; rw [p3]; omega
    · intro a
      match a with
      | ⟨0, _⟩ => show 0 ≤ b.val * 1 + ((⟨4, ![1, 1, 64, 1]⟩ : Shape).rowMajor.symm n 0).val ∧ b.val * 1 + ((⟨4, ![1, 1, 64, 1]⟩ : Shape).rowMajor.symm n 0).val - 0 < 4; rw [p0]; omega
      | ⟨1, _⟩ => show 0 ≤ h.val * 1 + ((⟨4, ![1, 1, 64, 1]⟩ : Shape).rowMajor.symm n 1).val ∧ h.val * 1 + ((⟨4, ![1, 1, 64, 1]⟩ : Shape).rowMajor.symm n 1).val - 0 < 6; rw [p1]; omega
      | ⟨2, _⟩ => show 63 ≤ t.val * 1 + ((⟨4, ![1, 1, 64, 1]⟩ : Shape).rowMajor.symm n 2).val ∧ t.val * 1 + ((⟨4, ![1, 1, 64, 1]⟩ : Shape).rowMajor.symm n 2).val - 63 < 64; rw [p2]; omega
      | ⟨3, _⟩ => show 0 ≤ e.val * 1 + ((⟨4, ![1, 1, 64, 1]⟩ : Shape).rowMajor.symm n 3).val ∧ e.val * 1 + ((⟨4, ![1, 1, 64, 1]⟩ : Shape).rowMajor.symm n 3).val - 0 < 64; rw [p3]; omega
  · refine Eq.trans ?_ (if_neg hlt).symm
    rw [dif_neg]
    intro hin
    have h2 : 63 ≤ t.val * 1 + ((⟨4, ![1, 1, 64, 1]⟩ : Shape).rowMajor.symm n 2).val := (hin 2).1
    rw [p2] at h2
    omega

/-! ### A trip -/

/-- The loop's valuation before trip `n`, over the reals: the trip's number, the causal mask, and the queries, keys, values and log decays,
    by row and column. -/
structure At (V : Valuation τ sig (Elt Ideal)) (n : ℕ) (q k v lf : ℕ → ℕ → ℝ) : Prop where
  number : V (Proc.devRef .tc main_v52_5) = constantI S_ 32 (BitVec.ofNat 32 n)
  mask : V (Proc.devRef .tc main_v52_4) = Step.K_main_v41 (F := Ideal)
  q : ∀ i b h t e, (V (Proc.devRef .tc main_v52_0) : A5) (ix5 i b h t e) = ((q (8192 * b.val + 64 * i.val + t.val) (64 * h.val + e.val) : ℝ) : EReal)
  k : ∀ i b h t e, (V (Proc.devRef .tc main_v52_1) : A5) (ix5 i b h t e) = ((k (8192 * b.val + 64 * i.val + t.val) (64 * h.val + e.val) : ℝ) : EReal)
  v : ∀ i b h t e, (V (Proc.devRef .tc main_v52_2) : A5) (ix5 i b h t e) = ((v (8192 * b.val + 64 * i.val + t.val) (64 * h.val + e.val) : ℝ) : EReal)
  lf : ∀ i b h t e, (V (Proc.devRef .tc main_v52_3) : A5) (ix5 i b h t e) = ((lf (8192 * b.val + 64 * i.val + t.val) (64 * h.val + e.val) : ℝ) : EReal)

theorem causal (t s : Fin 64) : Step.K_main_v41 (F := Ideal) (ix2 t s) = if s.val ≤ t.val then 1#1 else 0#1 := by
  pointwise [Step.K_main_v41, Step.K_main_v40, Step.K_main_call2_v4, Step.K_main_call2_v5, Step.K_main_call2_v2, Step.K_main_call2_v3, Step.K_main_call2_v0, Step.K_main_call2_v1, Step.K_main_call2_c, Step.K_main_call2_c_0, Step.K_main_c]
  revert t s
  decide +kernel

/-- The decay from token `s` to token `t`. -/
theorem decay_apply (t s : Fin 64) (x : ℝ) :
    Ideal.exp (Scalar.select (Step.K_main_v41 (F := Ideal) (ix2 t s)) ((x : ℝ) : EReal) (Ideal.ofBits .f32 4286578688#32)) = ((if s.val ≤ t.val then Real.exp x else 0 : ℝ) : EReal) := by
  rw [causal]
  by_cases h : s.val ≤ t.val
  · rw [if_pos h, if_pos h]; rfl
  · rw [if_neg h, if_neg h, show Ideal.ofBits .f32 4286578688#32 = ⊥ by unfold Ideal.ofBits Ideal.ieee; simp]; rfl

section
variable {V : Valuation τ sig (Elt Ideal)} {n : ℕ} {q k v lf : ℕ → ℕ → ℝ} (H : At V n q k v lf) (hn : n < 128) (b : Fin 4) (h : Fin 6)
include H hn

theorem q_apply (t e : Fin 64) : (res_main_while0b_v73 V : A4) (ix4 b h t e) = ((q (8192 * b.val + 64 * n + t.val) (64 * h.val + e.val) : ℝ) : EReal) := by
  unfold res_main_while0b_v73
  rw [H.number]
  exact (slice_apply _ n hn b h t e).trans (H.q ⟨n, hn⟩ b h t e)
theorem k_apply (t e : Fin 64) : (res_main_while0b_v74 V : A4) (ix4 b h t e) = ((k (8192 * b.val + 64 * n + t.val) (64 * h.val + e.val) : ℝ) : EReal) := by
  unfold res_main_while0b_v74
  rw [H.number]
  exact (slice_apply _ n hn b h t e).trans (H.k ⟨n, hn⟩ b h t e)
theorem v_apply (t e : Fin 64) : (res_main_while0b_v75 V : A4) (ix4 b h t e) = ((v (8192 * b.val + 64 * n + t.val) (64 * h.val + e.val) : ℝ) : EReal) := by
  unfold res_main_while0b_v75
  rw [H.number]
  exact (slice_apply _ n hn b h t e).trans (H.v ⟨n, hn⟩ b h t e)
theorem cs_apply (t e : Fin 64) : (res_main_while0b_v77 V : A4) (ix4 b h t e) = ((cs (fun i => lf (8192 * b.val + 64 * n + i) (64 * h.val + e.val)) (t.val + 1) : ℝ) : EReal) := by
  unfold res_main_while0b_v77
  rw [H.number]
  exact cum_apply _ (fun i => lf (8192 * b.val + 64 * n + i) (64 * h.val + e.val)) b h t e fun i => (slice_apply _ n hn b h i e).trans (H.lf ⟨n, hn⟩ b h i e)
theorem last_apply (e : Fin 64) : (res_main_while0b_v97 V : FVec Ideal S4x6x1x64 .f32) (ix4 b h 0 e) = ((cs (fun i => lf (8192 * b.val + 64 * n + i) (64 * h.val + e.val)) 64 : ℝ) : EReal) := by
  unfold res_main_while0b_v97
  refine Eq.trans ?_ (cs_apply H hn b h 63 e)
  pointwise

/-- The state after the chunk. -/
theorem state_apply (S : ℕ → ℕ → ℝ) (hS : ∀ a e : Fin 64, (V (Proc.devRef .tc main_v52_6) : A4) (ix4 b h a e) = ((S (64 * h.val + a.val) (64 * h.val + e.val) : ℝ) : EReal)) (a e : Fin 64) :
    (step_main_v52_6 V : A4) (ix4 b h a e) = ((run (fun s => lf (8192 * b.val + 64 * n + s) (64 * h.val + a.val)) (fun s => k (8192 * b.val + 64 * n + s) (64 * h.val + a.val))
      (fun s => v (8192 * b.val + 64 * n + s) (64 * h.val + e.val)) (S (64 * h.val + a.val) (64 * h.val + e.val)) 64 : ℝ) : EReal) := by
  unfold step_main_v52_6
  pointwise [id_eq]
  simp only [hS, k_apply H hn, v_apply H hn, cs_apply H hn, last_apply H hn, ← EReal.coe_sub, Gate.exp_real, ← EReal.coe_mul, coe_sum, ← EReal.coe_add]
  rw [run_eq, Finset.sum_range]

/-- The chunk's outputs. -/
theorem outs_apply (S : ℕ → ℕ → ℝ) (hS : ∀ a e : Fin 64, (V (Proc.devRef .tc main_v52_6) : A4) (ix4 b h a e) = ((S (64 * h.val + a.val) (64 * h.val + e.val) : ℝ) : EReal)) (i : Fin 128) (t e : Fin 64) :
    (step_main_v52_7 V : A5) (ix5 i b h t e) = if i.val = n then ((outR (fun s c => q (8192 * b.val + 64 * n + s) c) (fun s c => k (8192 * b.val + 64 * n + s) c) (fun s c => lf (8192 * b.val + 64 * n + s) c)
      (fun s c => v (8192 * b.val + 64 * n + s) c) S t.val (64 * h.val + e.val) : ℝ) : EReal) else (V (Proc.devRef .tc main_v52_7) : A5) (ix5 i b h t e) := by
  unfold step_main_v52_7
  rw [H.number, H.mask]
  refine (update_apply _ _ n hn i b h t e).trans (ite_congr rfl (fun _ => ?_) fun _ => rfl)
  pointwise [id_eq]
  simp only [hS, q_apply H hn, k_apply H hn, v_apply H hn, cs_apply H hn, ← EReal.coe_sub, decay_apply, Gate.exp_real, ← EReal.coe_mul, coe_sum, ← EReal.coe_add]
  refine congrArg _ ?_
  rw [outR, show (64 * h.val + e.val) / 64 * 64 = 64 * h.val by omega, Finset.sum_range]
  simp only [run_causal _ _ _ _ t.val t.isLt, mul_add, Finset.sum_add_distrib, Finset.sum_mul, Finset.mul_sum]
  refine congrArg₂ (· + ·) (Finset.sum_congr rfl fun x _ => by ring) ?_
  rw [Finset.sum_comm]
  exact Finset.sum_congr rfl fun x _ => Finset.sum_congr rfl fun y _ => by ring
end

end Cert.ReferenceIdeal.Trip

end
-- ==== Proof.RefValue.lean ====
/-
  The reference's array: by induction over the chunks, its loop carries the state of each sequence, and its result is the head norm of what
  the queries read from it.
-/
module

public import proofs.«01_k».proof.Proof.RefTrip

@[expose] public section

set_option maxRecDepth 16384
noncomputable section
open Idealize.ShloMosaic Idealize.ShloMosaic.TcCoe Idealize.SL.Sem Idealize.ShloMosaic.StableHlo
namespace Cert.ReferenceIdeal.Trip
open Cert.ReferenceIdeal Cert.ReferenceIdeal.Gen Cert.ReferenceIdeal.Value Cert.Recur

abbrev Rows : Type := FVec Ideal S32768x384 .f32

/-! ### What the loop starts from -/

/-- The row of token `t` of chunk `i` of sequence `b`, and the column of entry `e` of head `h`. -/
def rowAt (b : Fin 4) (i : Fin 128) (t : Fin 64) : Fin 32768 := ⟨b.val * 8192 + (i.val * 64 + t.val), by omega⟩
def colAt (h : Fin 6) (e : Fin 64) : Fin 384 := ⟨h.val * 64 + e.val, by omega⟩

theorem q_start (a0 a1 a2 : Rows) (a4 : FVec Ideal S384 .f32) (i b h t e) :
    Step.A_main_v44 (F := Ideal) a0 a1 a2 a4 (ix5 i b h t e) = a0 (ix2 (rowAt b i t) (colAt h e)) * Ideal.logistic (a0 (ix2 (rowAt b i t) (colAt h e))) := by
  pointwise [Step.A_main_v44, Step.A_main_v43, Step.A_main_v38, Step.A_main_v37, Step.A_main_call1_v5, Step.A_main_call1_v3, Step.A_main_call1_v1, Step.A_main_call1_v0,
    Step.K_main_call1_v2, Step.K_main_call1_v4, Step.K_main_call1_cst, Step.K_main_call1_cst_0]
  rw [Ideal.logistic]
  rfl
theorem v_start (a0 a1 a2 : Rows) (a4 : FVec Ideal S384 .f32) (i b h t e) :
    Step.A_main_v48 (F := Ideal) a0 a1 a2 a4 (ix5 i b h t e) = a2 (ix2 (rowAt b i t) (colAt h e)) := by
  pointwise [Step.A_main_v48, Step.A_main_v47, Step.A_main_v39]
  exact congrArg a2 (congrArg (fun r => ix2 r (colAt h e)) (Fin.ext (Nat.add_assoc _ _ _)))
theorem k_start (a0 a1 a2 : Rows) (a4 : FVec Ideal S384 .f32) (i b h t e) :
    Step.A_main_v46 (F := Ideal) a0 a1 a2 a4 (ix5 i b h t e) = (1 - a4 (ix1 (colAt h e))) * Ideal.logistic (0 - a1 (ix2 (rowAt b i t) (colAt h e))) := by
  pointwise [Step.A_main_v46, Step.A_main_v45, Step.A_main_v36, Step.A_main_v35, Step.A_main_v34, Step.A_main_v33, Step.A_main_v31, Step.A_main_v29, Step.A_main_v28, Step.A_main_v27,
    Step.A_main_v26, Step.A_main_v0, Step.A_main_v1, Step.K_main_v25, Step.K_main_v30, Step.K_main_v32, Step.K_main_cst, Step.K_main_cst_0, Step.K_main_cst_1]
  rw [zero_sub, Ideal.logistic]
  rfl
/-- The log sigmoid as a softplus. -/
theorem lsig_soft (x : ℝ) : -(max (-(x : EReal)) 0 + Ideal.log1p (Ideal.exp (-max (-(x : EReal)) (- -(x : EReal))))) = Gate.lsig x := by
  rw [Gate.lsig_real, Ideal.log1p, ← zero_sub (max _ _), ← EReal.coe_neg, Gate.soft_real, ← EReal.coe_zero, Gate.max_real, ← EReal.coe_add, ← EReal.coe_neg]
  refine congrArg _ ?_
  rw [neg_neg, max_comm (-x) x, neg_add, ← min_neg_neg, neg_neg, neg_zero]
  rfl
theorem gate_soft (lb : EReal) (x : ℝ) :
    max (Ideal.log lb) (Ideal.log1p (-lb) + -(max (-(x : EReal)) 0 + Ideal.log1p (Ideal.exp (-max (-(x : EReal)) (- -(x : EReal))))))
      + Ideal.log1p (Ideal.exp (-max (Ideal.log lb - (Ideal.log1p (-lb) + -(max (-(x : EReal)) 0 + Ideal.log1p (Ideal.exp (-max (-(x : EReal)) (- -(x : EReal)))))))
          (-(Ideal.log lb - (Ideal.log1p (-lb) + -(max (-(x : EReal)) 0 + Ideal.log1p (Ideal.exp (-max (-(x : EReal)) (- -(x : EReal)))))))))) = Gate.gateOf lb (Gate.lsig x) := by
  rw [lsig_soft, Gate.gateOf, zero_sub, zero_sub]
  rfl

theorem lf_start (a0 a1 a2 : Rows) (a4 : FVec Ideal S384 .f32) (i b h t e) (x : ℝ) (hx : a1 (ix2 (rowAt b i t) (colAt h e)) = ((x : ℝ) : EReal)) :
    Step.A_main_v50 (F := Ideal) a0 a1 a2 a4 (ix5 i b h t e) = Gate.gateOf (a4 (ix1 (colAt h e))) (Gate.lsig (a1 (ix2 (rowAt b i t) (colAt h e)))) := by
  pointwise [Step.A_main_v50, Step.A_main_v49, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, Step.A_main_call0_v11, Step.A_main_call0_v10, Step.A_main_call0_v9, Step.A_main_call0_v8, Step.A_main_call0_v7, Step.A_main_call0_v6, Step.A_main_call0_v4, Step.A_main_call0_v3, Step.A_main_call0_v1, Step.K_main_call0_v0, Step.K_main_call0_v2, Step.K_main_call0_v5, Step.K_main_call0_cst]
  simp only [ne_eq, not_true_eq_false, if_false]
  have hx' : a1 (ix2 ⟨b.val * 8192 + (i.val * 64 + t.val), by omega⟩ ⟨h.val * 64 + e.val, by omega⟩) = ((x : ℝ) : EReal) := hx
  rw [hx', hx]
  refine Eq.trans ?_ (gate_soft (a4 (ix1 (colAt h e))) x)
  rfl

theorem rowAt_val (b i t) : (rowAt b i t).val = 8192 * b.val + 64 * i.val + t.val := by show b.val * 8192 + (i.val * 64 + t.val) = _; omega
theorem colAt_val (h e) : (colAt h e).val = 64 * h.val + e.val := by show h.val * 64 + e.val = _; omega

variable (m : (ℓ : Loc nD τ sig) → Buf (Elt Ideal) ℓ) (c : Dev nD)

set_option maxRecDepth 65536 in
set_option maxHeartbeats 500000 in
/-- What the operations before the loop leave in what it carries. -/
theorem entry_reads : entryContents preI m c (Proc.devRef .tc main_v52_7) = Step.K_main_v51 (F := Ideal)
    ∧ entryContents preI m c (Proc.devRef .tc main_v52_6) = Step.K_main_v42 (F := Ideal)
    ∧ entryContents preI m c (Proc.devRef .tc main_v52_5) = constantI S_ 32 (BitVec.ofNat 32 0)
    ∧ entryContents preI m c (Proc.devRef .tc main_v52_4) = Step.K_main_v41 (F := Ideal)
    ∧ entryContents preI m c (Proc.devRef .tc main_v52_3) = Step.A_main_v50 (F := Ideal) (m ((c.tc : Thread nD τ).loc main_arg0)) (m ((c.tc : Thread nD τ).loc main_arg1)) (m ((c.tc : Thread nD τ).loc main_arg2)) (m ((c.tc : Thread nD τ).loc main_arg4))
    ∧ entryContents preI m c (Proc.devRef .tc main_v52_2) = Step.A_main_v48 (F := Ideal) (m ((c.tc : Thread nD τ).loc main_arg0)) (m ((c.tc : Thread nD τ).loc main_arg1)) (m ((c.tc : Thread nD τ).loc main_arg2)) (m ((c.tc : Thread nD τ).loc main_arg4))
    ∧ entryContents preI m c (Proc.devRef .tc main_v52_1) = Step.A_main_v46 (F := Ideal) (m ((c.tc : Thread nD τ).loc main_arg0)) (m ((c.tc : Thread nD τ).loc main_arg1)) (m ((c.tc : Thread nD τ).loc main_arg2)) (m ((c.tc : Thread nD τ).loc main_arg4))
    ∧ entryContents preI m c (Proc.devRef .tc main_v52_0) = Step.A_main_v44 (F := Ideal) (m ((c.tc : Thread nD τ).loc main_arg0)) (m ((c.tc : Thread nD τ).loc main_arg1)) (m ((c.tc : Thread nD τ).loc main_arg2)) (m ((c.tc : Thread nD τ).loc main_arg4)) := by
  refine ⟨?_, ?_, ?_, ?_, ?_, ?_, ?_, ?_⟩ <;> (simp only [entryContents, afterL_cons, afterL_nil]; after_reads_simp) <;> rfl

/-- The arguments are real. -/
structure Reals (hq hf hi : ℕ → ℕ → ℝ) (lb : ℕ → ℝ) : Prop where
  hq : ∀ r j, (m ((c.tc : Thread nD τ).loc main_arg0) : Rows) (ix2 r j) = ((hq r.val j.val : ℝ) : EReal)
  hf : ∀ r j, (m ((c.tc : Thread nD τ).loc main_arg1) : Rows) (ix2 r j) = ((hf r.val j.val : ℝ) : EReal)
  hi : ∀ r j, (m ((c.tc : Thread nD τ).loc main_arg2) : Rows) (ix2 r j) = ((hi r.val j.val : ℝ) : EReal)
  lb : ∀ j, (m ((c.tc : Thread nD τ).loc main_arg4) : FVec Ideal S384 .f32) (ix1 j) = ((lb j.val : ℝ) : EReal)

/-- Before trip `n`: the state of every sequence after `64 n` tokens, and the outputs of the chunks done. -/
structure Before (V : Valuation τ sig (Elt Ideal)) (n : ℕ) (hq hf hi : ℕ → ℕ → ℝ) (lb : ℕ → ℝ) : Prop where
  here : At V n (fun r c => Gate.query (hq r c)) (fun r c => Gate.key (lb c) (hf r c)) (fun r c => hi r c) (fun r c => Gate.logDecay (lb c) (hf r c))
  states : ∀ b h a e, (V (Proc.devRef .tc main_v52_6) : A4) (ix4 b h a e) = ((state hf hi lb b.val (64 * n) (64 * h.val + a.val) (64 * h.val + e.val) : ℝ) : EReal)
  outs : ∀ (i : Fin 128), i.val < n → ∀ b h t e, (V (Proc.devRef .tc main_v52_7) : A5) (ix5 i b h t e) = ((mixed hq hf hi lb (8192 * b.val + 64 * i.val + t.val) (64 * h.val + e.val) : ℝ) : EReal)

/-- A sum divided by 64. -/
theorem mean_eq (s : ℝ) : Ideal.div (s : EReal) (Ideal.ofBits .f32 1115684864#32) = (s : EReal) * Ideal.ofBits .f32 0x3C800000#32 := by
  have h1 : Ideal.ofBits .f32 1115684864#32 = ((64 : ℝ) : EReal) := by
    unfold Ideal.ofBits Ideal.ieee; simp; rw [← EReal.coe_mul]; norm_num
  have h2 : Ideal.ofBits .f32 0x3C800000#32 = (((64 : ℝ)⁻¹ : ℝ) : EReal) := by
    unfold Ideal.ofBits Ideal.ieee; simp; rw [← EReal.coe_mul]; norm_num
  rw [h1, h2, Ideal.div, if_neg (fun h => absurd (EReal.coe_injective (h.trans EReal.coe_zero.symm)) (by norm_num)), EReal.coe_inv]

section
variable {m} {c} {hq hf hi : ℕ → ℕ → ℝ} {lb : ℕ → ℝ} (R : Reals m c hq hf hi lb)
include R

theorem before_first : Before (entryContents preI m c) 0 hq hf hi lb := by
  obtain ⟨e7, e6, e5, e4, e3, e2, e1, e0⟩ := entry_reads m c
  refine ⟨⟨e5, e4, fun i b h t e => ?_, fun i b h t e => ?_, fun i b h t e => ?_, fun i b h t e => ?_⟩, fun b h a e => ?_, fun i hi => absurd hi (Nat.not_lt_zero _)⟩
  · rw [e0, ← rowAt_val, ← colAt_val]
    refine (q_start _ _ _ _ i b h t e).trans ?_
    rw [R.hq, Gate.query_eq]
  · rw [e1, ← rowAt_val, ← colAt_val]
    refine (k_start _ _ _ _ i b h t e).trans ?_
    rw [R.lb, R.hf, Gate.key_eq]
  · rw [e2, ← rowAt_val, ← colAt_val]
    refine (v_start _ _ _ _ i b h t e).trans ?_
    rw [R.hi]
  · rw [e3, ← rowAt_val, ← colAt_val]
    refine (lf_start _ _ _ _ i b h t e _ (R.hf _ _)).trans ?_
    rw [R.lb, R.hf, Gate.gate_eq]
  · rw [e6]
    exact Ideal.ofBits_zero_f32

theorem before_next {V : Valuation τ sig (Elt Ideal)} {n : ℕ} (hn : n < 128) (B : Before V n hq hf hi lb) : Before (STEP V) (n + 1) hq hf hi lb := by
  refine ⟨⟨?_, ?_, fun i b h t e => ?_, fun i b h t e => ?_, fun i b h t e => ?_, fun i b h t e => ?_⟩, fun b h a e => ?_, fun i hi' b h t e => ?_⟩
  · rw [STEP_main_v52_5, step_main_v52_5, B.here.number]
    funext i
    show BitVec.ofNat 32 n + 1#32 = BitVec.ofNat 32 (n + 1)
    simp only [BitVec.ofNat_add]
  · rw [STEP_main_v52_4]; exact B.here.mask
  · rw [STEP_main_v52_0]; exact B.here.q i b h t e
  · rw [STEP_main_v52_1]; exact B.here.k i b h t e
  · rw [STEP_main_v52_2]; exact B.here.v i b h t e
  · rw [STEP_main_v52_3]; exact B.here.lf i b h t e
  · rw [STEP_main_v52_6]
    refine (state_apply B.here hn b h (fun a e => state hf hi lb b.val (64 * n) a e) (B.states b h) a e).trans ?_
    rw [show 64 * (n + 1) = 64 * n + 64 by omega, state_add]
  · rw [STEP_main_v52_7]
    refine (outs_apply B.here hn b h (fun a e => state hf hi lb b.val (64 * n) a e) (B.states b h) i t e).trans ?_
    by_cases h' : i.val = n
    · refine (if_pos h').trans (congrArg _ ?_)
      have ht := t.isLt
      exact out_chunk hq hf hi lb b.val (64 * n) t.val _ _ (by omega) (by omega)
    · exact (if_neg h').trans (B.outs i (by omega) b h t e)

theorem before_trip : ∀ n : ℕ, n ≤ 128 → Before (STEP^[n] (entryContents preI m c)) n hq hf hi lb
  | 0, _ => before_first R
  | n + 1, hn => by
    rw [Function.iterate_succ_apply']
    exact before_next R (by omega) (before_trip n (by omega))

end

/-- What the reference's result holds at row `r`, column `j`. -/
theorem out_apply {V : Valuation τ sig (Elt Ideal)} {hq hf hi : ℕ → ℕ → ℝ} {lb : ℕ → ℝ} (B : Before V 128 hq hf hi lb) (r : Fin 32768) (j : Fin 384) (g : Rows)
    (w : FVec Ideal S64 .f32) (hg : V (Proc.devRef .tc main_arg3) = g) (hw : V (Proc.devRef .tc main_arg5) = w) :
    (out_main_v72 V : FVec Ideal S32768x384 .bf16) (ix2 r j)
    = headOut (mixed hq hf hi lb r.val) j.val * w (ix1 ⟨j.val % 64, Nat.mod_lt _ (by decide)⟩) * (g (ix2 r j) * Ideal.logistic (g (ix2 r j))) := by
  have hr := r.isLt
  have hj := j.isLt
  have hO : ∀ e : Fin 64, (V (Proc.devRef .tc main_v52_7) : A5)
      (ix5 ⟨r.val % 8192 / 64, by omega⟩ ⟨r.val / 8192, by omega⟩ ⟨j.val / 64, by omega⟩ ⟨r.val % 8192 % 64, by omega⟩ e) = ((mixed hq hf hi lb r.val (j.val / 64 * 64 + e.val) : ℝ) : EReal) := fun e => by
    refine (B.outs ⟨r.val % 8192 / 64, by omega⟩ (show r.val % 8192 / 64 < 128 by omega) ⟨r.val / 8192, by omega⟩ ⟨j.val / 64, by omega⟩ ⟨r.val % 8192 % 64, by omega⟩ e).trans ?_
    refine congrArg _ (congrArg₂ _ ?_ ?_)
    · show 8192 * (r.val / 8192) + 64 * (r.val % 8192 / 64) + r.val % 8192 % 64 = r.val; omega
    · show 64 * (j.val / 64) + e.val = j.val / 64 * 64 + e.val; omega
  have hS : ∀ O : Fin 64 → EReal, (∀ e, O e = ((mixed hq hf hi lb r.val (j.val / 64 * 64 + e.val) : ℝ) : EReal)) →
      O ⟨j.val % 64, Nat.mod_lt _ (by decide)⟩ * Ideal.rsqrt (Ideal.div (∑ x, O x * O x) (Ideal.ofBits .f32 1115684864#32) + Ideal.ofBits .f32 897988541#32)
      = headOut (mixed hq hf hi lb r.val) j.val := fun O h => by
    simp only [h, ← EReal.coe_mul, coe_sum, mean_eq]
    rw [show j.val / 64 * 64 + j.val % 64 = j.val by omega, headOut, Finset.sum_range]
  have hT := congrArg (fun z : EReal => z * w (ix1 ⟨j.val % 64, Nat.mod_lt _ (by decide)⟩) * (g (ix2 r j) * Ideal.logistic (g (ix2 r j)))) (hS _ hO)
  unfold out_main_v72
  rw [hg, hw]
  pointwise
  exact hT

end Cert.ReferenceIdeal.Trip

end
-- ==== Proof.Finite.lean ====
/-
  What the precondition says: every entry of the four arrays it names is a real number.
-/
module

public import proofs.«01_k».proof.Pre_gates_finite
public import Idealize.ShloMosaic.PureOps.Ideal
public import Idealize.ShloMosaic.Lib.ReduceAll
public import Idealize.ShloMosaic.Lib.Pointwise
import Idealize.ShloMosaic.Lib.Affine

@[expose] public section

noncomputable section
open Idealize.ShloMosaic
namespace Cert.Finite
open Cert.Pre_gates_finite

/-- The predicate's own side conditions. -/
instance preFacts : Cert.Pre_gates_finite.Facts where
  bcast_S_S32768x384 := by decide
  reducesTo_S32768x384_S_d0_1 := by decide
  h_S_ := by decide
  bcast_S_S384 := by decide
  reducesTo_S384_S_d0 := by decide

instance : Subsingleton S_.Idx := ⟨fun a b => funext fun i => i.elim0⟩

theorem top_bits : Ideal.ofBits .f32 0x7F800000#32 = ⊤ := by
  unfold Ideal.ofBits Ideal.ieee
  simp

/-- A number whose absolute value lies under infinity is real. -/
theorem real_of_abs {x : EReal} (h : max x (-x) < ⊤) : ((x.toReal : ℝ) : EReal) = x := by
  refine EReal.coe_toReal (fun e => ?_) (fun e => ?_)
  · rw [e] at h; simp at h
  · rw [e] at h; simp at h

theorem real_of_lt {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) : ((EReal.toReal (x i) : ℝ) : EReal) = x i := by
  refine real_of_abs ?_
  have h' : BitVec.ofBool (decide (max (x i) (-(x i)) < Ideal.ofBits .f32 0x7F800000#32)) = 1#1 := h
  rw [top_bits] at h'
  by_contra hn
  rw [decide_eq_false hn] at h'
  exact absurd h' (by decide)

theorem reals {a0 a1 a2 a3 : FVec Ideal S32768x384 .f32} {a4 : FVec Ideal S384 .f32} {a5 : FVec Ideal S64 .f32}
    (h : Cert.Pre_gates_finite.fn (F := Ideal) a0 a1 a2 a3 a4 a5 = fun _ => 1#1) :
    (∀ i, ((EReal.toReal (a0 i) : ℝ) : EReal) = a0 i) ∧ (∀ i, ((EReal.toReal (a1 i) : ℝ) : EReal) = a1 i)
      ∧ (∀ i, ((EReal.toReal (a2 i) : ℝ) : EReal) = a2 i) ∧ (∀ i, ((EReal.toReal (a4 i) : ℝ) : EReal) = a4 i) := by
  have h0 := congrFun h (fun i => i.elim0)
  obtain ⟨h1, h4⟩ := IntOp.andi_eq_one.1 h0
  obtain ⟨h2, h3⟩ := IntOp.andi_eq_one.1 h1
  obtain ⟨hq, hf⟩ := IntOp.andi_eq_one.1 h2
  exact ⟨fun i => real_of_lt a0 _ i (Host.reduce_andi_all _ _ _ _ _ hq i), fun i => real_of_lt a1 _ i (Host.reduce_andi_all _ _ _ _ _ hf i),
    fun i => real_of_lt a2 _ i (Host.reduce_andi_all _ _ _ _ _ h3 i), fun i => real_of_lt a4 _ i (Host.reduce_andi_all _ _ _ _ _ h4 i)⟩

/-- An array's entries as real numbers, by row and column. -/
def rowsOf (a : FVec Ideal S32768x384 .f32) (r j : ℕ) : ℝ := if h : r < 32768 ∧ j < 384 then EReal.toReal (a (ix2 ⟨r, h.1⟩ ⟨j, h.2⟩)) else 0
def colsOf (a : FVec Ideal S384 .f32) (j : ℕ) : ℝ := if h : j < 384 then EReal.toReal (a (ix1 ⟨j, h⟩)) else 0

theorem rowsOf_eq {a : FVec Ideal S32768x384 .f32} (h : ∀ i, ((EReal.toReal (a i) : ℝ) : EReal) = a i) (r : Fin 32768) (j : Fin 384) :
    a (ix2 r j) = ((rowsOf a r.val j.val : ℝ) : EReal) := by
  rw [rowsOf, dif_pos ⟨r.isLt, j.isLt⟩]; exact (h _).symm
theorem colsOf_eq {a : FVec Ideal S384 .f32} (h : ∀ i, ((EReal.toReal (a i) : ℝ) : EReal) = a i) (j : Fin 384) :
    a (ix1 j) = ((colsOf a j.val : ℝ) : EReal) := by
  rw [colsOf, dif_pos j.isLt]; exact (h _).symm

end Cert.Finite

end
-- ==== Proof.Ffn.lean ====
/-
  The feed-forward half `x + 1/2 SwiGLU(RMSNorm(x))` of one row, and what the kernels' chunks of 256 hidden columns add up to.
-/
module

public import proofs.«01_k».proof.Proof.Gen.Kernel2Ideal.Value
public import Idealize.ShloMosaic.PureOps.Ideal
public import Idealize.ShloMosaic.Lib.Pointwise

@[expose] public section

set_option maxRecDepth 16384
noncomputable section
open Idealize.ShloMosaic Idealize.ShloMosaic.TcCoe Idealize.SL.Sem
namespace Cert.Ffn
open Cert.Kernel2Ideal Cert.Kernel2Ideal.Gen

/-! ### One row -/

/-- The root mean square norm of a row of 1024 entries, times the gain. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- The hidden column `f`: the gate through its own logistic, times the other product. -/
def hidden (h : Fin 1024 → EReal) (wg wu : Fin 1024 → Fin 2816 → EReal) (f : Fin 2816) : EReal :=
  (∑ k, h k * wg k f) * Ideal.logistic (∑ k, h k * wg k f) * ∑ k, h k * wu k f

/-- The row with half of its gated linear unit added. -/
def halfStep (x g : Fin 1024 → EReal) (wg wu : Fin 1024 → Fin 2816 → EReal) (wd : Fin 2816 → Fin 1024 → EReal) (j : Fin 1024) : EReal :=
  x j + Ideal.ofBits .f32 0x3F000000#32 * ∑ f, hidden (normed x g) wg wu f * wd f j

/-! ### The chunks -/

/-- The norm of a block of rows. -/
def normVec (x : Vec Ideal S512x1024 .f32) (g : Vec Ideal S1x1024 .f32) : FVec Ideal S512x1024 .bf16 := k0_pay2 (F := Ideal) x g

theorem norm_apply (x : Vec Ideal S512x1024 .f32) (g : Vec Ideal S1x1024 .f32) (i : Fin 512) (j : Fin 1024) :
    normVec x g (ix2 i j) = normed (fun k => x (ix2 i k)) (fun k => g (ix2 0 k)) j := by
  pointwise [normVec, k0_pay2]
  rfl

/-- What one chunk adds: 256 hidden columns through the chunk's rows of the last weights. -/
def chunk (h : FVec Ideal S512x1024 .bf16) (a b : Vec Ideal S1024x256 .bf16) (d : Vec Ideal S256x1024 .bf16) : FVec Ideal S512x1024 .f32 :=
  have p : FVec Ideal S512x256 .f32 := matmul (F := Ideal) dot_S512x1024_S1024x256_S512x256_1_0_0_1_n_n none h
    (shapeCast S1024x256 a shapeCasts_S1024x256_S1024x256 : FVec Ideal S1024x256 .bf16) (constant S512x256 .f32 0x00000000#32)
  have q : FVec Ideal S512x256 .f32 := matmul (F := Ideal) dot_S512x1024_S1024x256_S512x256_1_0_0_1_n_n none h
    (shapeCast S1024x256 b shapeCasts_S1024x256_S1024x256 : FVec Ideal S1024x256 .bf16) (constant S512x256 .f32 0x00000000#32)
  matmul (F := Ideal) dot_S512x256_S256x1024_S512x1024_1_0_0_1_n_n none (truncf .bf16 (mulf (mulf p (logistic p)) q) bitsLt_bf16_f32)
    (shapeCast S256x1024 d shapeCasts_S256x1024_S256x1024 : FVec Ideal S256x1024 .bf16) (constant S512x1024 .f32 0x00000000#32)

theorem chunk_apply (h : FVec Ideal S512x1024 .bf16) (a b : Vec Ideal S1024x256 .bf16) (d : Vec Ideal S256x1024 .bf16) (i : Fin 512) (j : Fin 1024) :
    chunk h a b d (ix2 i j) = ∑ f : Fin 256, ((∑ k, h (ix2 i k) * a (ix2 k f)) * Ideal.logistic (∑ k, h (ix2 i k) * a (ix2 k f))
      * ∑ k, h (ix2 i k) * b (ix2 k f)) * d (ix2 f j) := by
  pointwise [chunk]

/-- The columns, and the rows, of chunk `n`. -/
def colRect (n : ℕ) (hn : n < 11) : Rect S1024x2816 := Rect.unit (s := S1024x2816) ![0, 256 * n] S1024x256.size (by
  intro a; match a with | 0 => exact (by show 0 + 1024 ≤ 1024; omega) | 1 => exact (by show 256 * n + 256 ≤ 2816; omega))
def rowRect (n : ℕ) (hn : n < 11) : Rect S2816x1024 := Rect.unit (s := S2816x1024) ![256 * n, 0] S256x1024.size (by
  intro a; match a with | 0 => exact (by show 256 * n + 256 ≤ 2816; omega) | 1 => exact (by show 0 + 1024 ≤ 1024; omega))

def cols (w : Vec Ideal S1024x2816 .bf16) (n : ℕ) (hn : n < 11) : Vec Ideal S1024x256 .bf16 := View.ld w (colRect n hn)
def rows (w : Vec Ideal S2816x1024 .bf16) (n : ℕ) (hn : n < 11) : Vec Ideal S256x1024 .bf16 := View.ld w (rowRect n hn)
theorem cols_apply (w : Vec Ideal S1024x2816 .bf16) (n : ℕ) (hn : n < 11) (k : Fin 1024) (f : Fin 256) :
    cols w n hn (ix2 k f) = w (ix2 k ⟨256 * n + f.val, by omega⟩) := by
  refine congrArg w (funext fun a => Fin.ext ?_)
  match a with
  | ⟨0, _⟩ => show 0 + 1 * k.val = k.val; omega
  | ⟨1, _⟩ => show 256 * n + 1 * f.val = 256 * n + f.val; omega
theorem rows_apply (w : Vec Ideal S2816x1024 .bf16) (n : ℕ) (hn : n < 11) (f : Fin 256) (j : Fin 1024) :
    rows w n hn (ix2 f j) = w (ix2 ⟨256 * n + f.val, by omega⟩ j) := by
  refine congrArg w (funext fun a => Fin.ext ?_)
  match a with
  | ⟨0, _⟩ => show 256 * n + 1 * f.val = 256 * n + f.val; omega
  | ⟨1, _⟩ => show 0 + 1 * j.val = j.val; omega

/-- The sum of the first `n` chunks, as the kernels accumulate it. -/
def accum (h : FVec Ideal S512x1024 .bf16) (wg wu : Vec Ideal S1024x2816 .bf16) (wd : Vec Ideal S2816x1024 .bf16) : (n : ℕ) → n ≤ 11 → FVec Ideal S512x1024 .f32
  | 0, _ => broadcast S512x1024 (Scalar.ofBits (F := Ideal) .f32 0x00000000#32)
  | n + 1, hn => addf (accum h wg wu wd n (Nat.le_of_succ_le hn)) (chunk h (cols wg n hn) (cols wu n hn) (rows wd n hn))

section
variable (h : FVec Ideal S512x1024 .bf16) (wg wu : Vec Ideal S1024x2816 .bf16) (wd : Vec Ideal S2816x1024 .bf16) (i : Fin 512) (j : Fin 1024)

/-- The term of hidden column `f`, zero past the last one. -/
def term (f : ℕ) : EReal := if hf : f < 2816 then
  hidden (fun k => h (ix2 i k)) (fun k f => wg (ix2 k f)) (fun k f => wu (ix2 k f)) ⟨f, hf⟩ * wd (ix2 ⟨f, hf⟩ j) else 0

theorem accum_apply : ∀ (n : ℕ) (hn : n ≤ 11), accum h wg wu wd n hn (ix2 i j) = ∑ f ∈ Finset.range (256 * n), term h wg wu wd i j f
  | 0, _ => by
    show Ideal.ofBits .f32 0x00000000#32 = _
    rw [Nat.mul_zero, Finset.sum_range_zero]
    unfold Ideal.ofBits Ideal.ieee
    simp
  | n + 1, hn => by
    show accum h wg wu wd n _ (ix2 i j) + chunk h _ _ _ (ix2 i j) = _
    rw [accum_apply n, chunk_apply, Nat.mul_succ, Finset.sum_range_add]
    refine congrArg _ ?_
    rw [Finset.sum_range]
    refine Finset.sum_congr rfl fun f _ => ?_
    rw [term, dif_pos (show 256 * n + f.val < 2816 by omega), hidden]
    simp only [cols_apply, rows_apply]

/-- All eleven chunks. -/
theorem accum_all : accum h wg wu wd 11 (le_refl _) (ix2 i j)
    = ∑ f, hidden (fun k => h (ix2 i k)) (fun k f => wg (ix2 k f)) (fun k f => wu (ix2 k f)) f * wd (ix2 f j) := by
  rw [accum_apply, show 256 * 11 = 2816 from rfl, Finset.sum_range]
  exact Finset.sum_congr rfl fun f _ => dif_pos f.isLt
end

/-- The whole block, as the kernels compute it. -/
def stepVec (x : Vec Ideal S512x1024 .f32) (g : Vec Ideal S1x1024 .f32) (wg wu : Vec Ideal S1024x2816 .bf16) (wd : Vec Ideal S2816x1024 .bf16) : FVec Ideal S512x1024 .f32 :=
  addf x (mulf (broadcast S512x1024 (Scalar.ofBits (F := Ideal) .f32 0x3F000000#32)) (accum (normVec x g) wg wu wd 11 (le_refl _)))

theorem step_apply (x : Vec Ideal S512x1024 .f32) (g : Vec Ideal S1x1024 .f32) (wg wu : Vec Ideal S1024x2816 .bf16) (wd : Vec Ideal S2816x1024 .bf16) (i : Fin 512) (j : Fin 1024) :
    stepVec x g wg wu wd (ix2 i j) = halfStep (fun k => x (ix2 i k)) (fun k => g (ix2 0 k)) (fun k f => wg (ix2 k f)) (fun k f => wu (ix2 k f)) (fun f j => wd (ix2 f j)) j := by
  show x (ix2 i j) + Ideal.ofBits .f32 0x3F000000#32 * accum (normVec x g) wg wu wd 11 _ (ix2 i j) = _
  rw [accum_all, halfStep]
  simp only [norm_apply]

theorem hz : (![0, 0] : Fin 2 → Nat) = fun _ => 0 := funext fun a => by fin_cases a <;> rfl

/-- What the feed-forward kernel's body leaves in its result block. -/
theorem out_eq (x : Vec Ideal S512x1024 .f32) (g : Vec Ideal S1x1024 .f32) (wg wu : Vec Ideal S1024x2816 .bf16) (wd : Vec Ideal S2816x1024 .bf16) :
    out0_5 (F := Ideal) x g wg wu wd = stepVec x g wg wu wd := by
  unfold_out out0_5
  rw [View.canon_unit_zero hz, View.ld_unit_zero hz, View.ld_unit_zero hz]
  rfl

end Cert.Ffn

end
-- ==== Proof.FfnValue.lean ====
/-
  The feed-forward call: the kernel's array and the reference's result, each the half step of `Ffn` row by row.
-/
module

public import proofs.«01_k».proof.Proof.Ffn
public import proofs.«01_k».proof.Proof.Gen.Reference2Ideal.Run
public import Idealize.ShloMosaic.Lib.StableHlo.RunRead
public import Idealize.ShloMosaic.Lib.Claim

@[expose] public section

set_option maxRecDepth 16384
noncomputable section
open Idealize.ShloMosaic Idealize.ShloMosaic.TcCoe Idealize.SL.Sem
namespace Cert.Ffn

/-! ### The kernel's array -/

section Kernel
open Cert.Kernel2Ideal Cert.Kernel2Ideal.Gen Cert.Kernel2Ideal.Value

variable (m : (ℓ : Loc nD τ sig) → Buf (Elt Ideal) ℓ)

/-- What the host code hands to the kernel: the gain as a row, and the weights. -/
theorem handed (c : Dev nD) : V (F := Ideal) m c main_v0 = shapeCast S1x1024 (m ((c : Thread nD τ).loc main_arg1)) shapeCasts_S1024_S1x1024
    ∧ V (F := Ideal) m c main_v1 = m ((c : Thread nD τ).loc main_arg2) ∧ V (F := Ideal) m c main_v2 = m ((c : Thread nD τ).loc main_arg3)
    ∧ V (F := Ideal) m c main_v3 = m ((c : Thread nD τ).loc main_arg4) := by
  refine ⟨?_, ?_, ?_, ?_⟩ <;>
    (unfold_abbrev_sides; after_reads_simp; rfl)

/-- Row `i` of point `t`'s block. -/
def rowOf (t : Fin cfg0.N) (i : Fin 512) : Fin 32768 := ⟨512 * t.val + i.val, by
  have h := lt_of_lt_of_eq t.isLt (show cfg0.N = 64 from N_0); have := i.isLt; omega⟩

/-- Where each window's block starts: the first and the last move with the point, the rest stay. -/
theorem starts : ∀ t : Fin cfg0.N, (win0_0.index t 0 = t.val ∧ win0_0.index t 1 = 0) ∧ (win0_5.index t 0 = t.val ∧ win0_5.index t 1 = 0)
    ∧ (∀ a, win0_1.index t a = 0) ∧ (∀ a, win0_2.index t a = 0) ∧ (∀ a, win0_3.index t a = 0) ∧ (∀ a, win0_4.index t a = 0) :=
  (by decide +kernel : ∀ t : Fin grid0.N, (win0_0.index t 0 = t.val ∧ win0_0.index t 1 = 0) ∧ (win0_5.index t 0 = t.val ∧ win0_5.index t 1 = 0)
    ∧ (∀ a, win0_1.index t a = 0) ∧ (∀ a, win0_2.index t a = 0) ∧ (∀ a, win0_3.index t a = 0) ∧ (∀ a, win0_4.index t a = 0))

theorem blk_in0 (c : Dev nD) (t : Fin cfg0.N) (i : Fin 512) (j : Fin 1024) :
    (iblk m c 0 t : Vec Ideal S512x1024 .f32) (ix2 i j) = (m ((c : Thread nD τ).loc main_arg0) : Vec Ideal S32768x1024 .f32) (ix2 (rowOf t i) j) := by
  obtain ⟨⟨h, h'⟩, -⟩ := starts t
  unfold iblk
  rw [View.read_apply]
  show V m c main_arg0 _ = _
  rw [V_main_arg0]
  refine congrArg _ (funext fun a => Fin.ext ?_)
  match a with
  | ⟨0, _⟩ => show win0_0.index t 0 * 512 + 1 * i.val = 512 * t.val + i.val; omega
  | ⟨1, _⟩ => show win0_0.index t 1 * 1024 + 1 * j.val = j.val; omega
theorem blk_in1 (c : Dev nD) (t : Fin cfg0.N) : (iblk m c 1 t : Vec Ideal S1x1024 .f32) = shapeCast S1x1024 (m ((c : Thread nD τ).loc main_arg1)) shapeCasts_S1024_S1x1024 :=
  (funext fun y => congrArg (V m c main_v0) (funext fun a => Fin.ext (win0_1.rect_emb_val_of_index_zero t a ((starts t).2.2.1 a) y))).trans (handed m c).1
theorem blk_in2 (c : Dev nD) (t : Fin cfg0.N) : (iblk m c 2 t : Vec Ideal S1024x2816 .bf16) = m ((c : Thread nD τ).loc main_arg2) :=
  (funext fun y => congrArg (V m c main_v1) (funext fun a => Fin.ext (win0_2.rect_emb_val_of_index_zero t a ((starts t).2.2.2.1 a) y))).trans (handed m c).2.1
theorem blk_in3 (c : Dev nD) (t : Fin cfg0.N) : (iblk m c 3 t : Vec Ideal S1024x2816 .bf16) = m ((c : Thread nD τ).loc main_arg3) :=
  (funext fun y => congrArg (V m c main_v2) (funext fun a => Fin.ext (win0_3.rect_emb_val_of_index_zero t a ((starts t).2.2.2.2.1 a) y))).trans (handed m c).2.2.1
theorem blk_in4 (c : Dev nD) (t : Fin cfg0.N) : (iblk m c 4 t : Vec Ideal S2816x1024 .bf16) = m ((c : Thread nD τ).loc main_arg4) :=
  (funext fun y => congrArg (V m c main_v3) (funext fun a => Fin.ext (win0_4.rect_emb_val_of_index_zero t a ((starts t).2.2.2.2.2 a) y))).trans (handed m c).2.2.2

theorem gain_apply (x : FVec Ideal S1024 .f32) (j : Fin 1024) : (shapeCast S1x1024 x shapeCasts_S1024_S1x1024) (ix2 0 j) = x (ix1 j) := by
  pointwise

/-- The result array at a row and a column, from the arrays as launched. -/
def stepAt (c : Dev nD) (r : Fin 32768) (j : Fin 1024) : EReal :=
  halfStep (fun k => (m ((c : Thread nD τ).loc main_arg0) : Vec Ideal S32768x1024 .f32) (ix2 r k))
    (fun k => (m ((c : Thread nD τ).loc main_arg1) : Vec Ideal S1024 .f32) (ix1 k))
    (fun k f => (m ((c : Thread nD τ).loc main_arg2) : Vec Ideal S1024x2816 .f32) (ix2 k f))
    (fun k f => (m ((c : Thread nD τ).loc main_arg3) : Vec Ideal S1024x2816 .f32) (ix2 k f))
    (fun f k => (m ((c : Thread nD τ).loc main_arg4) : Vec Ideal S2816x1024 .f32) (ix2 f k)) j

theorem point_apply (c : Dev nD) (t : Fin cfg0.N) (i : Fin 512) (j : Fin 1024) :
    out0_5 (F := Ideal) (iblk m c 0 t) (iblk m c 1 t) (iblk m c 2 t) (iblk m c 3 t) (iblk m c 4 t) (ix2 i j) = stepAt m c (rowOf t i) j := by
  rw [blk_in1, blk_in2, blk_in3, blk_in4, out_eq, step_apply]
  rw [funext (fun k => blk_in0 m c t i k), funext (fun k => gain_apply (m ((c : Thread nD τ).loc main_arg1)) k)]
  rfl

theorem result_apply (c : Dev nD) (r : Fin 32768) (j : Fin 1024) :
    ((dats m 0 c).arrAt 5 cfg0.N : Vec Ideal S32768x1024 .f32) (ix2 r j) = stepAt m c r j := by
  have hN : cfg0.N = 64 := N_0
  have ht : r.val / 512 < cfg0.N := by rw [hN]; have := r.isLt; omega
  have hi : r.val % 512 < 512 := Nat.mod_lt _ (by decide)
  obtain ⟨t, i, rfl⟩ : ∃ (t : Fin cfg0.N) (i : Fin 512), r = rowOf t i :=
    ⟨⟨r.val / 512, ht⟩, ⟨r.val % 512, hi⟩, Fin.ext (by show r.val = 512 * (r.val / 512) + r.val % 512; omega)⟩
  obtain ⟨-, ⟨h, h'⟩, -⟩ := starts t
  have hb := congrFun (blocks5 m c t (flush0_5 t)) (ix2 i j)
  rw [flushed5, View.read_apply] at hb
  have he : ((cfg0.win 5).blk t).view.emb (ix2 i j) = (ix2 (rowOf t i) j : S32768x1024.Idx) := by
    refine funext fun a => Fin.ext ?_
    match a with
    | ⟨0, _⟩ => show win0_5.index t 0 * 512 + 1 * i.val = 512 * t.val + i.val; omega
    | ⟨1, _⟩ => show win0_5.index t 1 * 1024 + 1 * j.val = j.val; omega
  rw [he] at hb
  exact (hb.trans (point_apply m c t i j))

end Kernel

/-! ### The reference's result -/

section Reference
open Cert.Reference2Ideal Cert.Reference2Ideal.Gen

/-- The rows over their root mean square, times the gain. -/
def refNorm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
    (Host.reduceAdd (mulf x x) (constant S_ .f32 0x00000000#32) reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))
theorem refNorm_apply (x : FVec Ideal S32768x1024 .f32) (g : FVec Ideal S1024 .f32) (r : Fin 32768) (j : Fin 1024) :
    refNorm x g (ix2 r j) = normed (fun k => x (ix2 r k)) (fun k => g (ix1 k)) j := by
  pointwise [refNorm, normed]

/-- A matrix of rows by one of columns. -/
def refUp (h : FVec Ideal S32768x1024 .f32) (w : FVec Ideal S1024x2816 .f32) : FVec Ideal S32768x2816 .f32 :=
  Host.dotGeneral dot_S32768x1024_S1024x2816_S32768x2816_1_0_0_1_n_n none h w
theorem refUp_apply (h : FVec Ideal S32768x1024 .f32) (w : FVec Ideal S1024x2816 .f32) (r : Fin 32768) (f : Fin 2816) :
    refUp h w (ix2 r f) = ∑ k, h (ix2 r k) * w (ix2 k f) := by
  pointwise [refUp]
/-- The gated columns. -/
def refHidden (a b : FVec Ideal S32768x2816 .f32) : FVec Ideal S32768x2816 .f32 :=
  mulf (mulf a (Host.divf (broadcastInDim S32768x2816 ![] bcast_S_S32768x2816 (constant S_ .f32 0x3F800000#32))
    (addf (broadcastInDim S32768x2816 ![] bcast_S_S32768x2816 (constant S_ .f32 0x3F800000#32)) (Host.exp (Host.negf a))))) b
/-- Half of the hidden columns through the last weights, added to the rows. -/
def refHalf (x : FVec Ideal S32768x1024 .f32) (h : FVec Ideal S32768x2816 .f32) (wd : FVec Ideal S2816x1024 .f32) : FVec Ideal S32768x1024 .f32 :=
  addf x (mulf (broadcastInDim S32768x1024 ![] bcast_S_S32768x1024 (constant S_ .f32 0x3F000000#32))
    (Host.dotGeneral dot_S32768x2816_S2816x1024_S32768x1024_1_0_0_1_n_n none h wd))
theorem refHalf_apply (x : FVec Ideal S32768x1024 .f32) (h : FVec Ideal S32768x2816 .f32) (wd : FVec Ideal S2816x1024 .f32) (r : Fin 32768) (j : Fin 1024) :
    refHalf x h wd (ix2 r j) = x (ix2 r j) + Ideal.ofBits .f32 0x3F000000#32 * ∑ f, h (ix2 r f) * wd (ix2 f j) := by
  pointwise [refHalf]
/-- The whole step. -/
def refStep (x : FVec Ideal S32768x1024 .f32) (g : FVec Ideal S1024 .f32) (wg wu : FVec Ideal S1024x2816 .f32) (wd : FVec Ideal S2816x1024 .f32) : FVec Ideal S32768x1024 .f32 :=
  refHalf x (refHidden (refUp (refNorm x g) wg) (refUp (refNorm x g) wu)) wd
theorem refHidden_apply (a b : FVec Ideal S32768x2816 .f32) (r : Fin 32768) (f : Fin 2816) :
    refHidden a b (ix2 r f) = a (ix2 r f) * Ideal.logistic (a (ix2 r f)) * b (ix2 r f) := by
  rw [show Ideal.logistic (a (ix2 r f)) = Ideal.div 1 (1 + Ideal.exp (-(a (ix2 r f)))) from rfl]
  pointwise [refHidden]
theorem refStep_apply (x : FVec Ideal S32768x1024 .f32) (g : FVec Ideal S1024 .f32) (wg wu : FVec Ideal S1024x2816 .f32) (wd : FVec Ideal S2816x1024 .f32)
    (r : Fin 32768) (j : Fin 1024) : refStep x g wg wu wd (ix2 r j)
      = halfStep (fun k => x (ix2 r k)) (fun k => g (ix1 k)) (fun k f => wg (ix2 k f)) (fun k f => wu (ix2 k f)) (fun f k => wd (ix2 f k)) j := by
  have hh : ∀ f, refHidden (refUp (refNorm x g) wg) (refUp (refNorm x g) wu) (ix2 r f)
      = hidden (normed (fun k => x (ix2 r k)) (fun k => g (ix1 k))) (fun k f => wg (ix2 k f)) (fun k f => wu (ix2 k f)) f := fun f => by
    rw [refHidden_apply, refUp_apply, refUp_apply]
    simp only [refNorm_apply]
    rfl
  unfold refStep
  rw [refHalf_apply]
  simp only [hh]
  rfl

/-- The kernel's array is the reference's result, when the arrays they start from are the same. -/
theorem kernel_eq_reference (m : (ℓ : Loc Cert.Kernel2Ideal.nD Cert.Kernel2Ideal.τ Cert.Kernel2Ideal.sig) → Buf (Elt Ideal) ℓ) (c : Dev Cert.Kernel2Ideal.nD) :
    ((Cert.Kernel2Ideal.Gen.dats m 0 c).arrAt 5 Cert.Kernel2Ideal.cfg0.N : Vec Ideal S32768x1024 .f32)
      = refStep (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) := by
  funext i
  rw [eq_ix2 i]
  exact (result_apply m c (i 0) (i 1)).trans (refStep_apply _ _ _ _ _ (i 0) (i 1)).symm

end Reference

end Cert.Ffn

end
-- ==== Proof.Mixer.lean ====
/-
  The post mixer call's body: the output projection in four products, the feed-forward half step of `Ffn`, and the gated embedding.
-/
module

public import proofs.«01_k».proof.Proof.Ffn
public import proofs.«01_k».proof.Proof.Gen.Kernel3Ideal.Value

@[expose] public section

set_option maxRecDepth 16384
noncomputable section
open Idealize.ShloMosaic Idealize.ShloMosaic.TcCoe Idealize.SL.Sem
namespace Cert.Mixer
open Cert.Kernel3Ideal Cert.Kernel3Ideal.Gen Cert.Ffn

/-! ### One row -/

/-- The row with the mixers' outputs through their weights added. -/
def mixed (x : Fin 1024 → EReal) (a b : Fin 192 → EReal) (d : Fin 256 → EReal) (h : Fin 384 → EReal) (wa wb : Fin 192 → Fin 1024 → EReal)
    (wd : Fin 256 → Fin 1024 → EReal) (wh : Fin 384 → Fin 1024 → EReal) (j : Fin 1024) : EReal :=
  x j + ((∑ k, a k * wa k j) + (∑ k, b k * wb k j) + (∑ k, d k * wd k j) + ∑ k, h k * wh k j)

/-- The row with its gated embedding added. -/
def embed (y : Fin 1024 → EReal) (p : Fin 256 → EReal) (pn : Fin 1024 → EReal) (wg : Fin 1024 → Fin 1024 → EReal) (wp : Fin 256 → Fin 1024 → EReal)
    (gn : Fin 1024 → EReal) (j : Fin 1024) : EReal :=
  y j + Ideal.logistic (∑ k, normed y pn k * wg k j) * normed (fun l => ∑ k, p k * wp k l) gn j

/-! ### The body -/

theorem mix_apply (v0 : Vec Ideal S512x1024 .f32) (v1 : Vec Ideal S1x512x192 .bf16) (v3 : Vec Ideal S1x192x1024 .bf16) (v6 : Vec Ideal S1x512x192 .bf16)
    (v8 : Vec Ideal S1x192x1024 .bf16) (v12 : Vec Ideal S512x256 .bf16) (v13 : Vec Ideal S256x1024 .bf16) (v17 : Vec Ideal S512x384 .bf16) (v18 : Vec Ideal S384x1024 .bf16)
    (i : Fin 512) (j : Fin 1024) : k0_pay2 (F := Ideal) v0 v1 v3 v6 v8 v12 v13 v17 v18 (ix2 i j)
      = mixed (fun k => v0 (ix2 i k)) (fun k => v1 (ix3 0 i k)) (fun k => v6 (ix3 0 i k)) (fun k => v12 (ix2 i k)) (fun k => v17 (ix2 i k))
        (fun k j => v3 (ix3 0 k j)) (fun k j => v8 (ix3 0 k j)) (fun k j => v13 (ix2 k j)) (fun k j => v18 (ix2 k j)) j := by
  pointwise [k0_pay2, mixed]

/-- The gate of the embedding. -/
def gateVec (y : FVec Ideal S512x1024 .f32) (pn : Vec Ideal S1x1024 .f32) (wg : Vec Ideal S1024x1024 .bf16) : FVec Ideal S512x1024 .f32 :=
  logistic (matmul dot_S512x1024_S1024x1024_S512x1024_1_0_0_1_n_n none (normVec y pn)
    (shapeCast S1024x1024 wg shapeCasts_S1024x1024_S1024x1024 : FVec Ideal S1024x1024 .bf16) (constant S512x1024 .f32 0x00000000#32))
theorem gate_apply (y : FVec Ideal S512x1024 .f32) (pn : Vec Ideal S1x1024 .f32) (wg : Vec Ideal S1024x1024 .bf16) (i : Fin 512) (j : Fin 1024) :
    gateVec y pn wg (ix2 i j) = Ideal.logistic (∑ k, normed (fun l => y (ix2 i l)) (fun l => pn (ix2 0 l)) k * wg (ix2 k j)) := by
  have h : gateVec y pn wg (ix2 i j) = Ideal.logistic (∑ k, normVec y pn (ix2 i k) * wg (ix2 k j)) := by
    unfold gateVec
    generalize normVec y pn = n
    pointwise
  rw [h]
  simp only [norm_apply]

theorem tail_apply (y g : FVec Ideal S512x1024 .f32) (p : FVec Ideal S512x256 .bf16) (wp : Vec Ideal S256x1024 .bf16) (gn : Vec Ideal S1x1024 .f32) (i : Fin 512) (j : Fin 1024) :
    k0_pay1 (F := Ideal) y g p wp gn (ix2 i j)
      = y (ix2 i j) + g (ix2 i j) * normed (fun l => ∑ k, p (ix2 i k) * wp (ix2 k l)) (fun l => gn (ix2 0 l)) j := by
  pointwise [k0_pay1, normed]

section Body
variable (x0 : Vec Ideal S512x1024 .f32) (x1 : Vec Ideal S2x512x192 .bf16) (x2 : Vec Ideal S512x256 .bf16) (x3 : Vec Ideal S512x384 .bf16) (x4 : Vec Ideal S2x192x1024 .bf16)
  (x5 : Vec Ideal S256x1024 .bf16) (x6 : Vec Ideal S384x1024 .bf16) (x7 : Vec Ideal S1x1024 .f32) (x8 : Vec Ideal S1024x2816 .bf16) (x9 : Vec Ideal S1024x2816 .bf16)
  (x10 : Vec Ideal S2816x1024 .bf16) (x11 : Vec Ideal S512x256 .f32) (x12 : Vec Ideal S1x1024 .f32) (x13 : Vec Ideal S1024x1024 .bf16) (x14 : Vec Ideal S256x1024 .bf16) (x15 : Vec Ideal S1x1024 .f32)

/-- The block after the output projection. -/
def mixVec : FVec Ideal S512x1024 .f32 :=
  k0_pay2 (F := Ideal) x0 (View.ld x1 r0_1) (View.ld x4 r0_2) (View.ld x1 r0_3) (View.ld x4 r0_4) x2 x5 x3 x6

theorem mixVec_apply (i : Fin 512) (j : Fin 1024) : mixVec x0 x1 x2 x3 x4 x5 x6 (ix2 i j)
    = mixed (fun k => x0 (ix2 i k)) (fun k => x1 (ix3 0 i k)) (fun k => x1 (ix3 1 i k)) (fun k => x2 (ix2 i k)) (fun k => x3 (ix2 i k))
        (fun k j => x4 (ix3 0 k j)) (fun k j => x4 (ix3 1 k j)) (fun k j => x5 (ix2 k j)) (fun k j => x6 (ix2 k j)) j := by
  unfold mixVec
  rw [mix_apply]
  have e1 (k : Fin 192) : View.ld x1 r0_1 (ix3 0 i k) = x1 (ix3 0 i k) := congrArg x1 (funext fun a => Fin.ext (by
    match a with
    | ⟨0, _⟩ => rfl
    | ⟨1, _⟩ => show 0 + 1 * i.val = i.val; omega
    | ⟨2, _⟩ => show 0 + 1 * k.val = k.val; omega))
  have e2 (k : Fin 192) : View.ld x1 r0_3 (ix3 0 i k) = x1 (ix3 1 i k) := congrArg x1 (funext fun a => Fin.ext (by
    match a with
    | ⟨0, _⟩ => rfl
    | ⟨1, _⟩ => show 0 + 1 * i.val = i.val; omega
    | ⟨2, _⟩ => show 0 + 1 * k.val = k.val; omega))
  have e3 (k : Fin 192) (j : Fin 1024) : View.ld x4 r0_2 (ix3 0 k j) = x4 (ix3 0 k j) := congrArg x4 (funext fun a => Fin.ext (by
    match a with
    | ⟨0, _⟩ => rfl
    | ⟨1, _⟩ => show 0 + 1 * k.val = k.val; omega
    | ⟨2, _⟩ => show 0 + 1 * j.val = j.val; omega))
  have e4 (k : Fin 192) (j : Fin 1024) : View.ld x4 r0_4 (ix3 0 k j) = x4 (ix3 1 k j) := congrArg x4 (funext fun a => Fin.ext (by
    match a with
    | ⟨0, _⟩ => rfl
    | ⟨1, _⟩ => show 0 + 1 * k.val = k.val; omega
    | ⟨2, _⟩ => show 0 + 1 * j.val = j.val; omega))
  simp only [e1, e2, e3, e4]

theorem first_eq : k0_pay18 (F := Ideal) x0 x1 x2 x3 x4 x5 x6 x7 x8 x9 x10 x11 x12 x13 x14 x15 = mixVec x0 x1 x2 x3 x4 x5 x6 := by
  unfold k0_pay18 mixVec
  rw [View.ld_unit_zero hz _ x0, View.ld_unit_zero hz _ x2, View.ld_unit_zero hz _ x5, View.ld_unit_zero hz _ x3, View.ld_unit_zero hz _ x6]

theorem squares_eq : k0_pay20 (F := Ideal) x0 x1 x2 x3 x4 x5 x6 x7 x8 x9 x10 x11 x12 x13 x14 x15 = k0_pay4 (F := Ideal) x0 (View.ld x1 r0_1) (View.ld x4 r0_2) (View.ld x1 r0_3) (View.ld x4 r0_4) x2 x5 x3 x6 := by
  unfold k0_pay20
  rw [View.ld_unit_zero hz _ x0, View.ld_unit_zero hz _ x2, View.ld_unit_zero hz _ x5, View.ld_unit_zero hz _ x3, View.ld_unit_zero hz _ x6]

theorem gain_eq : k0_pay19 (F := Ideal) x0 x1 x2 x3 x4 x5 x6 x7 x8 x9 x10 x11 x12 x13 x14 x15 = k0_pay3 x7 := by
  unfold k0_pay19
  rw [View.ld_unit_zero hz _ x7]

theorem norm_eq : k0_pay22 (F := Ideal) x0 x1 x2 x3 x4 x5 x6 x7 x8 x9 x10 x11 x12 x13 x14 x15 = normVec (mixVec x0 x1 x2 x3 x4 x5 x6) x7 := by
  unfold k0_pay22
  rw [first_eq, squares_eq, gain_eq]
  rfl

theorem chunks_eq : k0_pay24 (F := Ideal) x0 x1 x2 x3 x4 x5 x6 x7 x8 x9 x10 x11 x12 x13 x14 x15 = accum (normVec (mixVec x0 x1 x2 x3 x4 x5 x6) x7) x8 x9 x10 9 (by decide) := by
  unfold k0_pay24
  rw [norm_eq, first_eq, squares_eq, gain_eq]
  rfl

/-- The block after the half step. -/
def halfVec : FVec Ideal S512x1024 .f32 := stepVec (mixVec x0 x1 x2 x3 x4 x5 x6) x7 x8 x9 x10

theorem half_eq : k0_pay15 (F := Ideal) (k0_pay18 x0 x1 x2 x3 x4 x5 x6 x7 x8 x9 x10 x11 x12 x13 x14 x15) (k0_pay22 x0 x1 x2 x3 x4 x5 x6 x7 x8 x9 x10 x11 x12 x13 x14 x15) (k0_pay24 x0 x1 x2 x3 x4 x5 x6 x7 x8 x9 x10 x11 x12 x13 x14 x15) (k0_pay25 x0 x1 x2 x3 x4 x5 x6 x7 x8 x9 x10 x11 x12 x13 x14 x15) (k0_pay26 x0 x1 x2 x3 x4 x5 x6 x7 x8 x9 x10 x11 x12 x13 x14 x15) (k0_pay23 x0 x1 x2 x3 x4 x5 x6 x7 x8 x9 x10 x11 x12 x13 x14 x15) (View.ld x8 r0_30) (View.ld x9 r0_30) (View.ld x10 r0_31)
    = halfVec x0 x1 x2 x3 x4 x5 x6 x7 x8 x9 x10 := by
  unfold k0_pay25 k0_pay26 k0_pay23
  rw [norm_eq, first_eq, chunks_eq]
  rfl

theorem gate_eq (v22 : FVec Ideal S512x1024 .f32) (v37 : FVec Ideal S512x1024 .bf16) (v164 : FVec Ideal S512x1024 .f32) (v174 : FVec Ideal S512x256 .bf16)
    (v176 : FVec Ideal S256x1024 .bf16) (z : FVec Ideal S512x1024 .f32) (v179 v182 : Vec Ideal S1024x256 .bf16) (v189 : Vec Ideal S256x1024 .bf16) :
    k0_pay16 (F := Ideal) v22 v37 v164 v174 v176 z v179 v182 v189 x12 x13 = gateVec (k0_pay15 (F := Ideal) v22 v37 v164 v174 v176 z v179 v182 v189) x12 x13 := rfl

/-- What the post mixer's body leaves in its result block. -/
theorem out_apply (i : Fin 512) (j : Fin 1024) : out0_16 (F := Ideal) x0 x1 x2 x3 x4 x5 x6 x7 x8 x9 x10 x11 x12 x13 x14 x15 (ix2 i j)
    = embed (halfStep (mixed (fun k => x0 (ix2 i k)) (fun k => x1 (ix3 0 i k)) (fun k => x1 (ix3 1 i k)) (fun k => x2 (ix2 i k)) (fun k => x3 (ix2 i k))
        (fun k j => x4 (ix3 0 k j)) (fun k j => x4 (ix3 1 k j)) (fun k j => x5 (ix2 k j)) (fun k j => x6 (ix2 k j)))
        (fun k => x7 (ix2 0 k)) (fun k f => x8 (ix2 k f)) (fun k f => x9 (ix2 k f)) (fun f k => x10 (ix2 f k)))
      (fun k => x11 (ix2 i k)) (fun k => x12 (ix2 0 k)) (fun k j => x13 (ix2 k j)) (fun k j => x14 (ix2 k j)) (fun k => x15 (ix2 0 k)) j := by
  unfold out0_16
  rw [View.canon_unit_zero hz, View.ld_unit_zero hz _ x12, View.ld_unit_zero hz _ x13, View.ld_unit_zero hz _ x11, View.ld_unit_zero hz _ x14, View.ld_unit_zero hz _ x15,
    gate_eq, half_eq, tail_apply, gate_apply]
  unfold halfVec
  simp only [step_apply, mixVec_apply]
  rfl

end Body

end Cert.Mixer

end
-- ==== Proof.MixerRef.lean ====
/-
  The reference of the post mixer call, row by row: the mixers' outputs side by side through the output weights, the half step, the embedding.
-/
module

public import proofs.«01_k».proof.Proof.Mixer
public import proofs.«01_k».proof.Proof.FfnValue
public import proofs.«01_k».proof.Proof.Gen.Reference3Ideal.Run

@[expose] public section

set_option maxRecDepth 16384
noncomputable section
open Idealize.ShloMosaic Idealize.ShloMosaic.TcCoe Idealize.SL.Sem
namespace Cert.Mixer

/-- The rows of 1024 entries in the four runs the mixers' outputs fill. -/
def runA (k : Fin 192) : Fin 1024 := ⟨k.val, by omega⟩
def runB (k : Fin 192) : Fin 1024 := ⟨192 + k.val, by omega⟩
def runC (k : Fin 256) : Fin 1024 := ⟨384 + k.val, by omega⟩
def runD (k : Fin 384) : Fin 1024 := ⟨640 + k.val, by omega⟩

/-- One sum over 1024 entries is the four sums over the runs. -/
theorem sum_runs (f : Fin 1024 → EReal) : ∑ k, f k = (∑ k, f (runA k)) + (∑ k, f (runB k)) + (∑ k, f (runC k)) + ∑ k, f (runD k) := by
  show ∑ k : Fin (192 + 192 + 256 + 384), f k = _
  rw [Fin.sum_univ_add, Fin.sum_univ_add, Fin.sum_univ_add]
  rfl

section Reference
open Cert.Reference3Ideal Cert.Reference3Ideal.Gen Cert.Ffn

/-- The mixers' outputs side by side. -/
def refCat (n : FVec Ideal S2x32768x192 .bf16) (d : FVec Ideal S32768x256 .bf16) (h : FVec Ideal S32768x384 .bf16) : FVec Ideal S32768x1024 .f32 :=
  concatenate S32768x1024 1 [⟨S32768x384, (shapeCast S32768x384 (transpose S32768x2x192 [1, 0, 2] (extf .f32 n bitsLt_bf16_f32 : FVec Ideal S2x32768x192 .f32) transposes_S2x32768x192_S32768x2x192_1_0_2) shapeCasts_S32768x2x192_S32768x384 : FVec Ideal S32768x384 .f32)⟩,
    ⟨S32768x256, (extf .f32 d bitsLt_bf16_f32 : FVec Ideal S32768x256 .f32)⟩, ⟨S32768x384, (extf .f32 h bitsLt_bf16_f32 : FVec Ideal S32768x384 .f32)⟩] concatenates_S32768x384_S32768x256_S32768x384_S32768x1024_d1

variable (n : FVec Ideal S2x32768x192 .bf16) (d : FVec Ideal S32768x256 .bf16) (h : FVec Ideal S32768x384 .bf16) (r : Fin 32768)

theorem cat_a (k : Fin 192) : refCat n d h (ix2 r (runA k)) = n (ix3 0 r k) := by
  pointwise [refCat, runA]
  have hk := k.isLt
  refine (dif_pos (by omega)).trans (congrArg n (funext fun a => Fin.ext ?_))
  match a with
  | ⟨0, _⟩ => first | (show k.val / 192 = 0; omega) | (show k.val / 192 % 2 = 0; omega)
  | ⟨1, _⟩ => rfl
  | ⟨2, _⟩ => show k.val % 192 = k.val; omega
theorem cat_b (k : Fin 192) : refCat n d h (ix2 r (runB k)) = n (ix3 1 r k) := by
  pointwise [refCat, runB]
  have hk := k.isLt
  refine (dif_pos (by omega)).trans (congrArg n (funext fun a => Fin.ext ?_))
  match a with
  | ⟨0, _⟩ => first | (show (192 + k.val) / 192 = 1; omega) | (show (192 + k.val) / 192 % 2 = 1; omega)
  | ⟨1, _⟩ => rfl
  | ⟨2, _⟩ => rfl
theorem cat_c (k : Fin 256) : refCat n d h (ix2 r (runC k)) = d (ix2 r k) := by
  pointwise [refCat, runC]
theorem cat_d (k : Fin 384) : refCat n d h (ix2 r (runD k)) = h (ix2 r k) := by
  pointwise [refCat, runD]
  have hk := k.isLt
  refine (dif_neg (by omega)).trans ((dif_neg (by omega)).trans (congrArg h (funext fun a => Fin.ext ?_)))
  match a with
  | ⟨0, _⟩ => rfl
  | ⟨1, _⟩ => show 640 + k.val - 384 - 256 = k.val; omega

/-- The rows with the mixers' outputs through their weights added. -/
def refMix (x : FVec Ideal S32768x1024 .f32) (w : FVec Ideal S1024x1024 .f32) : FVec Ideal S32768x1024 .f32 :=
  addf x (Host.dotGeneral dot_S32768x1024_S1024x1024_S32768x1024_1_0_0_1_n_n none (refCat n d h) w)
theorem refMix_apply (x : FVec Ideal S32768x1024 .f32) (w : FVec Ideal S1024x1024 .f32) (j : Fin 1024) : refMix n d h x w (ix2 r j)
    = mixed (fun k => x (ix2 r k)) (fun k => n (ix3 0 r k)) (fun k => n (ix3 1 r k)) (fun k => d (ix2 r k)) (fun k => h (ix2 r k))
      (fun k j => w (ix2 (runA k) j)) (fun k j => w (ix2 (runB k) j)) (fun k j => w (ix2 (runC k) j)) (fun k j => w (ix2 (runD k) j)) j := by
  have e : refMix n d h x w (ix2 r j) = x (ix2 r j) + ∑ k, refCat n d h (ix2 r k) * w (ix2 k j) := by
    unfold refMix
    generalize refCat n d h = u
    pointwise
  rw [e, sum_runs]
  simp only [cat_a, cat_b, cat_c, cat_d]
  rfl

/-- The logistic of a product of rows with a square of weights. -/
def refGate (y : FVec Ideal S32768x1024 .f32) (w : FVec Ideal S1024x1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (Host.dotGeneral dot_S32768x1024_S1024x1024_S32768x1024_1_0_0_1_n_n none y w))))
theorem refGate_apply (y : FVec Ideal S32768x1024 .f32) (w : FVec Ideal S1024x1024 .f32) (j : Fin 1024) :
    refGate y w (ix2 r j) = Ideal.logistic (∑ k, y (ix2 r k) * w (ix2 k j)) := by
  show _ = Ideal.div 1 (1 + Ideal.exp (-(∑ k, y (ix2 r k) * w (ix2 k j))))
  pointwise [refGate]

/-- The embedding's product. -/
def refProj (p : FVec Ideal S32768x256 .f32) (w : FVec Ideal S256x1024 .f32) : FVec Ideal S32768x1024 .f32 :=
  Host.dotGeneral dot_S32768x256_S256x1024_S32768x1024_1_0_0_1_n_n none p w
theorem refProj_apply (p : FVec Ideal S32768x256 .f32) (w : FVec Ideal S256x1024 .f32) (j : Fin 1024) :
    refProj p w (ix2 r j) = ∑ k, p (ix2 r k) * w (ix2 k j) := by
  pointwise [refProj]

/-- The end of the call, from the rows after the half step. -/
def refEmbed (y : FVec Ideal S32768x1024 .f32) (p : FVec Ideal S32768x256 .f32) (pn : FVec Ideal S1024 .f32) (wg : FVec Ideal S1024x1024 .f32) (wp : FVec Ideal S256x1024 .f32)
    (gn : FVec Ideal S1024 .f32) : FVec Ideal S32768x1024 .f32 :=
  addf y (mulf (refGate (refNorm y pn) wg) (refNorm (refProj p wp) gn))
theorem refEmbed_apply (y : FVec Ideal S32768x1024 .f32) (p : FVec Ideal S32768x256 .f32) (pn : FVec Ideal S1024 .f32) (wg : FVec Ideal S1024x1024 .f32) (wp : FVec Ideal S256x1024 .f32)
    (gn : FVec Ideal S1024 .f32) (j : Fin 1024) : refEmbed y p pn wg wp gn (ix2 r j)
      = embed (fun k => y (ix2 r k)) (fun k => p (ix2 r k)) (fun k => pn (ix1 k)) (fun k j => wg (ix2 k j)) (fun k j => wp (ix2 k j)) (fun k => gn (ix1 k)) j := by
  show y (ix2 r j) + refGate (refNorm y pn) wg (ix2 r j) * refNorm (refProj p wp) gn (ix2 r j) = _
  rw [refGate_apply, refNorm_apply]
  simp only [refNorm_apply, refProj_apply]
  rfl

/-- The reference's result is these in a row. -/
theorem result_eq (m : (ℓ : Loc nD τ sig) → Buf (Elt Ideal) ℓ) (c : Dev nD) : Cert.Reference3Ideal.Value.res_main_v64 (F := Ideal) m c
    = refEmbed (refStep (refMix (m ((c : Thread nD τ).loc main_arg1)) (m ((c : Thread nD τ).loc main_arg2)) (m ((c : Thread nD τ).loc main_arg3))
        (m ((c : Thread nD τ).loc main_arg0)) (m ((c : Thread nD τ).loc main_arg4))) (m ((c : Thread nD τ).loc main_arg5)) (m ((c : Thread nD τ).loc main_arg6))
        (m ((c : Thread nD τ).loc main_arg7)) (m ((c : Thread nD τ).loc main_arg8)))
      (m ((c : Thread nD τ).loc main_arg9)) (m ((c : Thread nD τ).loc main_arg10)) (m ((c : Thread nD τ).loc main_arg11)) (m ((c : Thread nD τ).loc main_arg12))
      (m ((c : Thread nD τ).loc main_arg13)) := rfl

end Reference

end Cert.Mixer

end
-- ==== Proof.MixerValue.lean ====
/-
  The post mixer call's array: each block from the arrays as launched, and the whole against the reference.
-/
module

public import proofs.«01_k».proof.Proof.MixerRef

@[expose] public section

set_option maxRecDepth 16384
noncomputable section
open Idealize.ShloMosaic Idealize.ShloMosaic.TcCoe Idealize.SL.Sem
namespace Cert.Mixer
open Cert.Kernel3Ideal Cert.Kernel3Ideal.Gen Cert.Kernel3Ideal.Value Cert.Ffn

variable (m : (ℓ : Loc nD τ sig) → Buf (Elt Ideal) ℓ)

/-! ### What the host code hands to the kernel -/

/-- The three pieces of the output weights. -/
def groupsOf (w : FVec Ideal S1024x1024 .f32) : FVec Ideal S2x192x1024 .bf16 :=
  shapeCast S2x192x1024 (extractStridedSlice S384x1024 ![0, 0] (truncf .bf16 w bitsLt_bf16_f32 : FVec Ideal S1024x1024 .bf16) slices_S1024x1024_S384x1024_0_0) shapeCasts_S384x1024_S2x192x1024
def wideOf (w : FVec Ideal S1024x1024 .f32) : FVec Ideal S256x1024 .bf16 :=
  extractStridedSlice S256x1024 ![384, 0] (truncf .bf16 w bitsLt_bf16_f32 : FVec Ideal S1024x1024 .bf16) slices_S1024x1024_S256x1024_384_0
def lastOf (w : FVec Ideal S1024x1024 .f32) : FVec Ideal S384x1024 .bf16 :=
  extractStridedSlice S384x1024 ![640, 0] (truncf .bf16 w bitsLt_bf16_f32 : FVec Ideal S1024x1024 .bf16) slices_S1024x1024_S384x1024_640_0
theorem groups_a (w : FVec Ideal S1024x1024 .f32) (k : Fin 192) (j : Fin 1024) : groupsOf w (ix3 0 k j) = w (ix2 (runA k) j) := by
  pointwise [groupsOf, runA]
theorem groups_b (w : FVec Ideal S1024x1024 .f32) (k : Fin 192) (j : Fin 1024) : groupsOf w (ix3 1 k j) = w (ix2 (runB k) j) := by
  pointwise [groupsOf, runB]
theorem wide_apply (w : FVec Ideal S1024x1024 .f32) (k : Fin 256) (j : Fin 1024) : wideOf w (ix2 k j) = w (ix2 (runC k) j) := by
  pointwise [wideOf, runC]
theorem last_apply (w : FVec Ideal S1024x1024 .f32) (k : Fin 384) (j : Fin 1024) : lastOf w (ix2 k j) = w (ix2 (runD k) j) := by
  pointwise [lastOf, runD]

/-- A gain as a row. -/
def rowed (g : FVec Ideal S1024 .f32) : FVec Ideal S1x1024 .f32 := shapeCast S1x1024 g shapeCasts_S1024_S1x1024
theorem rowed_apply (g : FVec Ideal S1024 .f32) (j : Fin 1024) : rowed g (ix2 0 j) = g (ix1 j) := by
  pointwise [rowed]

/-- The windows of the weights and gains stay. -/
theorem still : ∀ t : Fin cfg0.N, (∀ a, win0_4.index t a = 0)
    ∧ (∀ a, win0_5.index t a = 0)
    ∧ (∀ a, win0_6.index t a = 0)
    ∧ (∀ a, win0_7.index t a = 0)
    ∧ (∀ a, win0_8.index t a = 0)
    ∧ (∀ a, win0_9.index t a = 0)
    ∧ (∀ a, win0_10.index t a = 0)
    ∧ (∀ a, win0_12.index t a = 0)
    ∧ (∀ a, win0_13.index t a = 0)
    ∧ (∀ a, win0_14.index t a = 0)
    ∧ (∀ a, win0_15.index t a = 0) :=
  (by decide +kernel : ∀ t : Fin grid0.N, (∀ a, win0_4.index t a = 0)
    ∧ (∀ a, win0_5.index t a = 0)
    ∧ (∀ a, win0_6.index t a = 0)
    ∧ (∀ a, win0_7.index t a = 0)
    ∧ (∀ a, win0_8.index t a = 0)
    ∧ (∀ a, win0_9.index t a = 0)
    ∧ (∀ a, win0_10.index t a = 0)
    ∧ (∀ a, win0_12.index t a = 0)
    ∧ (∀ a, win0_13.index t a = 0)
    ∧ (∀ a, win0_14.index t a = 0)
    ∧ (∀ a, win0_15.index t a = 0))

theorem handed (c : Dev nD) : V (F := Ideal) m c main_v2 = groupsOf (m ((c : Thread nD τ).loc main_arg4))
    ∧ V (F := Ideal) m c main_v3 = wideOf (m ((c : Thread nD τ).loc main_arg4))
    ∧ V (F := Ideal) m c main_v4 = lastOf (m ((c : Thread nD τ).loc main_arg4))
    ∧ V (F := Ideal) m c main_v5 = rowed (m ((c : Thread nD τ).loc main_arg5))
    ∧ V (F := Ideal) m c main_v6 = m ((c : Thread nD τ).loc main_arg6)
    ∧ V (F := Ideal) m c main_v7 = m ((c : Thread nD τ).loc main_arg7)
    ∧ V (F := Ideal) m c main_v8 = m ((c : Thread nD τ).loc main_arg8)
    ∧ V (F := Ideal) m c main_v9 = rowed (m ((c : Thread nD τ).loc main_arg10))
    ∧ V (F := Ideal) m c main_v10 = m ((c : Thread nD τ).loc main_arg11)
    ∧ V (F := Ideal) m c main_v11 = m ((c : Thread nD τ).loc main_arg12)
    ∧ V (F := Ideal) m c main_v12 = rowed (m ((c : Thread nD τ).loc main_arg13)) := by
  refine ⟨?_, ?_, ?_, ?_, ?_, ?_, ?_, ?_, ?_, ?_, ?_⟩ <;>
    (unfold_abbrev_sides; after_reads_simp; rfl)

theorem blk_in4 (c : Dev nD) (t : Fin cfg0.N) : (iblk m c 4 t : Vec Ideal S2x192x1024 .bf16) = groupsOf (m ((c : Thread nD τ).loc main_arg4)) :=
  (funext fun y => congrArg (V m c main_v2) (funext fun a => Fin.ext (win0_4.rect_emb_val_of_index_zero t a ((still t).1 a) y))).trans (handed m c).1
theorem blk_in5 (c : Dev nD) (t : Fin cfg0.N) : (iblk m c 5 t : Vec Ideal S256x1024 .bf16) = wideOf (m ((c : Thread nD τ).loc main_arg4)) :=
  (funext fun y => congrArg (V m c main_v3) (funext fun a => Fin.ext (win0_5.rect_emb_val_of_index_zero t a ((still t).2.1 a) y))).trans (handed m c).2.1
theorem blk_in6 (c : Dev nD) (t : Fin cfg0.N) : (iblk m c 6 t : Vec Ideal S384x1024 .bf16) = lastOf (m ((c : Thread nD τ).loc main_arg4)) :=
  (funext fun y => congrArg (V m c main_v4) (funext fun a => Fin.ext (win0_6.rect_emb_val_of_index_zero t a ((still t).2.2.1 a) y))).trans (handed m c).2.2.1
theorem blk_in7 (c : Dev nD) (t : Fin cfg0.N) : (iblk m c 7 t : Vec Ideal S1x1024 .f32) = rowed (m ((c : Thread nD τ).loc main_arg5)) :=
  (funext fun y => congrArg (V m c main_v5) (funext fun a => Fin.ext (win0_7.rect_emb_val_of_index_zero t a ((still t).2.2.2.1 a) y))).trans (handed m c).2.2.2.1
theorem blk_in8 (c : Dev nD) (t : Fin cfg0.N) : (iblk m c 8 t : Vec Ideal S1024x2816 .bf16) = m ((c : Thread nD τ).loc main_arg6) :=
  (funext fun y => congrArg (V m c main_v6) (funext fun a => Fin.ext (win0_8.rect_emb_val_of_index_zero t a ((still t).2.2.2.2.1 a) y))).trans (handed m c).2.2.2.2.1
theorem blk_in9 (c : Dev nD) (t : Fin cfg0.N) : (iblk m c 9 t : Vec Ideal S1024x2816 .bf16) = m ((c : Thread nD τ).loc main_arg7) :=
  (funext fun y => congrArg (V m c main_v7) (funext fun a => Fin.ext (win0_9.rect_emb_val_of_index_zero t a ((still t).2.2.2.2.2.1 a) y))).trans (handed m c).2.2.2.2.2.1
theorem blk_in10 (c : Dev nD) (t : Fin cfg0.N) : (iblk m c 10 t : Vec Ideal S2816x1024 .bf16) = m ((c : Thread nD τ).loc main_arg8) :=
  (funext fun y => congrArg (V m c main_v8) (funext fun a => Fin.ext (win0_10.rect_emb_val_of_index_zero t a ((still t).2.2.2.2.2.2.1 a) y))).trans (handed m c).2.2.2.2.2.2.1
theorem blk_in12 (c : Dev nD) (t : Fin cfg0.N) : (iblk m c 12 t : Vec Ideal S1x1024 .f32) = rowed (m ((c : Thread nD τ).loc main_arg10)) :=
  (funext fun y => congrArg (V m c main_v9) (funext fun a => Fin.ext (win0_12.rect_emb_val_of_index_zero t a ((still t).2.2.2.2.2.2.2.1 a) y))).trans (handed m c).2.2.2.2.2.2.2.1
theorem blk_in13 (c : Dev nD) (t : Fin cfg0.N) : (iblk m c 13 t : Vec Ideal S1024x1024 .bf16) = m ((c : Thread nD τ).loc main_arg11) :=
  (funext fun y => congrArg (V m c main_v10) (funext fun a => Fin.ext (win0_13.rect_emb_val_of_index_zero t a ((still t).2.2.2.2.2.2.2.2.1 a) y))).trans (handed m c).2.2.2.2.2.2.2.2.1
theorem blk_in14 (c : Dev nD) (t : Fin cfg0.N) : (iblk m c 14 t : Vec Ideal S256x1024 .bf16) = m ((c : Thread nD τ).loc main_arg12) :=
  (funext fun y => congrArg (V m c main_v11) (funext fun a => Fin.ext (win0_14.rect_emb_val_of_index_zero t a ((still t).2.2.2.2.2.2.2.2.2.1 a) y))).trans (handed m c).2.2.2.2.2.2.2.2.2.1
theorem blk_in15 (c : Dev nD) (t : Fin cfg0.N) : (iblk m c 15 t : Vec Ideal S1x1024 .f32) = rowed (m ((c : Thread nD τ).loc main_arg13)) :=
  (funext fun y => congrArg (V m c main_v12) (funext fun a => Fin.ext (win0_15.rect_emb_val_of_index_zero t a ((still t).2.2.2.2.2.2.2.2.2.2 a) y))).trans (handed m c).2.2.2.2.2.2.2.2.2.2

/-- The others move with the point. -/
theorem moves : ∀ t : Fin cfg0.N, (win0_0.index t 0 = t.val ∧ win0_0.index t 1 = 0)
    ∧ (win0_2.index t 0 = t.val ∧ win0_2.index t 1 = 0)
    ∧ (win0_3.index t 0 = t.val ∧ win0_3.index t 1 = 0)
    ∧ (win0_11.index t 0 = t.val ∧ win0_11.index t 1 = 0)
    ∧ (win0_16.index t 0 = t.val ∧ win0_16.index t 1 = 0)
    ∧ win0_1.index t 0 = 0 ∧ win0_1.index t 1 = t.val ∧ win0_1.index t 2 = 0 :=
  (by decide +kernel : ∀ t : Fin grid0.N, (win0_0.index t 0 = t.val ∧ win0_0.index t 1 = 0)
    ∧ (win0_2.index t 0 = t.val ∧ win0_2.index t 1 = 0)
    ∧ (win0_3.index t 0 = t.val ∧ win0_3.index t 1 = 0)
    ∧ (win0_11.index t 0 = t.val ∧ win0_11.index t 1 = 0)
    ∧ (win0_16.index t 0 = t.val ∧ win0_16.index t 1 = 0)
    ∧ win0_1.index t 0 = 0 ∧ win0_1.index t 1 = t.val ∧ win0_1.index t 2 = 0)

/-- Row `i` of point `t`'s block. -/
def row (t : Fin cfg0.N) (i : Fin 512) : Fin 32768 := ⟨512 * t.val + i.val, by
  have h := lt_of_lt_of_eq t.isLt (show cfg0.N = 64 from N_0); have := i.isLt; omega⟩

theorem blk_in0 (c : Dev nD) (t : Fin cfg0.N) (i : Fin 512) (j : Fin 1024) : (iblk m c 0 t : Vec Ideal S512x1024 .f32) (ix2 i j)
    = (m ((c : Thread nD τ).loc main_arg0) : Vec Ideal S32768x1024 .f32) (ix2 (row t i) j) := by
  have h := (moves t).1
  refine Eq.trans (b := (V (F := Ideal) m c main_arg0 : Vec Ideal S32768x1024 .f32) (ix2 (row t i) j)) (congrArg (V m c main_arg0) (funext fun a => Fin.ext ?_)) (congrFun (V_main_arg0 m c) _)
  match a with
  | ⟨0, _⟩ => show win0_0.index t 0 * 512 + 1 * i.val = 512 * t.val + i.val; omega
  | ⟨1, _⟩ => show win0_0.index t 1 * 1024 + 1 * j.val = j.val; omega
theorem blk_in2 (c : Dev nD) (t : Fin cfg0.N) (i : Fin 512) (j : Fin 256) : (iblk m c 2 t : Vec Ideal S512x256 .bf16) (ix2 i j)
    = (m ((c : Thread nD τ).loc main_arg2) : Vec Ideal S32768x256 .bf16) (ix2 (row t i) j) := by
  have h := (moves t).2.1
  refine Eq.trans (b := (V (F := Ideal) m c main_arg2 : Vec Ideal S32768x256 .bf16) (ix2 (row t i) j)) (congrArg (V m c main_arg2) (funext fun a => Fin.ext ?_)) (congrFun (V_main_arg2 m c) _)
  match a with
  | ⟨0, _⟩ => show win0_2.index t 0 * 512 + 1 * i.val = 512 * t.val + i.val; omega
  | ⟨1, _⟩ => show win0_2.index t 1 * 256 + 1 * j.val = j.val; omega
theorem blk_in3 (c : Dev nD) (t : Fin cfg0.N) (i : Fin 512) (j : Fin 384) : (iblk m c 3 t : Vec Ideal S512x384 .bf16) (ix2 i j)
    = (m ((c : Thread nD τ).loc main_arg3) : Vec Ideal S32768x384 .bf16) (ix2 (row t i) j) := by
  have h := (moves t).2.2.1
  refine Eq.trans (b := (V (F := Ideal) m c main_arg3 : Vec Ideal S32768x384 .bf16) (ix2 (row t i) j)) (congrArg (V m c main_arg3) (funext fun a => Fin.ext ?_)) (congrFun (V_main_arg3 m c) _)
  match a with
  | ⟨0, _⟩ => show win0_3.index t 0 * 512 + 1 * i.val = 512 * t.val + i.val; omega
  | ⟨1, _⟩ => show win0_3.index t 1 * 384 + 1 * j.val = j.val; omega
theorem blk_in11 (c : Dev nD) (t : Fin cfg0.N) (i : Fin 512) (j : Fin 256) : (iblk m c 11 t : Vec Ideal S512x256 .f32) (ix2 i j)
    = (m ((c : Thread nD τ).loc main_arg9) : Vec Ideal S32768x256 .f32) (ix2 (row t i) j) := by
  have h := (moves t).2.2.2.1
  refine Eq.trans (b := (V (F := Ideal) m c main_arg9 : Vec Ideal S32768x256 .f32) (ix2 (row t i) j)) (congrArg (V m c main_arg9) (funext fun a => Fin.ext ?_)) (congrFun (V_main_arg9 m c) _)
  match a with
  | ⟨0, _⟩ => show win0_11.index t 0 * 512 + 1 * i.val = 512 * t.val + i.val; omega
  | ⟨1, _⟩ => show win0_11.index t 1 * 256 + 1 * j.val = j.val; omega
theorem blk_in1 (c : Dev nD) (t : Fin cfg0.N) (g : Fin 2) (i : Fin 512) (j : Fin 192) : (iblk m c 1 t : Vec Ideal S2x512x192 .bf16) (ix3 g i j)
    = (m ((c : Thread nD τ).loc main_arg1) : Vec Ideal S2x32768x192 .bf16) (ix3 g (row t i) j) := by
  have h := (moves t).2.2.2.2.2
  refine Eq.trans (b := (V (F := Ideal) m c main_arg1 : Vec Ideal S2x32768x192 .bf16) (ix3 g (row t i) j)) (congrArg (V m c main_arg1) (funext fun a => Fin.ext ?_)) (congrFun (V_main_arg1 m c) _)
  match a with
  | ⟨0, _⟩ => show win0_1.index t 0 * 2 + 1 * g.val = g.val; omega
  | ⟨1, _⟩ => show win0_1.index t 1 * 512 + 1 * i.val = 512 * t.val + i.val; omega
  | ⟨2, _⟩ => show win0_1.index t 2 * 192 + 1 * j.val = j.val; omega

/-! ### The array -/

/-- The whole call as the reference computes it, of the arrays the kernel starts from. -/
def resultOf (c : Dev nD) : FVec Ideal S32768x1024 .f32 :=
  refEmbed (refStep (refMix (m ((c : Thread nD τ).loc main_arg1)) (m ((c : Thread nD τ).loc main_arg2)) (m ((c : Thread nD τ).loc main_arg3))
      (m ((c : Thread nD τ).loc main_arg0)) (m ((c : Thread nD τ).loc main_arg4))) (m ((c : Thread nD τ).loc main_arg5)) (m ((c : Thread nD τ).loc main_arg6))
      (m ((c : Thread nD τ).loc main_arg7)) (m ((c : Thread nD τ).loc main_arg8)))
    (m ((c : Thread nD τ).loc main_arg9)) (m ((c : Thread nD τ).loc main_arg10)) (m ((c : Thread nD τ).loc main_arg11)) (m ((c : Thread nD τ).loc main_arg12))
    (m ((c : Thread nD τ).loc main_arg13))

theorem point_apply (c : Dev nD) (t : Fin cfg0.N) (i : Fin 512) (j : Fin 1024) :
    out0_16 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (ix2 i j) = resultOf m c (ix2 (row t i) j) := by
  rw [out_apply, blk_in4, blk_in5, blk_in6, blk_in7, blk_in8, blk_in9, blk_in10, blk_in12, blk_in13, blk_in14, blk_in15]
  unfold resultOf
  rw [refEmbed_apply]
  simp only [refStep_apply, refMix_apply, blk_in0, blk_in1, blk_in2, blk_in3, blk_in11, groups_a, groups_b, wide_apply, last_apply, rowed_apply]

/-- The kernel's array is the reference's result of the same arrays. -/
theorem array_eq (c : Dev nD) : ((dats m 0 c).arrAt 16 cfg0.N : Vec Ideal S32768x1024 .f32) = resultOf m c := by
  funext z
  rw [eq_ix2 z]
  have hN : cfg0.N = 64 := N_0
  have ht : (z 0).val / 512 < cfg0.N := by rw [hN]; have : (z 0).val < 32768 := (z 0).isLt; omega
  have hi : (z 0).val % 512 < 512 := Nat.mod_lt _ (by decide)
  obtain ⟨t, i, hr⟩ : ∃ (t : Fin cfg0.N) (i : Fin 512), (z 0 : Fin 32768) = row t i :=
    ⟨⟨(z 0).val / 512, ht⟩, ⟨(z 0).val % 512, hi⟩, Fin.ext (by show (z 0).val = 512 * ((z 0).val / 512) + (z 0).val % 512; omega)⟩
  generalize (z 1 : Fin 1024) = j
  rw [hr]
  have h := (moves t).2.2.2.2.1
  have hb := congrFun (blocks16 m c t (flush0_16 t)) (ix2 i j)
  rw [flushed16, View.read_apply] at hb
  have he : ((cfg0.win 16).blk t).view.emb (ix2 i j) = (ix2 (row t i) j : S32768x1024.Idx) := by
    refine funext fun a => Fin.ext ?_
    match a with
    | ⟨0, _⟩ => show win0_16.index t 0 * 512 + 1 * i.val = 512 * t.val + i.val; omega
    | ⟨1, _⟩ => show win0_16.index t 1 * 1024 + 1 * j.val = j.val; omega
  rw [he] at hb
  exact hb.trans (point_apply m c t i j)

end Cert.Mixer

end
-- ==== Proof.InProj.lean ====
/-
  The input projection of one block of rows: the columns of the product, and where the kernel stores them.
-/
module

public import proofs.«01_k».proof.Proof.Gen.Kernel4Ideal.Value
public import proofs.«01_k».proof.Proof.Ffn

@[expose] public section

set_option maxRecDepth 16384
noncomputable section
open Idealize.ShloMosaic Idealize.ShloMosaic.TcCoe Idealize.SL.Sem
namespace Cert.InProj
open Cert.Kernel4Ideal Cert.Kernel4Ideal.Gen Cert.Ffn

/-- Column `c` of row `i` of the product of the normed rows by the weights, zero outside. -/
def col (h : FVec Ideal S512x1024 .bf16) (w : Vec Ideal S1024x3584 .bf16) (i c : ℕ) : EReal :=
  if hh : i < 512 ∧ c < 3584 then ∑ k : Fin 1024, h (ix2 ⟨i, hh.1⟩ k) * w (ix2 k ⟨c, hh.2⟩) else 0

theorem col_of (h : FVec Ideal S512x1024 .bf16) (w : Vec Ideal S1024x3584 .bf16) (i : Fin 512) (c : ℕ) (hc : c < 3584) (u : Fin 1024 → EReal)
    (hu : ∀ k, u k = w (ix2 k ⟨c, hc⟩)) : ∑ k : Fin 1024, h (ix2 i k) * u k = col h w i.val c := by
  rw [col, dif_pos ⟨i.isLt, hc⟩]
  exact Finset.sum_congr rfl fun k _ => by rw [hu]

/-- The columns read at an offset. -/
theorem ld_cols {n : ℕ} (w : Vec Ideal S1024x3584 .bf16) (o : ℕ) (hb : ∀ a : Fin 2, (![0, o] : Fin 2 → ℕ) a + (![1024, n] : Fin 2 → ℕ) a ≤ S1024x3584.size a)
    (k : Fin 1024) (j : Fin n) (hc : o + j.val < 3584) :
    View.ld w (Rect.unit (s := S1024x3584) ![0, o] ![1024, n] hb) (ix2 k j) = w (ix2 k ⟨o + j.val, hc⟩) := by
  refine congrArg w (funext fun a => Fin.ext ?_)
  match a with
  | ⟨0, _⟩ => show 0 + 1 * k.val = k.val; omega
  | ⟨1, _⟩ => show o + 1 * j.val = o + j.val; omega

/-- A product of 256, 512 or 768 columns. -/
def by256 (h : FVec Ideal S512x1024 .bf16) (w : Vec Ideal S1024x256 .bf16) : FVec Ideal S512x256 .f32 := k0_pay22 (F := Ideal) h w
def by768 (h : FVec Ideal S512x1024 .bf16) (w : Vec Ideal S1024x768 .bf16) : FVec Ideal S512x768 .f32 := k0_pay96 (F := Ideal) h w
def by512 (h : FVec Ideal S512x1024 .bf16) (w : Vec Ideal S1024x512 .bf16) : FVec Ideal S512x512 .f32 :=
  matmul (F := Ideal) dot_S512x1024_S1024x512_S512x512_1_0_0_1_n_n none h (shapeCast S1024x512 w shapeCasts_S1024x512_S1024x512 : FVec Ideal S1024x512 .bf16) (constant S512x512 .f32 0x00000000#32)
theorem by256_apply (h : FVec Ideal S512x1024 .bf16) (w : Vec Ideal S1024x256 .bf16) (i : Fin 512) (j : Fin 256) : by256 h w (ix2 i j) = ∑ k, h (ix2 i k) * w (ix2 k j) := by
  pointwise [by256, k0_pay22]
theorem by768_apply (h : FVec Ideal S512x1024 .bf16) (w : Vec Ideal S1024x768 .bf16) (i : Fin 512) (j : Fin 768) : by768 h w (ix2 i j) = ∑ k, h (ix2 i k) * w (ix2 k j) := by
  pointwise [by768, k0_pay96]
theorem by512_apply (h : FVec Ideal S512x1024 .bf16) (w : Vec Ideal S1024x512 .bf16) (i : Fin 512) (j : Fin 512) : by512 h w (ix2 i j) = ∑ k, h (ix2 i k) * w (ix2 k j) := by
  pointwise [by512]

section
variable (h : FVec Ideal S512x1024 .bf16) (w : Vec Ideal S1024x3584 .bf16) (i : Fin 512)
theorem at512 (j : Fin 256) : by256 h (View.ld w r0_7) (ix2 i j) = col h w i.val (512 + j.val) :=
  (by256_apply h _ i j).trans (col_of h w i _ (by omega) _ fun k => ld_cols w 512 _ k j (by omega))
theorem at768 (j : Fin 256) : by256 h (View.ld w r0_12) (ix2 i j) = col h w i.val (768 + j.val) :=
  (by256_apply h _ i j).trans (col_of h w i _ (by omega) _ fun k => ld_cols w 768 _ k j (by omega))
theorem at1024 (j : Fin 256) : by256 h (View.ld w r0_20) (ix2 i j) = col h w i.val (1024 + j.val) :=
  (by256_apply h _ i j).trans (col_of h w i _ (by omega) _ fun k => ld_cols w 1024 _ k j (by omega))
theorem at1280 (j : Fin 256) : by256 h (View.ld w r0_23) (ix2 i j) = col h w i.val (1280 + j.val) :=
  (by256_apply h _ i j).trans (col_of h w i _ (by omega) _ fun k => ld_cols w 1280 _ k j (by omega))
theorem at1536 (j : Fin 256) : by256 h (View.ld w r0_26) (ix2 i j) = col h w i.val (1536 + j.val) :=
  (by256_apply h _ i j).trans (col_of h w i _ (by omega) _ fun k => ld_cols w 1536 _ k j (by omega))
theorem at1792 (j : Fin 256) : by256 h (View.ld w r0_29) (ix2 i j) = col h w i.val (1792 + j.val) :=
  (by256_apply h _ i j).trans (col_of h w i _ (by omega) _ fun k => ld_cols w 1792 _ k j (by omega))
theorem at2048 (j : Fin 768) : by768 h (View.ld w r0_34) (ix2 i j) = col h w i.val (2048 + j.val) :=
  (by768_apply h _ i j).trans (col_of h w i _ (by omega) _ fun k => ld_cols w 2048 _ k j (by omega))
theorem at2816 (j : Fin 768) : by768 h (View.ld w r0_36) (ix2 i j) = col h w i.val (2816 + j.val) :=
  (by768_apply h _ i j).trans (col_of h w i _ (by omega) _ fun k => ld_cols w 2816 _ k j (by omega))
theorem at0 (j : Fin 512) : by512 h (View.ld w r0_2) (ix2 i j) = col h w i.val (0 + j.val) :=
  (by512_apply h _ i j).trans (col_of h w i _ (by omega) _ fun k => ld_cols w 0 _ k j (by omega))
end

/-! ### What the body stores -/

/-- An index of one page, or of one page of one page. -/
theorem split3 {m n : ℕ} (y : (⟨3, ![1, m, n]⟩ : Shape).Idx) : ∃ (a : Fin m) (b : Fin n), y = ix3 (0 : Fin 1) a b :=
  ⟨y 1, y 2, (eq_ix3 y).trans (congrArg (fun u : Fin 1 => ix3 u (y 1 : Fin m) (y 2 : Fin n)) (Subsingleton.elim (α := Fin 1) _ _))⟩
theorem split4 {m n : ℕ} (y : (⟨4, ![1, 1, m, n]⟩ : Shape).Idx) : ∃ (a : Fin m) (b : Fin n), y = ix4 (0 : Fin 1) (0 : Fin 1) a b :=
  ⟨y 2, y 3, (eq_ix4 y).trans (congrArg₂ (fun u v : Fin 1 => ix4 u v (y 2 : Fin m) (y 3 : Fin n)) (Subsingleton.elim (α := Fin 1) _ _) (Subsingleton.elim (α := Fin 1) _ _))⟩

section
variable (q : grid0.Coords) (x0 : Vec Ideal S512x1024 .f32) (x1 : Vec Ideal S1x1024 .f32) (x2 : Vec Ideal S1024x3584 .bf16) (x3 : Vec Ideal S1x384 .f32)
  (x4 x5 : Vec Ideal S1x128 .f32) (x6 x7 : Vec Ideal S1x256 .f32)

theorem rows_eq : k0_pay101 (F := Ideal) q x0 x1 x2 x3 x4 x5 x6 x7 = normVec x0 x1 := by
  unfold k0_pay101
  rw [View.ld_unit_zero hz _ x0, View.ld_unit_zero hz _ x1]
  rfl

/-- Four runs of 384 columns as they are. -/
theorem out18 (i : Fin 512) (j : Fin 384) : out0_18 (F := Ideal) q x0 x1 x2 x3 x4 x5 x6 x7 (ix2 i j) = col (normVec x0 x1) x2 i.val (2048 + j.val) := by
  unfold out0_18
  rw [View.canon_unit_zero hz, rows_eq]
  refine Eq.trans ?_ (at2048 (normVec x0 x1) x2 i ⟨j.val, by omega⟩)
  change extractStridedSlice S512x384 ![0, 0] (by768 (normVec x0 x1) (View.ld x2 r0_34)) slices_S512x768_o0_0_S512x384 (ix2 i j) = _
  generalize by768 (normVec x0 x1) (View.ld x2 r0_34) = v
  pointwise
theorem out19 (i : Fin 512) (j : Fin 384) : out0_19 (F := Ideal) q x0 x1 x2 x3 x4 x5 x6 x7 (ix2 i j) = col (normVec x0 x1) x2 i.val (2432 + j.val) := by
  unfold out0_19
  rw [View.canon_unit_zero hz, rows_eq]
  refine Eq.trans ?_ ((at2048 (normVec x0 x1) x2 i ⟨384 + j.val, by omega⟩).trans (congrArg _ (by show 2048 + (384 + j.val) = _; omega)))
  change extractStridedSlice S512x384 ![0, 384] (by768 (normVec x0 x1) (View.ld x2 r0_34)) slices_S512x768_o0_384_S512x384 (ix2 i j) = _
  generalize by768 (normVec x0 x1) (View.ld x2 r0_34) = v
  pointwise
theorem out20 (i : Fin 512) (j : Fin 384) : out0_20 (F := Ideal) q x0 x1 x2 x3 x4 x5 x6 x7 (ix2 i j) = col (normVec x0 x1) x2 i.val (2816 + j.val) := by
  unfold out0_20
  rw [View.canon_unit_zero hz, rows_eq]
  refine Eq.trans ?_ (at2816 (normVec x0 x1) x2 i ⟨j.val, by omega⟩)
  change extractStridedSlice S512x384 ![0, 0] (by768 (normVec x0 x1) (View.ld x2 r0_36)) slices_S512x768_o0_0_S512x384 (ix2 i j) = _
  generalize by768 (normVec x0 x1) (View.ld x2 r0_36) = v
  pointwise
theorem out21 (i : Fin 512) (j : Fin 384) : out0_21 (F := Ideal) q x0 x1 x2 x3 x4 x5 x6 x7 (ix2 i j) = col (normVec x0 x1) x2 i.val (3200 + j.val) := by
  unfold out0_21
  rw [View.canon_unit_zero hz, rows_eq]
  refine Eq.trans ?_ ((at2816 (normVec x0 x1) x2 i ⟨384 + j.val, by omega⟩).trans (congrArg _ (by show 2816 + (384 + j.val) = _; omega)))
  change extractStridedSlice S512x384 ![0, 384] (by768 (normVec x0 x1) (View.ld x2 r0_36)) slices_S512x768_o0_384_S512x384 (ix2 i j) = _
  generalize by768 (normVec x0 x1) (View.ld x2 r0_36) = v
  pointwise

/-- Four heads of 64 columns. -/
theorem head_of (v : FVec Ideal S512x256 .f32) (i : Fin 512) (j : Fin 64) :
    (shapeCast S1x512x64 (extractStridedSlice S512x64 ![0, 0] v slices_S512x256_o0_0_S512x64 : FVec Ideal S512x64 .f32) shapeCasts_S512x64_S1x512x64 : FVec Ideal S1x512x64 .f32) (ix3 0 i j) = v (ix2 i ⟨j.val, by omega⟩)
    ∧ (shapeCast S1x512x64 (extractStridedSlice S512x64 ![0, 64] v slices_S512x256_o0_64_S512x64 : FVec Ideal S512x64 .f32) shapeCasts_S512x64_S1x512x64 : FVec Ideal S1x512x64 .f32) (ix3 0 i j) = v (ix2 i ⟨64 + j.val, by omega⟩)
    ∧ (shapeCast S1x512x64 (extractStridedSlice S512x64 ![0, 128] v slices_S512x256_o0_128_S512x64 : FVec Ideal S512x64 .f32) shapeCasts_S512x64_S1x512x64 : FVec Ideal S1x512x64 .f32) (ix3 0 i j) = v (ix2 i ⟨128 + j.val, by omega⟩)
    ∧ (shapeCast S1x512x64 (extractStridedSlice S512x64 ![0, 192] v slices_S512x256_o0_192_S512x64 : FVec Ideal S512x64 .f32) shapeCasts_S512x64_S1x512x64 : FVec Ideal S1x512x64 .f32) (ix3 0 i j) = v (ix2 i ⟨192 + j.val, by omega⟩) := by
  refine ⟨?_, ?_, ?_, ?_⟩ <;> pointwise

theorem out9 (a : Fin 4) (i : Fin 512) (j : Fin 64) : out0_9 (F := Ideal) q x0 x1 x2 x3 x4 x5 x6 x7 (ix3 a i j) = col (normVec x0 x1) x2 i.val (512 + (64 * a.val + j.val)) := by
  unfold out0_9
  rw [rows_eq]
  have hv := at512 (normVec x0 x1) x2
  refine View.canon_apply_of_pieces (Val := Elt Ideal) ((fun y => col (normVec x0 x1) x2 (y 1).val (512 + (64 * (y 0).val + (y 2).val))) : Vec Ideal S4x512x64 .f32) _ ?_ (ix3 a i j) (cover0_9 _ _ _ _ _)
  intro p hp
  simp only [List.mem_cons, List.mem_nil_iff, or_false] at hp
  rcases hp with rfl | rfl | rfl | rfl <;> intro y <;> obtain ⟨y1, y2, rfl⟩ := split3 (m := 512) (n := 64) y
  · refine ((head_of (by256 (normVec x0 x1) (View.ld x2 r0_7)) y1 y2).2.2.2.trans (hv _ _)).trans (congrArg₂ _ ?_ ?_)
    · show y1.val = 0 + 1 * y1.val; omega
    · show 512 + (192 + y2.val) = 512 + (64 * (3 + 1 * 0) + (0 + 1 * y2.val)); omega
  · refine ((head_of (by256 (normVec x0 x1) (View.ld x2 r0_7)) y1 y2).2.2.1.trans (hv _ _)).trans (congrArg₂ _ ?_ ?_)
    · show y1.val = 0 + 1 * y1.val; omega
    · show 512 + (128 + y2.val) = 512 + (64 * (2 + 1 * 0) + (0 + 1 * y2.val)); omega
  · refine ((head_of (by256 (normVec x0 x1) (View.ld x2 r0_7)) y1 y2).2.1.trans (hv _ _)).trans (congrArg₂ _ ?_ ?_)
    · show y1.val = 0 + 1 * y1.val; omega
    · show 512 + (64 + y2.val) = 512 + (64 * (1 + 1 * 0) + (0 + 1 * y2.val)); omega
  · refine ((head_of (by256 (normVec x0 x1) (View.ld x2 r0_7)) y1 y2).1.trans (hv _ _)).trans (congrArg₂ _ ?_ ?_)
    · show y1.val = 0 + 1 * y1.val; omega
    · show 512 + y2.val = 512 + (64 * (0 + 1 * 0) + (0 + 1 * y2.val)); omega

/-- The gates, transposed. -/
theorem gates_of (v : FVec Ideal S512x512 .f32) (a : Fin 16) (i : Fin 512) :
    k0_pay20 (F := Ideal) (k0_pay18 v) (ix3 0 a i) = Ideal.logistic (v (ix2 i ⟨384 + a.val, by omega⟩))
    ∧ k0_pay21 (F := Ideal) (k0_pay18 v) (ix3 0 a i) = Ideal.logistic (v (ix2 i ⟨384 + (16 + a.val), by omega⟩)) := by
  refine ⟨?_, ?_⟩
  · pointwise [k0_pay18, k0_pay19, k0_pay20]
  · pointwise [k0_pay18, k0_pay19, k0_pay21]

theorem wide_eq : k0_pay3 (F := Ideal) (View.ld x0 r0_0) (View.ld x1 r0_1) (View.ld x2 r0_2) = by512 (normVec x0 x1) (View.ld x2 r0_2) := by
  rw [View.ld_unit_zero hz _ x0, View.ld_unit_zero hz _ x1]
  rfl

theorem out14 (g : Fin 2) (a : Fin 16) (i : Fin 512) : out0_14 (F := Ideal) q x0 x1 x2 x3 x4 x5 x6 x7 (ix3 g a i)
    = Ideal.logistic (col (normVec x0 x1) x2 i.val (384 + 16 * g.val + a.val)) := by
  unfold out0_14 k0_pay106
  rw [wide_eq]
  have hv := at0 (normVec x0 x1) x2
  refine View.canon_apply_of_pieces (Val := Elt Ideal) ((fun y => Ideal.logistic (col (normVec x0 x1) x2 (y 2).val (384 + 16 * (y 0).val + (y 1).val))) : Vec Ideal S2x16x512 .f32) _ ?_ (ix3 g a i) (cover0_14 _ _ _)
  intro p hp
  simp only [List.mem_cons, List.mem_nil_iff, or_false] at hp
  rcases hp with rfl | rfl <;> intro y <;> obtain ⟨y1, y2, rfl⟩ := split3 (m := 16) (n := 512) y
  · refine (gates_of _ y1 y2).2.trans (congrArg Ideal.logistic ((hv _ _).trans (congrArg₂ _ ?_ ?_)))
    · show y2.val = 0 + 1 * y2.val; omega
    · show 0 + (384 + (16 + y1.val)) = 384 + 16 * (1 + 1 * 0) + (0 + 1 * y1.val); omega
  · refine (gates_of _ y1 y2).1.trans (congrArg Ideal.logistic ((hv _ _).trans (congrArg₂ _ ?_ ?_)))
    · show y2.val = 0 + 1 * y2.val; omega
    · show 0 + (384 + y1.val) = 384 + 16 * (0 + 1 * 0) + (0 + 1 * y1.val); omega

/-- The values of a block of 256 tokens, transposed, with ones below. -/
theorem values_of (v : FVec Ideal S512x256 .f32) (a : Fin 80) (l : Fin 256) :
    k0_pay43 (F := Ideal) v (ix4 0 0 a l) = (if h : a.val < 64 then v (ix2 ⟨l.val, by omega⟩ ⟨128 + a.val, by omega⟩) else Ideal.ofBits .bf16 0x3F80#16)
    ∧ k0_pay44 (F := Ideal) v (ix4 0 0 a l) = (if h : a.val < 64 then v (ix2 ⟨256 + l.val, by omega⟩ ⟨128 + a.val, by omega⟩) else Ideal.ofBits .bf16 0x3F80#16)
    ∧ k0_pay45 (F := Ideal) v (ix4 0 0 a l) = (if h : a.val < 64 then v (ix2 ⟨l.val, by omega⟩ ⟨128 + (64 + a.val), by omega⟩) else Ideal.ofBits .bf16 0x3F80#16)
    ∧ k0_pay46 (F := Ideal) v (ix4 0 0 a l) = (if h : a.val < 64 then v (ix2 ⟨256 + l.val, by omega⟩ ⟨128 + (64 + a.val), by omega⟩) else Ideal.ofBits .bf16 0x3F80#16) := by
  refine ⟨?_, ?_, ?_, ?_⟩
  · pointwise [k0_pay41, k0_pay42, k0_pay43]
  · pointwise [k0_pay41, k0_pay42, k0_pay44]
  · pointwise [k0_pay41, k0_pay42, k0_pay45]
  · pointwise [k0_pay41, k0_pay42, k0_pay46]
theorem wide_of (h : FVec Ideal S512x1024 .bf16) (w : Vec Ideal S1024x256 .bf16) (a : Fin 144) (l : Fin 256) :
    k0_pay91 (F := Ideal) h w (ix4 0 0 a l) = (if hh : a.val < 128 then by256 h w (ix2 ⟨l.val, by omega⟩ ⟨a.val, by omega⟩) else Ideal.ofBits .bf16 0x3F80#16)
    ∧ k0_pay92 (F := Ideal) h w (ix4 0 0 a l) = (if hh : a.val < 128 then by256 h w (ix2 ⟨256 + l.val, by omega⟩ ⟨a.val, by omega⟩) else Ideal.ofBits .bf16 0x3F80#16)
    ∧ k0_pay94 (F := Ideal) (k0_pay93 h w) (ix4 0 0 a l) = (if hh : a.val < 128 then by256 h w (ix2 ⟨l.val, by omega⟩ ⟨128 + a.val, by omega⟩) else Ideal.ofBits .bf16 0x3F80#16)
    ∧ k0_pay95 (F := Ideal) (k0_pay89 h w) k0_pay90 (ix4 0 0 a l) = (if hh : a.val < 128 then by256 h w (ix2 ⟨256 + l.val, by omega⟩ ⟨128 + a.val, by omega⟩) else Ideal.ofBits .bf16 0x3F80#16) := by
  have e : k0_pay89 (F := Ideal) h w = truncf .bf16 (transpose S256x512 [1, 0] (by256 h w) transposes_S512x256_p1_0_S256x512 : FVec Ideal S256x512 .f32) bitsLt_bf16_f32 := rfl
  unfold k0_pay91 k0_pay92 k0_pay94 k0_pay93 k0_pay95 k0_pay90
  rw [e]
  generalize by256 h w = v
  refine ⟨?_, ?_, ?_, ?_⟩ <;> pointwise

/-- What the values' results hold. -/
def valueAt (z : ℕ → ℕ → EReal) (o d g i a : ℕ) : EReal := if a < d then z i (o + d * g + a) else Ideal.ofBits .bf16 0x3F80#16

theorem values_pieces (v : FVec Ideal S512x256 .f32) (z : ℕ → ℕ → EReal) (o : ℕ) (hv : ∀ i j, v (ix2 i j) = z i.val (o + j.val)) (g c : Fin 2) (a : Fin 80) (l : Fin 256)
    (L : List (View.Piece (Elt Ideal) S2x2x80x256 .bf16)) (hL : L = [⟨r0_19, k0_pay46 v⟩, ⟨r0_18, k0_pay45 v⟩, ⟨r0_17, k0_pay44 v⟩, ⟨r0_16, k0_pay43 v⟩])
    (hc : ∃ p ∈ L, (ix4 g c a l : S2x2x80x256.Idx) ∈ p.1.set) :
    View.canon L (ix4 g c a l) = valueAt z (o + 128) 64 g.val (256 * c.val + l.val) a.val := by
  refine View.canon_apply_of_pieces (Val := Elt Ideal) ((fun y => valueAt z (o + 128) 64 (y 0).val (256 * (y 1).val + (y 3).val) (y 2).val) : Vec Ideal S2x2x80x256 .bf16) _ ?_ (ix4 g c a l) hc
  subst hL
  intro p hp
  simp only [List.mem_cons, List.mem_nil_iff, or_false] at hp
  have key (n : ℕ) (A : Fin 80) (gg ii : ℕ) (b b' : ℕ) (hb : b < 512) (hb' : b' + 64 ≤ 256) (e1 : b = ii) (e2 : b' = 128 + 64 * gg) (e3 : A.val = n) :
      (if h : A.val < 64 then v (ix2 ⟨b, hb⟩ ⟨b' + A.val, by omega⟩) else Ideal.ofBits .bf16 0x3F80#16) = valueAt z (o + 128) 64 gg ii n := by
    subst e1 e2 e3
    unfold valueAt
    by_cases h : A.val < 64
    · rw [dif_pos h, if_pos h, hv]; exact congrArg _ (by show o + (128 + 64 * gg + A.val) = _; omega)
    · rw [dif_neg h, if_neg h]
  rcases hp with rfl | rfl | rfl | rfl <;> intro y <;> obtain ⟨y2, y3, rfl⟩ := split4 (m := 80) (n := 256) y
  · refine (values_of v y2 y3).2.2.2.trans (Eq.trans (by simp only [← Nat.add_assoc]) <| key _ y2 _ _ (256 + y3.val) 192 (by omega) (by omega) ?_ ?_ ?_)
    · show 256 + y3.val = 256 * (1 + 1 * 0) + (0 + 1 * y3.val); omega
    · show 192 = 128 + 64 * (1 + 1 * 0); omega
    · show y2.val = 0 + 1 * y2.val; omega
  · refine (values_of v y2 y3).2.2.1.trans (Eq.trans (by simp only [← Nat.add_assoc]) <| key _ y2 _ _ y3.val 192 (by omega) (by omega) ?_ ?_ ?_)
    · show y3.val = 256 * (0 + 1 * 0) + (0 + 1 * y3.val); omega
    · show 192 = 128 + 64 * (1 + 1 * 0); omega
    · show y2.val = 0 + 1 * y2.val; omega
  · refine (values_of v y2 y3).2.1.trans (key _ y2 _ _ (256 + y3.val) 128 (by omega) (by omega) ?_ ?_ ?_)
    · show 256 + y3.val = 256 * (1 + 1 * 0) + (0 + 1 * y3.val); omega
    · show 128 = 128 + 64 * (0 + 1 * 0); omega
    · show y2.val = 0 + 1 * y2.val; omega
  · refine (values_of v y2 y3).1.trans (key _ y2 _ _ y3.val 128 (by omega) (by omega) ?_ ?_ ?_)
    · show y3.val = 256 * (0 + 1 * 0) + (0 + 1 * y3.val); omega
    · show 128 = 128 + 64 * (0 + 1 * 0); omega
    · show y2.val = 0 + 1 * y2.val; omega

theorem slab_eq : k0_pay109 (F := Ideal) q x0 x1 x2 x3 x4 x5 x6 x7 = by256 (normVec x0 x1) (View.ld x2 r0_12) := by
  unfold k0_pay109
  rw [rows_eq]
  rfl
theorem slab_eq' : k0_pay117 (F := Ideal) q x0 x1 x2 x3 x4 x5 x6 x7 = by256 (normVec x0 x1) (View.ld x2 r0_20) := by
  unfold k0_pay117
  rw [rows_eq]
  rfl

theorem out11 (g c : Fin 2) (a : Fin 80) (l : Fin 256) : out0_11 (F := Ideal) q x0 x1 x2 x3 x4 x5 x6 x7 (ix4 g c a l)
    = valueAt (col (normVec x0 x1) x2) 896 64 g.val (256 * c.val + l.val) a.val := by
  unfold out0_11
  rw [slab_eq]
  exact values_pieces _ (col (normVec x0 x1) x2) 768 (at768 (normVec x0 x1) x2) g c a l _ rfl (cover0_11 _ _ _ _ _)
theorem out13 (g c : Fin 2) (a : Fin 80) (l : Fin 256) : out0_13 (F := Ideal) q x0 x1 x2 x3 x4 x5 x6 x7 (ix4 g c a l)
    = valueAt (col (normVec x0 x1) x2) 1152 64 g.val (256 * c.val + l.val) a.val := by
  unfold out0_13
  rw [slab_eq']
  exact values_pieces _ (col (normVec x0 x1) x2) 1024 (at1024 (normVec x0 x1) x2) g c a l _ rfl (cover0_13 _ _ _ _ _)

theorem out17 (g c : Fin 2) (a : Fin 144) (l : Fin 256) : out0_17 (F := Ideal) q x0 x1 x2 x3 x4 x5 x6 x7 (ix4 g c a l)
    = valueAt (col (normVec x0 x1) x2) 1792 128 g.val (256 * c.val + l.val) a.val := by
  unfold out0_17
  rw [rows_eq]
  refine View.canon_apply_of_pieces (Val := Elt Ideal) ((fun y => valueAt (col (normVec x0 x1) x2) 1792 128 (y 0).val (256 * (y 1).val + (y 3).val) (y 2).val) : Vec Ideal S2x2x144x256 .bf16) _ ?_ (ix4 g c a l) (cover0_17 _ _ _ _ _)
  intro p hp
  simp only [List.mem_cons, List.mem_nil_iff, or_false] at hp
  have key (n : ℕ) (A : Fin 144) (gg ii : ℕ) (b b' : ℕ) (hb : b < 512) (hb' : b' + 128 ≤ 256) (e1 : b = ii) (e2 : b' = 128 * gg) (e3 : A.val = n) :
      (if h : A.val < 128 then by256 (normVec x0 x1) (View.ld x2 r0_29) (ix2 ⟨b, hb⟩ ⟨b' + A.val, by omega⟩) else Ideal.ofBits .bf16 0x3F80#16) = valueAt (col (normVec x0 x1) x2) 1792 128 gg ii n := by
    subst e1 e2 e3
    unfold valueAt
    by_cases h : A.val < 128
    · rw [dif_pos h, if_pos h, at1792]; exact congrArg _ (by show 1792 + (128 * gg + A.val) = _; omega)
    · rw [dif_neg h, if_neg h]
  rcases hp with rfl | rfl | rfl | rfl <;> intro y <;> obtain ⟨y2, y3, rfl⟩ := split4 (m := 144) (n := 256) y
  · refine (wide_of _ _ y2 y3).2.2.2.trans (key _ y2 _ _ (256 + y3.val) 128 (by omega) (by omega) ?_ ?_ ?_)
    · show 256 + y3.val = 256 * (1 + 1 * 0) + (0 + 1 * y3.val); omega
    · show 128 = 128 * (1 + 1 * 0); omega
    · show y2.val = 0 + 1 * y2.val; omega
  · refine (wide_of _ _ y2 y3).2.2.1.trans (key _ y2 _ _ y3.val 128 (by omega) (by omega) ?_ ?_ ?_)
    · show y3.val = 256 * (0 + 1 * 0) + (0 + 1 * y3.val); omega
    · show 128 = 128 * (1 + 1 * 0); omega
    · show y2.val = 0 + 1 * y2.val; omega
  · refine (wide_of _ _ y2 y3).2.1.trans (Eq.trans ?_ (key _ y2 _ _ (256 + y3.val) 0 (by omega) (by omega) ?_ ?_ ?_))
    · simp only [Nat.zero_add]
    · show 256 + y3.val = 256 * (1 + 1 * 0) + (0 + 1 * y3.val); omega
    · show 0 = 128 * (0 + 1 * 0); omega
    · show y2.val = 0 + 1 * y2.val; omega
  · refine (wide_of _ _ y2 y3).1.trans (Eq.trans ?_ (key _ y2 _ _ y3.val 0 (by omega) (by omega) ?_ ?_ ?_))
    · simp only [Nat.zero_add]
    · show y3.val = 256 * (0 + 1 * 0) + (0 + 1 * y3.val); omega
    · show 0 = 128 * (0 + 1 * 0); omega
    · show y2.val = 0 + 1 * y2.val; omega
end

end Cert.InProj

end
-- ==== Proof.InProjNorm.lean ====
/-
  The norm of each head: the kernel takes the mean of a head's squares as a product by a block diagonal matrix, in three terms.
-/
module

public import proofs.«01_k».proof.Proof.InProj
public import proofs.«01_k».proof.Proof.Recur

@[expose] public section

set_option maxRecDepth 16384
noncomputable section
open Idealize.ShloMosaic Idealize.ShloMosaic.TcCoe Idealize.SL.Sem
namespace Cert.InProj
open Cert.Kernel4Ideal Cert.Kernel4Ideal.Gen Cert.Ffn

/-! ### The block diagonal matrix -/

/-- The quotient of a whole number rounded down, as the kernel computes it. -/
def quot (v d : BitVec 32) : BitVec 32 := k0_pay67 (fun _ => v) d (fun _ => d) (ix2 0 0)

theorem quot64 : ∀ l : Fin 128, quot (BitVec.ofNat 32 l.val) 64#32 = BitVec.ofNat 32 (l.val / 64) := by decide +kernel
theorem quot32 : ∀ l : Fin 128, quot (BitVec.ofNat 32 l.val) 32#32 = BitVec.ofNat 32 (l.val / 32) := by decide +kernel

theorem same_iff {a b : ℕ} (ha : a < 2 ^ 32) (hb : b < 2 ^ 32) : IntOp.cmpi .eq (BitVec.ofNat 32 a) (BitVec.ofNat 32 b) = BitVec.ofBool (decide (a = b)) := by
  show BitVec.ofBool (decide (BitVec.ofNat 32 a = BitVec.ofNat 32 b)) = _
  refine congrArg BitVec.ofBool (decide_eq_decide.2 ⟨fun h => ?_, fun h => h ▸ rfl⟩)
  have := congrArg BitVec.toNat h
  rwa [BitVec.toNat_ofNat, BitVec.toNat_ofNat, Nat.mod_eq_of_lt ha, Nat.mod_eq_of_lt hb] at this

/-- The two matrices. -/
def band64 : FVec Ideal S128x128 .bf16 := k0_pay9 (F := Ideal) k0_pay6 k0_pay7 k0_pay8 0#32
def band32 : FVec Ideal S128x128 .bf16 := k0_pay77 (F := Ideal) k0_pay74 (iota .tc S128x128 32 [1] iota_S128x128_d1_w32) 32#32 k0_pay75 k0_pay76 (Scalar.extui (Scalar.cmpi .sgt 32#32 0#32)) 0#32

theorem select_bit (p : Prop) [Decidable p] (a b : EReal) : (if BitVec.ofBool (decide p) = 1#1 then a else b) = if p then a else b := by
  by_cases h : p <;> simp [h]

/-- The quotients of the rows' and of the columns' numbers. -/
theorem quot_apply (v : IVec S128x128 32) (d : BitVec 32) (y : S128x128.Idx) : k0_pay67 v d (broadcast S128x128 d) y = quot (v y) d := by
  unfold quot k0_pay67
  rfl
theorem rows_of (l j : Fin 128) : (iota .tc S128x128 32 [0] iota_S128x128_d0_w32 : IVec S128x128 32) (ix2 l j) = BitVec.ofNat 32 l.val := by
  pointwise
theorem cols_of (l j : Fin 128) : (iota .tc S128x128 32 [1] iota_S128x128_d1_w32 : IVec S128x128 32) (ix2 l j) = BitVec.ofNat 32 j.val := by
  pointwise

/-- One value where the quotients agree, another elsewhere. -/
def bandOf (d c e : BitVec 32) : FVec Ideal S128x128 .bf16 :=
  truncf .bf16 (select (cmpi .eq (k0_pay67 (iota .tc S128x128 32 [0] iota_S128x128_d0_w32) d (broadcast S128x128 d)) (k0_pay67 (iota .tc S128x128 32 [1] iota_S128x128_d1_w32) d (broadcast S128x128 d)))
    (broadcast S128x128 (Scalar.ofBits (F := Ideal) .f32 c)) (broadcast S128x128 (Scalar.ofBits (F := Ideal) .f32 e)) : FVec Ideal S128x128 .f32) bitsLt_bf16_f32
theorem bandOf_apply (d c e : BitVec 32) (l j : Fin 128) : bandOf d c e (ix2 l j)
    = if IntOp.cmpi .eq (quot (BitVec.ofNat 32 l.val) d) (quot (BitVec.ofNat 32 j.val) d) = 1#1 then Ideal.ofBits .f32 c else Ideal.ofBits .f32 e := by
  rw [← rows_of l j, ← cols_of l j, ← quot_apply, ← quot_apply]
  rfl
theorem band64_eq : band64 = bandOf 64#32 0x3C800000#32 0x00000000#32 := rfl
theorem band32_eq : band32 = bandOf 32#32 0x3D000000#32 0x00000000#32 := rfl

theorem band64_apply (l j : Fin 128) : band64 (ix2 l j) = if l.val / 64 = j.val / 64 then Ideal.ofBits .f32 0x3C800000#32 else Ideal.ofBits .f32 0x00000000#32 := by
  rw [band64_eq, bandOf_apply, quot64, quot64, same_iff (by omega) (by omega), select_bit]
theorem band32_apply (l j : Fin 128) : band32 (ix2 l j) = if l.val / 32 = j.val / 32 then Ideal.ofBits .f32 0x3D000000#32 else Ideal.ofBits .f32 0x00000000#32 := by
  rw [band32_eq, bandOf_apply, quot32, quot32, same_iff (by omega) (by omega), select_bit]

/-! ### The product in three terms -/

/-- The product of a block by a matrix, the block as the sum of its rounding, the rounding of what that leaves, and the rest. -/
def spread (p : FVec Ideal S512x128 .f32) (b : FVec Ideal S128x128 .bf16) : FVec Ideal S512x128 .f32 :=
  have hi : FVec Ideal S512x128 .bf16 := truncf .bf16 p bitsLt_bf16_f32
  have r : FVec Ideal S512x128 .f32 := subf p (extf .f32 hi bitsLt_bf16_f32 : FVec Ideal S512x128 .f32)
  have mid : FVec Ideal S512x128 .bf16 := truncf .bf16 r bitsLt_bf16_f32
  have lo : FVec Ideal S512x128 .bf16 := truncf .bf16 (subf r (extf .f32 mid bitsLt_bf16_f32 : FVec Ideal S512x128 .f32) : FVec Ideal S512x128 .f32) bitsLt_bf16_f32
  addf (addf (addf (broadcast S512x128 (Scalar.ofBits (F := Ideal) .f32 0x00000000#32))
    (matmul (F := Ideal) dot_S512x128_S128x128_S512x128_1_0_0_1_n_n none hi b (constant S512x128 .f32 0x00000000#32)))
    (matmul (F := Ideal) dot_S512x128_S128x128_S512x128_1_0_0_1_n_n none mid b (constant S512x128 .f32 0x00000000#32)))
    (matmul (F := Ideal) dot_S512x128_S128x128_S512x128_1_0_0_1_n_n none lo b (constant S512x128 .f32 0x00000000#32))

theorem spread_raw (p : FVec Ideal S512x128 .f32) (b : FVec Ideal S128x128 .bf16) (i : Fin 512) (j : Fin 128) :
    spread p b (ix2 i j) = (∑ l, p (ix2 i l) * b (ix2 l j)) + (∑ l, (p (ix2 i l) - p (ix2 i l)) * b (ix2 l j))
      + ∑ l, ((p (ix2 i l) - p (ix2 i l)) - (p (ix2 i l) - p (ix2 i l))) * b (ix2 l j) := by
  pointwise [spread]

theorem spread_apply (p : FVec Ideal S512x128 .f32) (b : FVec Ideal S128x128 .bf16) (i : Fin 512) (j : Fin 128) (r : Fin 128 → ℝ)
    (hp : ∀ l, p (ix2 i l) = (r l : EReal)) : spread p b (ix2 i j) = ∑ l, p (ix2 i l) * b (ix2 l j) := by
  have h0 (l : Fin 128) : p (ix2 i l) - p (ix2 i l) = 0 := by rw [hp, ← EReal.coe_sub, sub_self, EReal.coe_zero]
  rw [spread_raw]
  simp only [h0, sub_zero, zero_mul, Finset.sum_const_zero, add_zero]

/-! ### The mean of a head -/

theorem sum_runs (f : ℕ → ℝ) (d : ℕ) : ∀ n, ∑ l ∈ Finset.range (d * n), f l = ∑ q ∈ Finset.range n, ∑ i ∈ Finset.range d, f (d * q + i)
  | 0 => by simp
  | n + 1 => by rw [Nat.mul_succ, Finset.sum_range_add, sum_runs f d n, Finset.sum_range_succ]

theorem mean_of (f : ℕ → ℝ) (d n k : ℕ) (hd : 0 < d) (hk : k < n) (c : ℝ) :
    ∑ l ∈ Finset.range (d * n), f l * (if l / d = k then c else 0) = (∑ i ∈ Finset.range d, f (d * k + i)) * c := by
  rw [sum_runs]
  have h (q : ℕ) : ∑ i ∈ Finset.range d, f (d * q + i) * (if (d * q + i) / d = k then c else 0) = if q = k then (∑ i ∈ Finset.range d, f (d * k + i)) * c else 0 := by
    have e (i : ℕ) (hi : i ∈ Finset.range d) : (d * q + i) / d = q := by
      rw [Nat.mul_add_div hd, Nat.div_eq_of_lt (Finset.mem_range.1 hi), Nat.add_zero]
    by_cases hq : q = k
    · rw [if_pos hq, Finset.sum_mul]
      exact Finset.sum_congr rfl fun i hi => by rw [e i hi, if_pos hq, hq]
    · rw [if_neg hq]
      exact Finset.sum_eq_zero fun i hi => by rw [e i hi, if_neg hq, mul_zero]
  rw [Finset.sum_congr rfl fun q _ => h q, Finset.sum_ite_eq' _ k, if_pos (Finset.mem_range.2 hk)]

/-- A head's squares over its width. -/
def meanSq (z : ℕ → EReal) (d : ℕ) (w : EReal) (j : ℕ) : EReal := Ideal.div (∑ i : Fin d, z (j / d * d + i.val) * z (j / d * d + i.val)) w
/-- An entry through its head's norm. -/
def headed (z : ℕ → EReal) (d : ℕ) (w : EReal) (j : ℕ) : EReal := z j * Ideal.rsqrt (meanSq z d w j + Ideal.ofBits .f32 0x358637BD#32)

theorem spread_mean (p : FVec Ideal S512x128 .f32) (b : FVec Ideal S128x128 .bf16) (i : Fin 512) (j : Fin 128) (z : ℕ → EReal) (ρ : ℕ → ℝ)
    (hz : ∀ l, z l = (ρ l : EReal)) (hp : ∀ l : Fin 128, p (ix2 i l) = z l.val * z l.val) (d n : ℕ) (hd : 0 < d) (hn : d * n = 128) (c e w : EReal)
    (hb : ∀ l : Fin 128, b (ix2 l j) = if l.val / d = j.val / d then c else e) (hc : c = ((1 / d : ℝ) : EReal)) (he : e = 0) (hw : w = ((d : ℝ) : EReal)) :
    spread p b (ix2 i j) = meanSq z d w j.val := by
  rw [spread_apply p b i j (fun l => ρ l.val * ρ l.val) fun l => by rw [hp, hz, EReal.coe_mul]]
  have hd' : (d : ℝ) ≠ 0 := Nat.cast_ne_zero.2 hd.ne'
  have hl (l : Fin 128) : p (ix2 i l) * b (ix2 l j) = ((ρ l.val * ρ l.val * (if l.val / d = j.val / d then (1 / d : ℝ) else 0) : ℝ) : EReal) := by
    rw [hp, hb, hz, hc, he, EReal.coe_mul, EReal.coe_mul]
    refine congrArg _ ?_
    split_ifs <;> rfl
  simp only [hl]
  rw [Cert.Recur.coe_sum, ← Finset.sum_range (fun l => ρ l * ρ l * (if l / d = j.val / d then (1 / d : ℝ) else 0))]
  have hm := mean_of (fun l => ρ l * ρ l) d n (j.val / d) hd (Nat.div_lt_of_lt_mul (by rw [hn]; exact j.isLt)) (1 / d : ℝ)
  rw [hn] at hm
  rw [hm, meanSq, hw]
  have hs : ∑ k : Fin d, z (j.val / d * d + k.val) * z (j.val / d * d + k.val) = ((∑ k ∈ Finset.range d, ρ (d * (j.val / d) + k) * ρ (d * (j.val / d) + k) : ℝ) : EReal) := by
    rw [Finset.sum_range, ← Cert.Recur.coe_sum]
    refine Finset.sum_congr rfl fun k _ => ?_
    rw [hz, EReal.coe_mul, Nat.mul_comm]
  rw [hs, Ideal.div, if_neg (by exact_mod_cast hd'), ← EReal.coe_inv, ← EReal.coe_mul, one_div]

theorem bits_64 : Ideal.ofBits .f32 0x3C800000#32 = ((1 / (64 : ℕ) : ℝ) : EReal) ∧ Ideal.ofBits .f32 0x42800000#32 = (((64 : ℕ) : ℝ) : EReal)
    ∧ Ideal.ofBits .f32 0x3D000000#32 = ((1 / (32 : ℕ) : ℝ) : EReal) ∧ Ideal.ofBits .f32 0x42000000#32 = (((32 : ℕ) : ℝ) : EReal) ∧ Ideal.ofBits .f32 0x00000000#32 = 0 := by
  unfold Ideal.ofBits Ideal.ieee
  refine ⟨?_, ?_, ?_, ?_, ?_⟩ <;> simp [-EReal.coe_mul] <;> norm_num

section
variable (i : Fin 512) (j : Fin 128) (z : ℕ → EReal) (ρ : ℕ → ℝ) (hr : ∀ l, z l = (ρ l : EReal)) (p : FVec Ideal S512x128 .f32) (hp : ∀ l : Fin 128, p (ix2 i l) = z l.val * z l.val)
include hr hp
theorem spread64 : spread p band64 (ix2 i j) = meanSq z 64 (Ideal.ofBits .f32 0x42800000#32) j.val :=
  spread_mean p band64 i j z ρ hr hp 64 2 (by omega) rfl _ _ _ (fun l => band64_apply l j) bits_64.1 bits_64.2.2.2.2 bits_64.2.1
theorem spread32 : spread p band32 (ix2 i j) = meanSq z 32 (Ideal.ofBits .f32 0x42000000#32) j.val :=
  spread_mean p band32 i j z ρ hr hp 32 4 (by omega) rfl _ _ _ (fun l => band32_apply l j) bits_64.2.2.1 bits_64.2.2.2.2 bits_64.2.2.2.1
end

end Cert.InProj

end
-- ==== Proof.InProjHeads.lean ====
/-
  The results of the input projection that hold normed heads.
-/
module

public import proofs.«01_k».proof.Proof.InProjNorm

@[expose] public section

set_option maxRecDepth 16384
noncomputable section
open Idealize.ShloMosaic Idealize.ShloMosaic.TcCoe Idealize.SL.Sem
namespace Cert.InProj
open Cert.Kernel4Ideal Cert.Kernel4Ideal.Gen Cert.Ffn

/-! ### One, two or three runs of 128 columns -/

/-- The norm of 128 columns. -/
def norm1 (v : FVec Ideal S512x128 .f32) (g : FVec Ideal S1x128 .f32) : FVec Ideal S512x128 .bf16 :=
  truncf .bf16 (mulf (mulf v (rsqrt (addf (spread (mulf v v) band64) (broadcast S512x128 (Scalar.ofBits (F := Ideal) .f32 0x358637BD#32)))))
    (broadcastTo S512x128 g broadcasts_S1x128_S512x128 : FVec Ideal S512x128 .f32)) bitsLt_bf16_f32
/-- The norm of 256 columns. -/
def norm2 (v : FVec Ideal S512x256 .f32) (g : FVec Ideal S1x256 .f32) : FVec Ideal S512x256 .f32 :=
  mulf (mulf v (rsqrt (addf (concatenate S512x256 1 [⟨S512x128, spread (extractStridedSlice S512x128 ![0, 0] (mulf v v) slices_S512x256_o0_0_S512x128) band32⟩,
      ⟨S512x128, spread (extractStridedSlice S512x128 ![0, 128] (mulf v v) slices_S512x256_o0_128_S512x128) band32⟩] concatenates_S512x128_S512x128_S512x256_d1 : FVec Ideal S512x256 .f32)
    (broadcast S512x256 (Scalar.ofBits (F := Ideal) .f32 0x358637BD#32)))))
    (broadcastTo S512x256 g broadcasts_S1x256_S512x256 : FVec Ideal S512x256 .f32)
/-- The norm of 384 columns. -/
def norm3 (v : FVec Ideal S512x384 .f32) (g : FVec Ideal S1x384 .f32) : FVec Ideal S512x384 .f32 :=
  mulf (mulf v (rsqrt (addf (concatenate S512x384 1 [⟨S512x128, spread (extractStridedSlice S512x128 ![0, 0] (mulf v v) slices_S512x384_o0_0_S512x128) band64⟩,
      ⟨S512x128, spread (extractStridedSlice S512x128 ![0, 128] (mulf v v) slices_S512x384_o0_128_S512x128) band64⟩,
      ⟨S512x128, spread (extractStridedSlice S512x128 ![0, 256] (mulf v v) slices_S512x384_o0_256_S512x128) band64⟩] concatenates_S512x128_S512x128_S512x128_S512x384_d1 : FVec Ideal S512x384 .f32)
    (broadcast S512x384 (Scalar.ofBits (F := Ideal) .f32 0x358637BD#32)))))
    (broadcastTo S512x384 g broadcasts_S1x384_S512x384 : FVec Ideal S512x384 .f32)

section
variable (i : Fin 512) (z : ℕ → EReal) (ρ : ℕ → ℝ) (hr : ∀ l, z l = (ρ l : EReal))
include hr

theorem norm1_apply (v : FVec Ideal S512x128 .f32) (g : FVec Ideal S1x128 .f32) (hv : ∀ l : Fin 128, v (ix2 i l) = z l.val) (j : Fin 128) :
    norm1 v g (ix2 i j) = headed z 64 (Ideal.ofBits .f32 0x42800000#32) j.val * g (ix2 0 j) := by
  have hs := spread64 i j z ρ hr (mulf v v) fun l => by show v (ix2 i l) * v (ix2 i l) = _; rw [hv]
  have h : norm1 v g (ix2 i j) = v (ix2 i j) * Ideal.rsqrt (spread (mulf v v) band64 (ix2 i j) + Ideal.ofBits .f32 0x358637BD#32) * g (ix2 0 j) := by
    unfold norm1
    generalize spread (mulf v v) band64 = s
    pointwise
  rw [h, hs, hv]
  rfl

/-- A head of a later run is a head of the whole. -/
theorem meanSq_run (d o j : ℕ) (w : EReal) (hd : 0 < d) : meanSq (fun l => z (d * o + l)) d w j = meanSq z d w (d * o + j) := by
  unfold meanSq
  rw [Nat.mul_add_div hd]
  have e (k : ℕ) : d * o + (j / d * d + k) = (o + j / d) * d + k := by rw [Nat.add_mul, Nat.mul_comm o d]; omega
  simp only [e]

theorem slab2 (v : FVec Ideal S512x256 .f32) (hv : ∀ l : Fin 256, v (ix2 i l) = z l.val) (j : Fin 128) :
    spread (extractStridedSlice S512x128 ![0, 0] (mulf v v) slices_S512x256_o0_0_S512x128) band32 (ix2 i j) = meanSq z 32 (Ideal.ofBits .f32 0x42000000#32) j.val
    ∧ spread (extractStridedSlice S512x128 ![0, 128] (mulf v v) slices_S512x256_o0_128_S512x128) band32 (ix2 i j) = meanSq z 32 (Ideal.ofBits .f32 0x42000000#32) (128 + j.val) := by
  constructor
  · refine spread32 i j z ρ hr _ fun l => ?_
    have h : (extractStridedSlice S512x128 ![0, 0] (mulf v v) slices_S512x256_o0_0_S512x128 : FVec Ideal S512x128 .f32) (ix2 i l) = v (ix2 i ⟨l.val, by omega⟩) * v (ix2 i ⟨l.val, by omega⟩) := by pointwise
    rw [h, hv]
  · refine (spread32 i j (fun l => z (32 * 4 + l)) (fun l => ρ (32 * 4 + l)) (fun l => hr _) _ fun l => ?_).trans (meanSq_run z ρ hr 32 4 j.val _ (by omega))
    have h : (extractStridedSlice S512x128 ![0, 128] (mulf v v) slices_S512x256_o0_128_S512x128 : FVec Ideal S512x128 .f32) (ix2 i l) = v (ix2 i ⟨128 + l.val, by omega⟩) * v (ix2 i ⟨128 + l.val, by omega⟩) := by pointwise
    rw [h, hv]

theorem slab3 (v : FVec Ideal S512x384 .f32) (hv : ∀ l : Fin 384, v (ix2 i l) = z l.val) (j : Fin 128) :
    spread (extractStridedSlice S512x128 ![0, 0] (mulf v v) slices_S512x384_o0_0_S512x128) band64 (ix2 i j) = meanSq z 64 (Ideal.ofBits .f32 0x42800000#32) j.val
    ∧ spread (extractStridedSlice S512x128 ![0, 128] (mulf v v) slices_S512x384_o0_128_S512x128) band64 (ix2 i j) = meanSq z 64 (Ideal.ofBits .f32 0x42800000#32) (128 + j.val)
    ∧ spread (extractStridedSlice S512x128 ![0, 256] (mulf v v) slices_S512x384_o0_256_S512x128) band64 (ix2 i j) = meanSq z 64 (Ideal.ofBits .f32 0x42800000#32) (256 + j.val) := by
  refine ⟨?_, ?_, ?_⟩
  · refine spread64 i j z ρ hr _ fun l => ?_
    have h : (extractStridedSlice S512x128 ![0, 0] (mulf v v) slices_S512x384_o0_0_S512x128 : FVec Ideal S512x128 .f32) (ix2 i l) = v (ix2 i ⟨l.val, by omega⟩) * v (ix2 i ⟨l.val, by omega⟩) := by pointwise
    rw [h, hv]
  · refine (spread64 i j (fun l => z (64 * 2 + l)) (fun l => ρ (64 * 2 + l)) (fun l => hr _) _ fun l => ?_).trans (meanSq_run z ρ hr 64 2 j.val _ (by omega))
    have h : (extractStridedSlice S512x128 ![0, 128] (mulf v v) slices_S512x384_o0_128_S512x128 : FVec Ideal S512x128 .f32) (ix2 i l) = v (ix2 i ⟨128 + l.val, by omega⟩) * v (ix2 i ⟨128 + l.val, by omega⟩) := by pointwise
    rw [h, hv]
  · refine (spread64 i j (fun l => z (64 * 4 + l)) (fun l => ρ (64 * 4 + l)) (fun l => hr _) _ fun l => ?_).trans (meanSq_run z ρ hr 64 4 j.val _ (by omega))
    have h : (extractStridedSlice S512x128 ![0, 256] (mulf v v) slices_S512x384_o0_256_S512x128 : FVec Ideal S512x128 .f32) (ix2 i l) = v (ix2 i ⟨256 + l.val, by omega⟩) * v (ix2 i ⟨256 + l.val, by omega⟩) := by pointwise
    rw [h, hv]

theorem norm2_apply (v : FVec Ideal S512x256 .f32) (g : FVec Ideal S1x256 .f32) (hv : ∀ l : Fin 256, v (ix2 i l) = z l.val) (j : Fin 256) :
    norm2 v g (ix2 i j) = headed z 32 (Ideal.ofBits .f32 0x42000000#32) j.val * g (ix2 0 j) := by
  have h1 := fun k => (slab2 i z ρ hr v hv k).1
  have h2 := fun k => (slab2 i z ρ hr v hv k).2
  unfold norm2
  generalize spread (extractStridedSlice S512x128 ![0, 0] (mulf v v) slices_S512x256_o0_0_S512x128) band32 = s1 at h1 ⊢
  generalize spread (extractStridedSlice S512x128 ![0, 128] (mulf v v) slices_S512x256_o0_128_S512x128) band32 = s2 at h2 ⊢
  have h : (mulf (mulf v (rsqrt (addf (concatenate S512x256 1 [⟨S512x128, s1⟩, ⟨S512x128, s2⟩] concatenates_S512x128_S512x128_S512x256_d1 : FVec Ideal S512x256 .f32)
      (broadcast S512x256 (Scalar.ofBits (F := Ideal) .f32 0x358637BD#32))))) (broadcastTo S512x256 g broadcasts_S1x256_S512x256 : FVec Ideal S512x256 .f32) : FVec Ideal S512x256 .f32) (ix2 i j)
      = v (ix2 i j) * Ideal.rsqrt ((if h : j.val < 128 then s1 (ix2 i ⟨j.val, h⟩) else s2 (ix2 i ⟨j.val - 128, by omega⟩)) + Ideal.ofBits .f32 0x358637BD#32) * g (ix2 0 j) := by
    pointwise
  rw [h, headed, hv]
  refine congrArg (fun u => z j.val * Ideal.rsqrt (u + _) * _) ?_
  split_ifs with hj
  · exact h1 _
  · rw [h2]; exact congrArg _ (by show 128 + (j.val - 128) = j.val; omega)

theorem norm3_apply (v : FVec Ideal S512x384 .f32) (g : FVec Ideal S1x384 .f32) (hv : ∀ l : Fin 384, v (ix2 i l) = z l.val) (j : Fin 384) :
    norm3 v g (ix2 i j) = headed z 64 (Ideal.ofBits .f32 0x42800000#32) j.val * g (ix2 0 j) := by
  have h1 := fun k => (slab3 i z ρ hr v hv k).1
  have h2 := fun k => (slab3 i z ρ hr v hv k).2.1
  have h3 := fun k => (slab3 i z ρ hr v hv k).2.2
  unfold norm3
  generalize spread (extractStridedSlice S512x128 ![0, 0] (mulf v v) slices_S512x384_o0_0_S512x128) band64 = s1 at h1 ⊢
  generalize spread (extractStridedSlice S512x128 ![0, 128] (mulf v v) slices_S512x384_o0_128_S512x128) band64 = s2 at h2 ⊢
  generalize spread (extractStridedSlice S512x128 ![0, 256] (mulf v v) slices_S512x384_o0_256_S512x128) band64 = s3 at h3 ⊢
  have h : (mulf (mulf v (rsqrt (addf (concatenate S512x384 1 [⟨S512x128, s1⟩, ⟨S512x128, s2⟩, ⟨S512x128, s3⟩] concatenates_S512x128_S512x128_S512x128_S512x384_d1 : FVec Ideal S512x384 .f32)
      (broadcast S512x384 (Scalar.ofBits (F := Ideal) .f32 0x358637BD#32))))) (broadcastTo S512x384 g broadcasts_S1x384_S512x384 : FVec Ideal S512x384 .f32) : FVec Ideal S512x384 .f32) (ix2 i j)
      = v (ix2 i j) * Ideal.rsqrt ((if h : j.val < 128 then s1 (ix2 i ⟨j.val, h⟩) else if h' : j.val - 128 < 128 then s2 (ix2 i ⟨j.val - 128, h'⟩) else s3 (ix2 i ⟨j.val - 128 - 128, by omega⟩)) + Ideal.ofBits .f32 0x358637BD#32) * g (ix2 0 j) := by
    pointwise
  rw [h, headed, hv]
  refine congrArg (fun u => z j.val * Ideal.rsqrt (u + _) * _) ?_
  split_ifs with hj hj'
  · exact h1 _
  · rw [h2]; exact congrArg _ (by show 128 + (j.val - 128) = j.val; omega)
  · rw [h3]; exact congrArg _ (by show 256 + (j.val - 128 - 128) = j.val; omega)
end

end Cert.InProj

end
-- ==== Proof.InProjStore.lean ====
/-
  What the input projection's body stores of the normed heads, and of the block indicator.
-/
module

public import proofs.«01_k».proof.Proof.InProjHeads

@[expose] public section

set_option maxRecDepth 16384
noncomputable section
open Idealize.ShloMosaic Idealize.ShloMosaic.TcCoe Idealize.SL.Sem
namespace Cert.InProj
open Cert.Kernel4Ideal Cert.Kernel4Ideal.Gen Cert.Ffn

theorem gain384 (g : Vec Ideal S1x384 .f32) (j : Fin 384) : k0_pay5 (F := Ideal) g (ix2 0 j) = g (ix2 0 j) := by pointwise [k0_pay5]
theorem gain256 (g : Vec Ideal S1x256 .f32) (j : Fin 256) : k0_pay65 (F := Ideal) g (ix2 0 j) = g (ix2 0 j) := by pointwise [k0_pay65]
theorem gain128 (g : Vec Ideal S1x128 .f32) (j : Fin 128) : k0_pay30 (F := Ideal) g (ix2 0 j) = g (ix2 0 j) := by pointwise [k0_pay30]

theorem turn384 (v : FVec Ideal S512x384 .f32) (i : Fin 512) (j : Fin 384) : (truncf .bf16 (transpose S384x512 [1, 0] v transposes_S512x384_p1_0_S384x512 : FVec Ideal S384x512 .f32) bitsLt_bf16_f32 : FVec Ideal S384x512 .bf16) (ix2 j i) = v (ix2 i j) := by pointwise
theorem turn256 (v : FVec Ideal S512x256 .f32) (i : Fin 512) (j : Fin 256) : (truncf .bf16 (transpose S256x512 [1, 0] v transposes_S512x256_p1_0_S256x512 : FVec Ideal S256x512 .f32) bitsLt_bf16_f32 : FVec Ideal S256x512 .bf16) (ix2 j i) = v (ix2 i j) := by pointwise
theorem left384 (v : FVec Ideal S512x512 .f32) (i : Fin 512) (j : Fin 384) : (extractStridedSlice S512x384 ![0, 0] v slices_S512x512_o0_0_S512x384 : FVec Ideal S512x384 .f32) (ix2 i j) = v (ix2 i ⟨j.val, by omega⟩) := by pointwise
theorem left128 (v : FVec Ideal S512x256 .f32) (i : Fin 512) (j : Fin 128) : (extractStridedSlice S512x128 ![0, 0] v slices_S512x256_o0_0_S512x128 : FVec Ideal S512x128 .f32) (ix2 i j) = v (ix2 i ⟨j.val, by omega⟩) := by pointwise

/-- A run of `d` entries with ones after them. -/
def onesAfter (d a : ℕ) (x : EReal) : EReal := if a < d then x else Ideal.ofBits .bf16 0x3F80#16
theorem ones_of {d a a' n n' m m' : ℕ} (x : a < d → EReal) (f : ℕ → ℕ → EReal) (hx : ∀ h, x h = f n m) (ha : a = a') (hn : n = n') (hm : m = m') :
    (if h : a < d then x h else Ideal.ofBits .bf16 0x3F80#16) = onesAfter d a' (f n' m') := by
  subst ha hn hm
  unfold onesAfter
  by_cases h : a < d
  · rw [dif_pos h, if_pos h, hx]
  · rw [dif_neg h, if_neg h]
/-- A gain by its place, zero outside. -/
def at128 (x : Vec Ideal S1x128 .f32) (j : ℕ) : EReal := if h : j < 128 then x (ix2 0 ⟨j, h⟩) else 0
def at256 (x : Vec Ideal S1x256 .f32) (j : ℕ) : EReal := if h : j < 256 then x (ix2 0 ⟨j, h⟩) else 0

theorem keys_of (v : FVec Ideal S512x128 .bf16) (i : Fin 512) (a : Fin 80) :
    (shapeCast S1x512x80 (concatenate S512x80 1 [⟨S512x64, extractStridedSlice S512x64 ![0, 0] v slices_S512x128_o0_0_S512x64⟩, ⟨S512x16, k0_pay38 (F := Ideal)⟩] concatenates_S512x64_S512x16_S512x80_d1 : FVec Ideal S512x80 .bf16) shapeCasts_S512x80_S1x512x80 : FVec Ideal S1x512x80 .bf16) (ix3 0 i a)
      = (if h : a.val < 64 then v (ix2 i ⟨a.val, by omega⟩) else Ideal.ofBits .bf16 0x3F80#16)
    ∧ (shapeCast S1x512x80 (concatenate S512x80 1 [⟨S512x64, extractStridedSlice S512x64 ![0, 64] v slices_S512x128_o0_64_S512x64⟩, ⟨S512x16, k0_pay38 (F := Ideal)⟩] concatenates_S512x64_S512x16_S512x80_d1 : FVec Ideal S512x80 .bf16) shapeCasts_S512x80_S1x512x80 : FVec Ideal S1x512x80 .bf16) (ix3 0 i a)
      = (if h : a.val < 64 then v (ix2 i ⟨64 + a.val, by omega⟩) else Ideal.ofBits .bf16 0x3F80#16) := by
  constructor <;> pointwise [k0_pay38]

theorem query_eq (v : FVec Ideal S512x384 .f32) (g : FVec Ideal S1x384 .f32) :
    k0_pay17 (F := Ideal) v g (k0_pay9 (F := Ideal) k0_pay6 k0_pay7 k0_pay8 0#32) (k0_pay10 v) (k0_pay14 v) (k0_pay15 v) (k0_pay16 v k0_pay6 k0_pay7 k0_pay8 0#32)
      = truncf .bf16 (transpose S384x512 [1, 0] (norm3 v g) transposes_S512x384_p1_0_S384x512 : FVec Ideal S384x512 .f32) bitsLt_bf16_f32 := by
  unfold k0_pay17 k0_pay16 k0_pay15 k0_pay14 k0_pay13 k0_pay12 k0_pay11 k0_pay10 norm3 spread band64
  rfl

section
variable (q : grid0.Coords) (x0 : Vec Ideal S512x1024 .f32) (x1 : Vec Ideal S1x1024 .f32) (x2 : Vec Ideal S1024x3584 .bf16) (x3 : Vec Ideal S1x384 .f32)
  (x4 x5 : Vec Ideal S1x128 .f32) (x6 x7 : Vec Ideal S1x256 .f32)
  (ρ : ℕ → ℕ → ℝ) (hr : ∀ i c, col (normVec x0 x1) x2 i c = (ρ i c : EReal))
include hr

/-- The queries, transposed. -/
theorem out8 (i : Fin 512) (j : Fin 384) : out0_8 (F := Ideal) q x0 x1 x2 x3 x4 x5 x6 x7 (ix2 j i)
    = headed (fun c => col (normVec x0 x1) x2 i.val (0 + c)) 64 (Ideal.ofBits .f32 0x42800000#32) j.val * x3 (ix2 0 j) := by
  have e : k0_pay102 (F := Ideal) q x0 x1 x2 x3 x4 x5 x6 x7 = extractStridedSlice S512x384 ![0, 0] (by512 (normVec x0 x1) (View.ld x2 r0_2)) slices_S512x512_o0_0_S512x384 := by
    unfold k0_pay102 k0_pay4
    rw [wide_eq]
  have hv (l : Fin 384) := (left384 (by512 (normVec x0 x1) (View.ld x2 r0_2)) i l).trans (at0 (normVec x0 x1) x2 i ⟨l.val, by omega⟩)
  unfold out0_8 k0_pay103 k0_pay104 k0_pay105
  rw [View.canon_unit_zero hz, View.ld_unit_zero hz _ x3, e]
  generalize (extractStridedSlice S512x384 ![0, 0] (by512 (normVec x0 x1) (View.ld x2 r0_2)) slices_S512x512_o0_0_S512x384 : FVec Ideal S512x384 .f32) = v at hv ⊢
  rw [query_eq, turn384, ← gain384 x3 j]
  exact norm3_apply i (fun c => col (normVec x0 x1) x2 i.val (0 + c)) (fun c => ρ i.val (0 + c)) (fun l => hr _ _) v (k0_pay5 x3) hv j

/-- The other queries, transposed. -/
theorem out15 (i : Fin 512) (j : Fin 256) : out0_15 (F := Ideal) q x0 x1 x2 x3 x4 x5 x6 x7 (ix2 j i)
    = headed (fun c => col (normVec x0 x1) x2 i.val (1280 + c)) 32 (Ideal.ofBits .f32 0x42000000#32) j.val * x6 (ix2 0 j) := by
  unfold out0_15
  rw [View.canon_unit_zero hz, View.ld_unit_zero hz _ x6, rows_eq]
  rw [← gain256 x6 j]
  refine Eq.trans ?_ (norm2_apply i (fun c => col (normVec x0 x1) x2 i.val (1280 + c)) (fun c => ρ i.val (1280 + c)) (fun l => hr _ _)
    (by256 (normVec x0 x1) (View.ld x2 r0_23)) (k0_pay65 x6) (fun l => at1280 _ _ _ _) j)
  change k0_pay71 (F := Ideal) (by256 (normVec x0 x1) (View.ld x2 r0_23)) (k0_pay65 x6) _ _ _ _ (ix2 j i) = _
  generalize by256 (normVec x0 x1) (View.ld x2 r0_23) = v
  exact turn256 (norm2 v (k0_pay65 x6)) i j

theorem out12 (g : Fin 2) (i : Fin 512) (a : Fin 80) : out0_12 (F := Ideal) q x0 x1 x2 x3 x4 x5 x6 x7 (ix3 g i a)
    = onesAfter 64 a.val (headed (fun c => col (normVec x0 x1) x2 i.val (1024 + c)) 64 (Ideal.ofBits .f32 0x42800000#32) (64 * g.val + a.val) * at128 x5 (64 * g.val + a.val)) := by
  have hn (i : Fin 512) (j : Fin 128) : norm1 (extractStridedSlice S512x128 ![0, 0] (by256 (normVec x0 x1) (View.ld x2 r0_20)) slices_S512x256_o0_0_S512x128) (k0_pay50 x5) (ix2 i j)
      = headed (fun c => col (normVec x0 x1) x2 i.val (1024 + c)) 64 (Ideal.ofBits .f32 0x42800000#32) j.val * at128 x5 j.val := by
    rw [at128, dif_pos j.isLt, ← gain128 x5 j]
    exact norm1_apply i (fun c => col (normVec x0 x1) x2 i.val (1024 + c)) (fun c => ρ i.val (1024 + c)) (fun l => hr _ _) _ (k0_pay50 x5) (fun l => (left128 _ i l).trans (at1024 _ _ _ _)) j
  have e118 : k0_pay118 (F := Ideal) q x0 x1 x2 x3 x4 x5 x6 x7 = extractStridedSlice S512x128 ![0, 0] (by256 (normVec x0 x1) (View.ld x2 r0_20)) slices_S512x256_o0_0_S512x128 := by
    unfold k0_pay118
    rw [rows_eq]
    rfl
  unfold out0_12 k0_pay113 k0_pay119 k0_pay120 k0_pay116 k0_pay121 k0_pay122
  rw [View.ld_unit_zero hz _ x5, e118]
  generalize (extractStridedSlice S512x128 ![0, 0] (by256 (normVec x0 x1) (View.ld x2 r0_20)) slices_S512x256_o0_0_S512x128 : FVec Ideal S512x128 .f32) = v at hn ⊢
  have e54 : k0_pay54 (F := Ideal) v (k0_pay50 x5) k0_pay51 (iota .tc S128x128 32 [1] iota_S128x128_d1_w32) 64#32 k0_pay52 k0_pay53 = norm1 v (k0_pay50 x5) := rfl
  unfold k0_pay57 k0_pay56 k0_pay55
  rw [e54]
  generalize norm1 v (k0_pay50 x5) = u at hn ⊢
  refine View.canon_apply_of_pieces (Val := Elt Ideal) ((fun y => onesAfter 64 (y 2).val (headed (fun c => col (normVec x0 x1) x2 (y 1).val (1024 + c)) 64 (Ideal.ofBits .f32 0x42800000#32) (64 * (y 0).val + (y 2).val)
    * at128 x5 (64 * (y 0).val + (y 2).val))) : Vec Ideal S2x512x80 .bf16) _ ?_ (ix3 g i a) (cover0_12 _ _ _)
  intro p hp
  simp only [List.mem_cons, List.mem_nil_iff, or_false] at hp
  rcases hp with rfl | rfl <;> intro y <;> obtain ⟨y1, y2, rfl⟩ := split3 (m := 512) (n := 80) y
  · refine (keys_of u y1 y2).2.trans (ones_of _ (fun n m => headed (fun c => col (normVec x0 x1) x2 n (1024 + c)) 64 (Ideal.ofBits .f32 0x42800000#32) m * at128 x5 m) (fun h => hn y1 _) ?_ ?_ ?_)
    · show y2.val = 0 + 1 * y2.val; omega
    · show y1.val = 0 + 1 * y1.val; omega
    · show 64 + y2.val = 64 * (1 + 1 * 0) + (0 + 1 * y2.val); omega
  · refine (keys_of u y1 y2).1.trans (ones_of _ (fun n m => headed (fun c => col (normVec x0 x1) x2 n (1024 + c)) 64 (Ideal.ofBits .f32 0x42800000#32) m * at128 x5 m) (fun h => hn y1 _) ?_ ?_ ?_)
    · show y2.val = 0 + 1 * y2.val; omega
    · show y1.val = 0 + 1 * y1.val; omega
    · show y2.val = 64 * (0 + 1 * 0) + (0 + 1 * y2.val); omega
end

end Cert.InProj

end
-- ==== Proof.InProjRef.lean ====
/-
  The reference of the input projection, entry by entry.
-/
module

public import proofs.«01_k».proof.Proof.InProjStore
public import proofs.«01_k».proof.Proof.FfnValue
public import proofs.«01_k».proof.Proof.Gen.Reference4Ideal.Run

@[expose] public section

set_option maxRecDepth 16384
noncomputable section
open Idealize.ShloMosaic Idealize.ShloMosaic.TcCoe Idealize.SL.Sem
namespace Cert.InProj.Ref
open Cert.Reference4Ideal Cert.Reference4Ideal.Gen Cert.InProj

/-- The projection: the normed rows through the weights. -/
def proj (x : FVec Ideal S32768x1024 .f32) (g : FVec Ideal S1024 .f32) (w : FVec Ideal S1024x3474 .f32) : FVec Ideal S32768x3474 .f32 :=
  Host.dotGeneral dot_S32768x1024_S1024x3474_S32768x3474_1_0_0_1_n_n none (Cert.Ffn.refNorm x g) w
theorem proj_apply (x : FVec Ideal S32768x1024 .f32) (g : FVec Ideal S1024 .f32) (w : FVec Ideal S1024x3474 .f32) (r : Fin 32768) (c : Fin 3474) :
    proj x g w (ix2 r c) = ∑ k, Cert.Ffn.normed (fun k => x (ix2 r k)) (fun k => g (ix1 k)) k * w (ix2 k c) := by
  simp only [← Cert.Ffn.refNorm_apply]
  unfold proj
  generalize Cert.Ffn.refNorm x g = h
  pointwise

/-- Its entries by row and column. -/
def Z (z : FVec Ideal S32768x3474 .f32) (r c : ℕ) : EReal := if h : r < 32768 ∧ c < 3474 then z (ix2 ⟨r, h.1⟩ ⟨c, h.2⟩) else 0
theorem Z_of (z : FVec Ideal S32768x3474 .f32) (r : Fin 32768) {c c' : ℕ} (hc : c < 3474) (e : c = c') : z (ix2 r ⟨c, hc⟩) = Z z r.val c' := by
  subst e
  rw [Z, dif_pos ⟨r.isLt, hc⟩]

/-! ### The heads over their root mean square -/

theorem headed_of (f : ℕ → EReal) (d : ℕ) (w : EReal) (h j : ℕ) (a : Fin d) (hj : j = d * h + a.val) (u : Fin d → EReal) (hu : ∀ k, u k = f (d * h + k.val)) :
    u a * Ideal.rsqrt (Ideal.div (∑ k, u k * u k) w + Ideal.ofBits .f32 0x358637BD#32) = headed f d w j := by
  subst hj
  have hd : 0 < d := lt_of_le_of_lt (Nat.zero_le _) a.isLt
  unfold headed meanSq
  rw [Nat.mul_add_div hd, Nat.div_eq_of_lt a.isLt, Nat.add_zero, Nat.mul_comm h d]
  simp only [hu]

def heads6 (v : FVec Ideal S32768x6x64 .f32) (g : FVec Ideal S64 .f32) : FVec Ideal S32768x6x64 .f32 :=
  mulf (mulf v (broadcastInDim S32768x6x64 ![0, 1, 2] bcast_S32768x6x1_S32768x6x64_0_1_2 (Host.rsqrt (addf (Host.divf (broadcastInDim S32768x6x1 ![0, 1] bcast_S32768x6_S32768x6x1_0_1 (Host.reduceAdd (mulf v v) (constant S_ .f32 0x00000000#32) reducesTo_S32768x6x64_S32768x6_d2 h_S_)) (broadcastInDim S32768x6x1 ![] bcast_S_S32768x6x1 (constant S_ .f32 0x42800000#32))) (broadcastInDim S32768x6x1 ![] bcast_S_S32768x6x1 (constant S_ .f32 0x358637BD#32)))))) (broadcastInDim S32768x6x64 ![0, 1, 2] bcast_S1x1x64_S32768x6x64_0_1_2 (broadcastInDim S1x1x64 ![2] bcast_S64_S1x1x64_2 g))
theorem heads6_apply (v : FVec Ideal S32768x6x64 .f32) (g : FVec Ideal S64 .f32) (t : Fin 32768) (h : Fin 6) (a : Fin 64) : heads6 v g (ix3 t h a)
    = v (ix3 t h a) * Ideal.rsqrt (Ideal.div (∑ k, v (ix3 t h k) * v (ix3 t h k)) (Ideal.ofBits .f32 0x42800000#32) + Ideal.ofBits .f32 0x358637BD#32) * g (ix1 a) := by
  pointwise [heads6]
def heads2 (v : FVec Ideal S32768x2x64 .f32) (g : FVec Ideal S64 .f32) : FVec Ideal S32768x2x64 .f32 :=
  mulf (mulf v (broadcastInDim S32768x2x64 ![0, 1, 2] bcast_S32768x2x1_S32768x2x64_0_1_2 (Host.rsqrt (addf (Host.divf (broadcastInDim S32768x2x1 ![0, 1] bcast_S32768x2_S32768x2x1_0_1 (Host.reduceAdd (mulf v v) (constant S_ .f32 0x00000000#32) reducesTo_S32768x2x64_S32768x2_d2 h_S_)) (broadcastInDim S32768x2x1 ![] bcast_S_S32768x2x1 (constant S_ .f32 0x42800000#32))) (broadcastInDim S32768x2x1 ![] bcast_S_S32768x2x1 (constant S_ .f32 0x358637BD#32)))))) (broadcastInDim S32768x2x64 ![0, 1, 2] bcast_S1x1x64_S32768x2x64_0_1_2 (broadcastInDim S1x1x64 ![2] bcast_S64_S1x1x64_2 g))
theorem heads2_apply (v : FVec Ideal S32768x2x64 .f32) (g : FVec Ideal S64 .f32) (t : Fin 32768) (h : Fin 2) (a : Fin 64) : heads2 v g (ix3 t h a)
    = v (ix3 t h a) * Ideal.rsqrt (Ideal.div (∑ k, v (ix3 t h k) * v (ix3 t h k)) (Ideal.ofBits .f32 0x42800000#32) + Ideal.ofBits .f32 0x358637BD#32) * g (ix1 a) := by
  pointwise [heads2]
def heads8 (v : FVec Ideal S32768x8x32 .f32) (g : FVec Ideal S32 .f32) : FVec Ideal S32768x8x32 .f32 :=
  mulf (mulf v (broadcastInDim S32768x8x32 ![0, 1, 2] bcast_S32768x8x1_S32768x8x32_0_1_2 (Host.rsqrt (addf (Host.divf (broadcastInDim S32768x8x1 ![0, 1] bcast_S32768x8_S32768x8x1_0_1 (Host.reduceAdd (mulf v v) (constant S_ .f32 0x00000000#32) reducesTo_S32768x8x32_S32768x8_d2 h_S_)) (broadcastInDim S32768x8x1 ![] bcast_S_S32768x8x1 (constant S_ .f32 0x42000000#32))) (broadcastInDim S32768x8x1 ![] bcast_S_S32768x8x1 (constant S_ .f32 0x358637BD#32)))))) (broadcastInDim S32768x8x32 ![0, 1, 2] bcast_S1x1x32_S32768x8x32_0_1_2 (broadcastInDim S1x1x32 ![2] bcast_S32_S1x1x32_2 g))
theorem heads8_apply (v : FVec Ideal S32768x8x32 .f32) (g : FVec Ideal S32 .f32) (t : Fin 32768) (h : Fin 8) (a : Fin 32) : heads8 v g (ix3 t h a)
    = v (ix3 t h a) * Ideal.rsqrt (Ideal.div (∑ k, v (ix3 t h k) * v (ix3 t h k)) (Ideal.ofBits .f32 0x42000000#32) + Ideal.ofBits .f32 0x358637BD#32) * g (ix1 a) := by
  pointwise [heads8]

/-! ### Columns split into heads -/

variable (z : FVec Ideal S32768x3474 .f32)

def cut6 : FVec Ideal S32768x6x64 .f32 := shapeCast _ (extractStridedSlice S32768x384 ![0, 0] z slices_S32768x3474_S32768x384_0_0) shapeCasts_S32768x384_S32768x6x64
theorem cut6_apply (t : Fin 32768) (h : Fin 6) (a : Fin 64) : cut6 z (ix3 t h a) = Z z t.val (0 + (64 * h.val + a.val)) := by
  rw [← Z_of z t (c := 0 + (h.val * 64 + a.val)) (by omega) (by omega)]
  pointwise [cut6]
def cut2 (o : ℕ) (ho : S32768x3474.Slices ![0, o] S32768x128) : FVec Ideal S32768x2x64 .f32 := shapeCast _ (extractStridedSlice S32768x128 ![0, o] z ho) shapeCasts_S32768x128_S32768x2x64
theorem cut2_apply (o : ℕ) (ho : S32768x3474.Slices ![0, o] S32768x128) (hb : o + 128 ≤ 3474) (t : Fin 32768) (h : Fin 2) (a : Fin 64) : cut2 z o ho (ix3 t h a) = Z z t.val (o + (64 * h.val + a.val)) := by
  rw [← Z_of z t (c := o + (h.val * 64 + a.val)) (by omega) (by omega)]
  pointwise [cut2]
def cut8 (o : ℕ) (ho : S32768x3474.Slices ![0, o] S32768x256) : FVec Ideal S32768x8x32 .f32 := shapeCast _ (extractStridedSlice S32768x256 ![0, o] z ho) shapeCasts_S32768x256_S32768x8x32
theorem cut8_apply (o : ℕ) (ho : S32768x3474.Slices ![0, o] S32768x256) (hb : o + 256 ≤ 3474) (t : Fin 32768) (h : Fin 8) (a : Fin 32) : cut8 z o ho (ix3 t h a) = Z z t.val (o + (32 * h.val + a.val)) := by
  rw [← Z_of z t (c := o + (h.val * 32 + a.val)) (by omega) (by omega)]
  pointwise [cut8]

/-! ### The results -/

/-- A gain by its place, zero outside. -/
def gain64 (g : FVec Ideal S64 .f32) (j : ℕ) : EReal := if h : j < 64 then g (ix1 ⟨j, h⟩) else 0
def gain32 (g : FVec Ideal S32 .f32) (j : ℕ) : EReal := if h : j < 32 then g (ix1 ⟨j, h⟩) else 0
theorem gain64_of (g : FVec Ideal S64 .f32) {j j' : ℕ} (h : j < 64) (e : j = j') : g (ix1 ⟨j, h⟩) = gain64 g j' := by
  subst e
  rw [gain64, dif_pos h]
theorem gain32_of (g : FVec Ideal S32 .f32) {j j' : ℕ} (h : j < 32) (e : j = j') : g (ix1 ⟨j, h⟩) = gain32 g j' := by
  subst e
  rw [gain32, dif_pos h]

/-- One head's entry. -/
theorem head6 (g : FVec Ideal S64 .f32) (t : Fin 32768) (h : Fin 6) (a : Fin 64) (j k : ℕ) (hj : j = 64 * h.val + a.val) (hk : a.val = k) : heads6 (cut6 z) g (ix3 t h a)
    = headed (fun c => Z z t.val (0 + c)) 64 (Ideal.ofBits .f32 0x42800000#32) j * gain64 g k := by
  rw [heads6_apply, headed_of (fun c => Z z t.val (0 + c)) 64 _ h.val j a hj (fun k => cut6 z (ix3 t h k)) (fun k => cut6_apply z t h k), ← gain64_of g a.isLt hk]
theorem head2 (o : ℕ) (ho : S32768x3474.Slices ![0, o] S32768x128) (hb : o + 128 ≤ 3474) (g : FVec Ideal S64 .f32) (t : Fin 32768) (h : Fin 2) (a : Fin 64) (j k : ℕ) (hj : j = 64 * h.val + a.val) (hk : a.val = k) :
    heads2 (cut2 z o ho) g (ix3 t h a) = headed (fun c => Z z t.val (o + c)) 64 (Ideal.ofBits .f32 0x42800000#32) j * gain64 g k := by
  rw [heads2_apply, headed_of (fun c => Z z t.val (o + c)) 64 _ h.val j a hj (fun k => cut2 z o ho (ix3 t h k)) (fun k => cut2_apply z o ho hb t h k), ← gain64_of g a.isLt hk]
theorem head8 (o : ℕ) (ho : S32768x3474.Slices ![0, o] S32768x256) (hb : o + 256 ≤ 3474) (g : FVec Ideal S32 .f32) (t : Fin 32768) (h : Fin 8) (a : Fin 32) (j k : ℕ) (hj : j = 32 * h.val + a.val) (hk : a.val = k) :
    heads8 (cut8 z o ho) g (ix3 t h a) = headed (fun c => Z z t.val (o + c)) 32 (Ideal.ofBits .f32 0x42000000#32) j * gain32 g k := by
  rw [heads8_apply, headed_of (fun c => Z z t.val (o + c)) 32 _ h.val j a hj (fun k => cut8 z o ho (ix3 t h k)) (fun k => cut8_apply z o ho hb t h k), ← gain32_of g a.isLt hk]

/-- The queries, a column a token. -/
def lay6 (u : FVec Ideal S32768x6x64 .f32) : FVec Ideal S384x32768 .bf16 :=
  truncf .bf16 (transpose S384x32768 [1, 0] (mulf (shapeCast _ u shapeCasts_S32768x6x64_S32768x384) (broadcastInDim S32768x384 ![] bcast_S_S32768x384 (constant S_ .f32 0x3E38AA3B#32))) transposes_S32768x384_S384x32768_1_0) bitsLt_bf16_f32
theorem lay6_apply (u : FVec Ideal S32768x6x64 .f32) (j : Fin 384) (t : Fin 32768) : lay6 u (ix2 j t) = u (ix3 t ⟨j.val / 64, by omega⟩ ⟨j.val % 64, by omega⟩) * Ideal.ofBits .f32 0x3E38AA3B#32 := by
  pointwise [lay6]
def lay8 (u : FVec Ideal S32768x8x32 .f32) : FVec Ideal S256x32768 .bf16 :=
  truncf .bf16 (transpose S256x32768 [1, 0] (mulf (shapeCast _ u shapeCasts_S32768x8x32_S32768x256) (broadcastInDim S32768x256 ![] bcast_S_S32768x256 (constant S_ .f32 0x3E8293EE#32))) transposes_S32768x256_S256x32768_1_0) bitsLt_bf16_f32
theorem lay8_apply (u : FVec Ideal S32768x8x32 .f32) (j : Fin 256) (t : Fin 32768) : lay8 u (ix2 j t) = u (ix3 t ⟨j.val / 32, by omega⟩ ⟨j.val % 32, by omega⟩) * Ideal.ofBits .f32 0x3E8293EE#32 := by
  pointwise [lay8]

theorem ref8 (g : FVec Ideal S64 .f32) (j : Fin 384) (t : Fin 32768) : lay6 (heads6 (cut6 z) g) (ix2 j t)
    = headed (fun c => Z z t.val (0 + c)) 64 (Ideal.ofBits .f32 0x42800000#32) j.val * gain64 g (j.val % 64) * Ideal.ofBits .f32 0x3E38AA3B#32 := by
  rw [lay6_apply, head6 z g t _ _ j.val (j.val % 64) (by show j.val = 64 * (j.val / 64) + j.val % 64; omega) rfl]
theorem ref15 (g : FVec Ideal S32 .f32) (ho : S32768x3474.Slices ![0, 1170] S32768x256) (j : Fin 256) (t : Fin 32768) : lay8 (heads8 (cut8 z 1170 ho) g) (ix2 j t)
    = headed (fun c => Z z t.val (1170 + c)) 32 (Ideal.ofBits .f32 0x42000000#32) j.val * gain32 g (j.val % 32) * Ideal.ofBits .f32 0x3E8293EE#32 := by
  rw [lay8_apply, head8 z 1170 ho (by omega) g t _ _ j.val (j.val % 32) (by show j.val = 32 * (j.val / 32) + j.val % 32; omega) rfl]

/-- The columns the compression reads. -/
def both (u v : FVec Ideal S32768x2x64 .f32) : FVec Ideal S4x32768x64 .f32 :=
  concatenate S4x32768x64 0 [⟨S2x32768x64, (transpose S2x32768x64 [1, 0, 2] u transposes_S32768x2x64_S2x32768x64_1_0_2)⟩, ⟨S2x32768x64, (transpose S2x32768x64 [1, 0, 2] v transposes_S32768x2x64_S2x32768x64_1_0_2)⟩] concatenates_S2x32768x64_S2x32768x64_S4x32768x64_d0
theorem both_apply (u v : FVec Ideal S32768x2x64 .f32) (a : Fin 4) (t : Fin 32768) (j : Fin 64) : both u v (ix3 a t j)
    = if h : a.val < 2 then u (ix3 t ⟨a.val, h⟩ j) else v (ix3 t ⟨a.val - 2, by omega⟩ j) := by
  pointwise [both]
theorem ref9 (h1 : S32768x3474.Slices ![0, 384] S32768x128) (h2 : S32768x3474.Slices ![0, 512] S32768x128) (a : Fin 4) (t : Fin 32768) (j : Fin 64) :
    both (cut2 z 384 h1) (cut2 z 512 h2) (ix3 a t j) = Z z t.val (384 + (64 * a.val + j.val)) := by
  rw [both_apply]
  by_cases h : a.val < 2
  · rw [dif_pos h, cut2_apply z 384 h1 (by omega)]
  · rw [dif_neg h, cut2_apply z 512 h2 (by omega)]
    exact congrArg (Z z t.val) (by show 512 + (64 * (a.val - 2) + j.val) = _; omega)

/-- Keys with ones after them. -/
def keys64 (u : FVec Ideal S32768x2x64 .f32) : FVec Ideal S2x32768x80 .bf16 :=
  truncf .bf16 (concatenate S2x32768x80 2 [⟨S2x32768x64, (transpose S2x32768x64 [1, 0, 2] u transposes_S32768x2x64_S2x32768x64_1_0_2)⟩, ⟨S2x32768x16, (broadcastInDim S2x32768x16 ![] bcast_S_S2x32768x16 (constant S_ .f32 0x3F800000#32))⟩] concatenates_S2x32768x64_S2x32768x16_S2x32768x80_d2) bitsLt_bf16_f32
theorem keys64_apply (u : FVec Ideal S32768x2x64 .f32) (g : Fin 2) (t : Fin 32768) (a : Fin 80) : keys64 u (ix3 g t a)
    = if h : a.val < 64 then u (ix3 t g ⟨a.val, h⟩) else Ideal.ofBits .f32 0x3F800000#32 := by
  pointwise [keys64]
def keys128 (u : FVec Ideal S32768x8x32 .f32) : FVec Ideal S2x32768x144 .bf16 :=
  truncf .bf16 (concatenate S2x32768x144 2 [⟨S2x32768x128, (transpose S2x32768x128 [1, 0, 2] (shapeCast _ (shapeCast _ u shapeCasts_S32768x8x32_S32768x256) shapeCasts_S32768x256_S32768x2x128) transposes_S32768x2x128_S2x32768x128_1_0_2)⟩, ⟨S2x32768x16, (broadcastInDim S2x32768x16 ![] bcast_S_S2x32768x16 (constant S_ .f32 0x3F800000#32))⟩] concatenates_S2x32768x128_S2x32768x16_S2x32768x144_d2) bitsLt_bf16_f32
theorem keys128_apply (u : FVec Ideal S32768x8x32 .f32) (g : Fin 2) (t : Fin 32768) (a : Fin 144) : keys128 u (ix3 g t a)
    = if h : a.val < 128 then u (ix3 t ⟨g.val * 4 + a.val / 32, by omega⟩ ⟨a.val % 32, by omega⟩) else Ideal.ofBits .f32 0x3F800000#32 := by
  pointwise [keys128]

theorem ref12 (g : FVec Ideal S64 .f32) (ho : S32768x3474.Slices ![0, 896] S32768x128) (q : Fin 2) (t : Fin 32768) (a : Fin 80) : keys64 (heads2 (cut2 z 896 ho) g) (ix3 q t a)
    = onesAfter 64 a.val (headed (fun c => Z z t.val (896 + c)) 64 (Ideal.ofBits .f32 0x42800000#32) (64 * q.val + a.val) * gain64 g a.val) := by
  rw [keys64_apply, onesAfter]
  by_cases h : a.val < 64
  · rw [dif_pos h, if_pos h, head2 z 896 ho (by omega) g t q ⟨a.val, h⟩ (64 * q.val + a.val) a.val rfl rfl]
  · rw [dif_neg h, if_neg h, Ideal.ofBits_one_f32, Ideal.ofBits_one_bf16]
theorem ref16 (g : FVec Ideal S32 .f32) (ho : S32768x3474.Slices ![0, 1426] S32768x256) (q : Fin 2) (t : Fin 32768) (a : Fin 144) : keys128 (heads8 (cut8 z 1426 ho) g) (ix3 q t a)
    = onesAfter 128 a.val (headed (fun c => Z z t.val (1426 + c)) 32 (Ideal.ofBits .f32 0x42000000#32) (128 * q.val + a.val) * gain32 g ((128 * q.val + a.val) % 32)) := by
  rw [keys128_apply, onesAfter]
  by_cases h : a.val < 128
  · rw [dif_pos h, if_pos h, head8 z 1426 ho (by omega) g t _ _ (128 * q.val + a.val) ((128 * q.val + a.val) % 32) (by show _ = 32 * (q.val * 4 + a.val / 32) + a.val % 32; omega) (by show a.val % 32 = _; omega)]
  · rw [dif_neg h, if_neg h, Ideal.ofBits_one_f32, Ideal.ofBits_one_bf16]

/-- Values, a block of 256 tokens at a time, with ones under them. -/
def vals64 (o : ℕ) (ho : S32768x3474.Slices ![0, o] S32768x128) : FVec Ideal S2x128x80x256 .bf16 :=
  truncf .bf16 (concatenate S2x128x80x256 2 [⟨S2x128x64x256, (transpose S2x128x64x256 [2, 0, 3, 1] (shapeCast _ (extractStridedSlice S32768x128 ![0, o] z ho) shapeCasts_S32768x128_S128x256x2x64) transposes_S128x256x2x64_S2x128x64x256_2_0_3_1)⟩, ⟨S2x128x16x256, (broadcastInDim S2x128x16x256 ![] bcast_S_S2x128x16x256 (constant S_ .f32 0x3F800000#32))⟩] concatenates_S2x128x64x256_S2x128x16x256_S2x128x80x256_d2) bitsLt_bf16_f32
theorem ref_vals64 (o : ℕ) (ho : S32768x3474.Slices ![0, o] S32768x128) (hb : o + 128 ≤ 3474) (g : Fin 2) (n : Fin 128) (a : Fin 80) (l : Fin 256) : vals64 z o ho (ix4 g n a l)
    = valueAt (Z z) o 64 g.val (256 * n.val + l.val) a.val := by
  have e : vals64 z o ho (ix4 g n a l) = if h : a.val < 64 then z (ix2 ⟨n.val * 256 + l.val, by omega⟩ ⟨o + (g.val * 64 + a.val), by omega⟩) else Ideal.ofBits .f32 0x3F800000#32 := by
    pointwise [vals64]
  rw [e, valueAt]
  by_cases h : a.val < 64
  · rw [dif_pos h, if_pos h, Z_of z _ (c' := o + 64 * g.val + a.val) (by omega) (by omega)]
    exact congrArg (fun i => Z z i _) (by show n.val * 256 + l.val = _; omega)
  · rw [dif_neg h, if_neg h, Ideal.ofBits_one_f32, Ideal.ofBits_one_bf16]
def vals128 : FVec Ideal S2x128x144x256 .bf16 :=
  truncf .bf16 (concatenate S2x128x144x256 2 [⟨S2x128x128x256, (transpose S2x128x128x256 [2, 0, 3, 1] (shapeCast _ (extractStridedSlice S32768x256 ![0, 1682] z slices_S32768x3474_S32768x256_0_1682) shapeCasts_S32768x256_S128x256x2x128) transposes_S128x256x2x128_S2x128x128x256_2_0_3_1)⟩, ⟨S2x128x16x256, (broadcastInDim S2x128x16x256 ![] bcast_S_S2x128x16x256 (constant S_ .f32 0x3F800000#32))⟩] concatenates_S2x128x128x256_S2x128x16x256_S2x128x144x256_d2) bitsLt_bf16_f32
theorem ref_vals128 (g : Fin 2) (n : Fin 128) (a : Fin 144) (l : Fin 256) : vals128 z (ix4 g n a l)
    = valueAt (Z z) 1682 128 g.val (256 * n.val + l.val) a.val := by
  have e : vals128 z (ix4 g n a l) = if h : a.val < 128 then z (ix2 ⟨n.val * 256 + l.val, by omega⟩ ⟨1682 + (g.val * 128 + a.val), by omega⟩) else Ideal.ofBits .f32 0x3F800000#32 := by
    pointwise [vals128]
  rw [e, valueAt]
  by_cases h : a.val < 128
  · rw [dif_pos h, if_pos h, Z_of z _ (c' := 1682 + 128 * g.val + a.val) (by omega) (by omega)]
    exact congrArg (fun i => Z z i _) (by show n.val * 256 + l.val = _; omega)
  · rw [dif_neg h, if_neg h, Ideal.ofBits_one_f32, Ideal.ofBits_one_bf16]

/-- The gates. -/
def gates : FVec Ideal S2x16x32768 .f32 :=
  transpose S2x16x32768 [1, 2, 0] (concatenate S32768x2x16 2 [⟨S32768x2x9, (shapeCast _ (Host.divf (broadcastInDim S32768x18 ![] bcast_S_S32768x18 (constant S_ .f32 0x3F800000#32)) (addf (broadcastInDim S32768x18 ![] bcast_S_S32768x18 (constant S_ .f32 0x3F800000#32)) (Host.exp (Host.negf (extractStridedSlice S32768x18 ![0, 1152] z slices_S32768x3474_S32768x18_0_1152))))) shapeCasts_S32768x18_S32768x2x9)⟩, ⟨S32768x2x7, (broadcastInDim S32768x2x7 ![] bcast_S_S32768x2x7 (constant S_ .f32 0x3F000000#32))⟩] concatenates_S32768x2x9_S32768x2x7_S32768x2x16_d2) transposes_S32768x2x16_S2x16x32768_1_2_0
theorem ref14 (g : Fin 2) (a : Fin 16) (t : Fin 32768) : gates z (ix3 g a t)
    = if a.val < 9 then Ideal.logistic (Z z t.val (1152 + (9 * g.val + a.val))) else Ideal.ofBits .f32 0x3F000000#32 := by
  have e : gates z (ix3 g a t) = if h : a.val < 9 then Ideal.logistic (z (ix2 t ⟨1152 + (g.val * 9 + a.val), by omega⟩)) else Ideal.ofBits .f32 0x3F000000#32 := by
    simp only [show ∀ x, Ideal.logistic x = Ideal.div 1 (1 + Ideal.exp (-x)) from fun _ => rfl]
    pointwise [gates]
  rw [e]
  by_cases h : a.val < 9
  · rw [dif_pos h, if_pos h, Z_of z t (c' := 1152 + (9 * g.val + a.val)) (by omega) (by omega)]
  · rw [dif_neg h, if_neg h]

/-- A run of columns as it is. -/
def run384 (o : ℕ) (ho : S32768x3474.Slices ![0, o] S32768x384) : FVec Ideal S32768x384 .f32 := extractStridedSlice S32768x384 ![0, o] z ho
theorem ref_run (o : ℕ) (ho : S32768x3474.Slices ![0, o] S32768x384) (hb : o + 384 ≤ 3474) (t : Fin 32768) (j : Fin 384) : run384 z o ho (ix2 t j) = Z z t.val (o + j.val) := by
  rw [← Z_of z t (c := o + j.val) (by omega) rfl]
  pointwise [run384]

end Cert.InProj.Ref

end
-- ==== Proof.InProjHost.lean ====
/-
  What the host code hands to the input projection: the weights with their columns in the kernel's order, and the gains repeated a head at a time.
-/
module

public import proofs.«01_k».proof.Proof.InProjRef

@[expose] public section

set_option maxRecDepth 16384
noncomputable section
open Idealize.ShloMosaic Idealize.ShloMosaic.TcCoe Idealize.SL.Sem
namespace Cert.InProj
open Cert.Kernel4Ideal Cert.Kernel4Ideal.Gen

/-! ### The gains -/

def gainQ (g : FVec Ideal S64 .f32) : FVec Ideal S1x384 .f32 :=
  mulf (shapeCast S1x384 (shapeCast S384 (broadcastInDim S6x64 ![0, 1] bcast_S1x64_S6x64_0_1 (shapeCast S1x64 g shapeCasts_S64_S1x64 : FVec Ideal S1x64 .f32)) shapeCasts_S6x64_S384 : FVec Ideal S384 .f32) shapeCasts_S384_S1x384)
    (broadcastInDim S1x384 ![] bcast_S_S1x384 (constant S_ .f32 0x3E38AA3B#32))
def gainD (g : FVec Ideal S32 .f32) : FVec Ideal S1x256 .f32 :=
  shapeCast S1x256 (shapeCast S256 (broadcastInDim S8x32 ![0, 1] bcast_S1x32_S8x32_0_1 (shapeCast S1x32 g shapeCasts_S32_S1x32 : FVec Ideal S1x32 .f32)) shapeCasts_S8x32_S256 : FVec Ideal S256 .f32) shapeCasts_S256_S1x256
def gainE (g : FVec Ideal S32 .f32) : FVec Ideal S1x256 .f32 :=
  mulf (gainD g) (broadcastInDim S1x256 ![] bcast_S_S1x256 (constant S_ .f32 0x3E8293EE#32))
def gainK (g : FVec Ideal S64 .f32) : FVec Ideal S1x128 .f32 :=
  shapeCast S1x128 (shapeCast S128 (broadcastInDim S2x64 ![0, 1] bcast_S1x64_S2x64_0_1 (shapeCast S1x64 g shapeCasts_S64_S1x64 : FVec Ideal S1x64 .f32)) shapeCasts_S2x64_S128 : FVec Ideal S128 .f32) shapeCasts_S128_S1x128
/-- One row of the three. -/
def pick1 (g : FVec Ideal S3x64 .f32) : FVec Ideal S64 .f32 := shapeCast S64 (extractStridedSlice S1x64 ![1, 0] g slices_S3x64_S1x64_1_0 : FVec Ideal S1x64 .f32) shapeCasts_S1x64_S64
def pick2 (g : FVec Ideal S3x64 .f32) : FVec Ideal S64 .f32 := shapeCast S64 (extractStridedSlice S1x64 ![2, 0] g slices_S3x64_S1x64_2_0 : FVec Ideal S1x64 .f32) shapeCasts_S1x64_S64

theorem gainQ_apply (g : FVec Ideal S64 .f32) (j : Fin 384) : gainQ g (ix2 0 j) = Ref.gain64 g (j.val % 64) * Ideal.ofBits .f32 0x3E38AA3B#32 := by
  rw [← Ref.gain64_of g (j := j.val % 64) (by omega) rfl]
  pointwise [gainQ]
theorem gainD_apply (g : FVec Ideal S32 .f32) (j : Fin 256) : gainD g (ix2 0 j) = Ref.gain32 g (j.val % 32) := by
  rw [← Ref.gain32_of g (j := j.val % 32) (by omega) rfl]
  pointwise [gainD]
theorem gainE_apply (g : FVec Ideal S32 .f32) (j : Fin 256) : gainE g (ix2 0 j) = Ref.gain32 g (j.val % 32) * Ideal.ofBits .f32 0x3E8293EE#32 := by
  rw [← gainD_apply]
  unfold gainE
  generalize gainD g = u
  pointwise
theorem gainK_apply (g : FVec Ideal S64 .f32) (j : Fin 128) : gainK g (ix2 0 j) = Ref.gain64 g (j.val % 64) := by
  rw [← Ref.gain64_of g (j := j.val % 64) (by omega) rfl]
  pointwise [gainK]

/-! ### The weights -/

/-- The gates' columns, nine and seven columns of zeros, twice. -/
def gateCols (w : FVec Ideal S1024x18 .f32) : FVec Ideal S1024x128 .f32 :=
  concatenate S1024x128 1 [⟨S1024x16, (pad S1024x16 ![0, 0] ![0, 7] ![0, 0] (extractStridedSlice S1024x9 ![0, 0] w slices_S1024x18_S1024x9_0_0 : FVec Ideal S1024x9 .f32) (sitofp .f32 (constantI S_ 32 0#32) : FVec Ideal S_ .f32) pads_S1024x9_S1024x16_000_070 h_S_ : FVec Ideal S1024x16 .f32)⟩,
    ⟨S1024x16, (pad S1024x16 ![0, 0] ![0, 7] ![0, 0] (extractStridedSlice S1024x9 ![0, 9] w slices_S1024x18_S1024x9_0_9 : FVec Ideal S1024x9 .f32) (sitofp .f32 (constantI S_ 32 0#32) : FVec Ideal S_ .f32) pads_S1024x9_S1024x16_000_070 h_S_ : FVec Ideal S1024x16 .f32)⟩,
    ⟨S1024x96, (broadcastInDim S1024x96 ![] bcast_S_S1024x96 (constant S_ .f32 0x00000000#32) : FVec Ideal S1024x96 .f32)⟩] concatenates_S1024x16_S1024x16_S1024x96_S1024x128_d1

/-- The pieces in the kernel's order, and the whole. -/
def pieces (w : FVec Ideal S1024x3474 .f32) (u : FVec Ideal S1024x128 .f32) : List ((s : Shape) × (s.Idx → Elt Ideal .f32)) :=
  [⟨S1024x384, (extractStridedSlice S1024x384 ![0, 0] w slices_S1024x3474_S1024x384_0_0 : FVec Ideal S1024x384 .f32)⟩, ⟨S1024x128, u⟩,
    ⟨S1024x128, (extractStridedSlice S1024x128 ![0, 384] w slices_S1024x3474_S1024x128_0_384 : FVec Ideal S1024x128 .f32)⟩,
    ⟨S1024x128, (extractStridedSlice S1024x128 ![0, 512] w slices_S1024x3474_S1024x128_0_512 : FVec Ideal S1024x128 .f32)⟩,
    ⟨S1024x128, (extractStridedSlice S1024x128 ![0, 640] w slices_S1024x3474_S1024x128_0_640 : FVec Ideal S1024x128 .f32)⟩,
    ⟨S1024x128, (extractStridedSlice S1024x128 ![0, 768] w slices_S1024x3474_S1024x128_0_768 : FVec Ideal S1024x128 .f32)⟩,
    ⟨S1024x128, (extractStridedSlice S1024x128 ![0, 896] w slices_S1024x3474_S1024x128_0_896 : FVec Ideal S1024x128 .f32)⟩,
    ⟨S1024x128, (extractStridedSlice S1024x128 ![0, 1024] w slices_S1024x3474_S1024x128_0_1024 : FVec Ideal S1024x128 .f32)⟩,
    ⟨S1024x256, (extractStridedSlice S1024x256 ![0, 1170] w slices_S1024x3474_S1024x256_0_1170 : FVec Ideal S1024x256 .f32)⟩,
    ⟨S1024x256, (extractStridedSlice S1024x256 ![0, 1426] w slices_S1024x3474_S1024x256_0_1426 : FVec Ideal S1024x256 .f32)⟩,
    ⟨S1024x256, (extractStridedSlice S1024x256 ![0, 1682] w slices_S1024x3474_S1024x256_0_1682 : FVec Ideal S1024x256 .f32)⟩,
    ⟨S1024x384, (extractStridedSlice S1024x384 ![0, 1938] w slices_S1024x3474_S1024x384_0_1938 : FVec Ideal S1024x384 .f32)⟩,
    ⟨S1024x384, (extractStridedSlice S1024x384 ![0, 2322] w slices_S1024x3474_S1024x384_0_2322 : FVec Ideal S1024x384 .f32)⟩,
    ⟨S1024x384, (extractStridedSlice S1024x384 ![0, 2706] w slices_S1024x3474_S1024x384_0_2706 : FVec Ideal S1024x384 .f32)⟩,
    ⟨S1024x384, (extractStridedSlice S1024x384 ![0, 3090] w slices_S1024x3474_S1024x384_0_3090 : FVec Ideal S1024x384 .f32)⟩]
def laid (w : FVec Ideal S1024x3474 .f32) (u : FVec Ideal S1024x128 .f32) : FVec Ideal S1024x3584 .bf16 :=
  truncf .bf16 (concatenate S1024x3584 1 (pieces w u) concatenates_S1024x384_S1024x128_S1024x128_S1024x128_S1024x128_S1024x128_S1024x128_S1024x128_S1024x256_S1024x256_S1024x256_S1024x384_S1024x384_S1024x384_S1024x384_S1024x3584_d1 : FVec Ideal S1024x3584 .f32) bitsLt_bf16_f32

def permuted (w : FVec Ideal S1024x3474 .f32) : FVec Ideal S1024x3584 .bf16 :=
  laid w (gateCols (extractStridedSlice S1024x18 ![0, 1152] w slices_S1024x3474_S1024x18_0_1152))

/-- A weight by its places, zero outside. -/
def wAt (w : FVec Ideal S1024x3474 .f32) (k : Fin 1024) (c : ℕ) : EReal := if h : c < 3474 then w (ix2 k ⟨c, h⟩) else 0
theorem wAt_of (w : FVec Ideal S1024x3474 .f32) (k : Fin 1024) {c c' : ℕ} (h : c < 3474) (e : c = c') : w (ix2 k ⟨c, h⟩) = wAt w k c' := by
  subst e
  rw [wAt, dif_pos h]

def widths : List ℕ := [384, 128, 128, 128, 128, 128, 128, 128, 256, 256, 256, 384, 384, 384, 384]
theorem widths_eq (w : FVec Ideal S1024x3474 .f32) (u : FVec Ideal S1024x128 .f32) :
    (((pieces w u).map (·.1)).map fun s : Shape => if h : s.rank = S1024x3584.rank then s.size ((1 : Fin 2).cast h.symm) else 0) = widths := rfl

/-- A column of piece `q`, which starts at column `p`. -/
theorem laid_piece (w : FVec Ideal S1024x3474 .f32) (u : FVec Ideal S1024x128 .f32) (q n p : ℕ) (hq : q < 15) (x : (⟨2, ![1024, n]⟩ : Shape).Idx → Elt Ideal .f32)
    (hx : (pieces w u)[q]'hq = ⟨⟨2, ![1024, n]⟩, x⟩)
    (hp : (widths.take q).sum = p)
    (k : Fin 1024) (j : Fin n) (c : Fin 3584) (hc : p + j.val = c.val) : laid w u (ix2 k c) = x (ix2 k j) := by
  refine concatenate_apply_piece (t := S1024x3584) 1 (pieces w u) concatenates_S1024x384_S1024x128_S1024x128_S1024x128_S1024x128_S1024x128_S1024x128_S1024x128_S1024x256_S1024x256_S1024x256_S1024x384_S1024x384_S1024x384_S1024x384_S1024x3584_d1 (ix2 k c) q hq _ x hx rfl p (by rw [← hp, ← widths_eq w u, List.map_take, List.map_take]) (ix2 k j) (fun b hb => ?_) hc
  match b with
  | ⟨0, _⟩ => rfl
  | ⟨1, _⟩ => exact absurd rfl hb
theorem cut_apply (w : FVec Ideal S1024x3474 .f32) (n o : ℕ) (ho : S1024x3474.Slices ![0, o] ⟨2, ![1024, n]⟩) (hn : o + n ≤ 3474) (k : Fin 1024) (j : Fin n) :
    extractStridedSlice ⟨2, ![1024, n]⟩ ![0, o] w ho (ix2 k j) = wAt w k (o + j.val) := by
  rw [← wAt_of w k (c := o + j.val) (by omega) rfl]
  refine congrArg w (funext fun a => Fin.ext ?_)
  match a with
  | ⟨0, _⟩ => show 0 + k.val = k.val; omega
  | ⟨1, _⟩ => rfl
theorem laid_apply (w : FVec Ideal S1024x3474 .f32) (u : FVec Ideal S1024x128 .f32) (k : Fin 1024) (c : Fin 3584) : laid w u (ix2 k c)
    = if h : c.val < 384 then wAt w k c.val else if h : c.val - 384 < 128 then u (ix2 k ⟨c.val - 384, h⟩) else if c.val < 1280 then wAt w k (c.val - 128) else wAt w k (c.val - 110) := by
  have hc := c.isLt
  have cut (q n p o : ℕ) (hq : q < 15) (ho : S1024x3474.Slices ![0, o] ⟨2, ![1024, n]⟩) (hn : o + n ≤ 3474) (hx : (pieces w u)[q]'hq = ⟨⟨2, ![1024, n]⟩, extractStridedSlice ⟨2, ![1024, n]⟩ ![0, o] w ho⟩)
      (hp : (widths.take q).sum = p)
      (hl : p ≤ c.val) (hr : c.val < p + n) (c' : ℕ) (e : o + (c.val - p) = c') : laid w u (ix2 k c) = wAt w k c' := by
    subst e
    exact (laid_piece w u q n p hq _ hx hp k ⟨c.val - p, by omega⟩ c (by show p + (c.val - p) = _; omega)).trans (cut_apply w n o ho hn k _)
  by_cases h0 : c.val < 384
  · rw [dif_pos h0]
    exact cut 0 384 0 0 (by omega) _ (by omega) rfl (by decide) (by omega) (by omega) _ (by omega)
  rw [dif_neg h0]
  by_cases h1 : c.val - 384 < 128
  · rw [dif_pos h1]
    exact laid_piece w u 1 128 384 (by omega) u rfl (by decide) k ⟨c.val - 384, h1⟩ c (by show 384 + (c.val - 384) = _; omega)
  rw [dif_neg h1]
  by_cases h : c.val < 1280
  · rw [if_pos h]
    by_cases c2 : c.val < 640
    · exact cut 2 128 512 384 (by omega) _ (by omega) rfl (by decide) (by omega) (by omega) _ (by omega)
    by_cases c3 : c.val < 768
    · exact cut 3 128 640 512 (by omega) _ (by omega) rfl (by decide) (by omega) (by omega) _ (by omega)
    by_cases c4 : c.val < 896
    · exact cut 4 128 768 640 (by omega) _ (by omega) rfl (by decide) (by omega) (by omega) _ (by omega)
    by_cases c5 : c.val < 1024
    · exact cut 5 128 896 768 (by omega) _ (by omega) rfl (by decide) (by omega) (by omega) _ (by omega)
    by_cases c6 : c.val < 1152
    · exact cut 6 128 1024 896 (by omega) _ (by omega) rfl (by decide) (by omega) (by omega) _ (by omega)
    · exact cut 7 128 1152 1024 (by omega) _ (by omega) rfl (by decide) (by omega) (by omega) _ (by omega)
  rw [if_neg h]
  by_cases c8 : c.val < 1536
  · exact cut 8 256 1280 1170 (by omega) _ (by omega) rfl (by decide) (by omega) (by omega) _ (by omega)
  by_cases c9 : c.val < 1792
  · exact cut 9 256 1536 1426 (by omega) _ (by omega) rfl (by decide) (by omega) (by omega) _ (by omega)
  by_cases c10 : c.val < 2048
  · exact cut 10 256 1792 1682 (by omega) _ (by omega) rfl (by decide) (by omega) (by omega) _ (by omega)
  by_cases c11 : c.val < 2432
  · exact cut 11 384 2048 1938 (by omega) _ (by omega) rfl (by decide) (by omega) (by omega) _ (by omega)
  by_cases c12 : c.val < 2816
  · exact cut 12 384 2432 2322 (by omega) _ (by omega) rfl (by decide) (by omega) (by omega) _ (by omega)
  by_cases c13 : c.val < 3200
  · exact cut 13 384 2816 2706 (by omega) _ (by omega) rfl (by decide) (by omega) (by omega) _ (by omega)
  · exact cut 14 384 3200 3090 (by omega) _ (by omega) rfl (by decide) (by omega) (by omega) _ (by omega)

/-- A gate's column. -/
theorem gateCols_apply (w : FVec Ideal S1024x18 .f32) (k : Fin 1024) (g : Fin 2) (a : Fin 16) : gateCols w (ix2 k ⟨16 * g.val + a.val, by omega⟩)
    = if h : a.val < 9 then w (ix2 k ⟨9 * g.val + a.val, by omega⟩) else 0 := by
  have hs : (FloatOps.sitofp .f32 (BitVec.ofNat 32 0) : Ideal .f32) = 0 := by
    show (((BitVec.toInt (0#32 : BitVec 32) : ℤ) : ℝ) : EReal) = 0
    simp
  have e : gateCols w (ix2 k ⟨16 * g.val + a.val, by omega⟩) = if h : 16 * g.val + a.val < 16 then (if h' : 16 * g.val + a.val < 9 then w (ix2 k ⟨16 * g.val + a.val, by omega⟩) else FloatOps.sitofp .f32 (BitVec.ofNat 32 0))
      else if h : 16 * g.val + a.val - 16 < 16 then (if h' : 16 * g.val + a.val - 16 < 9 then w (ix2 k ⟨9 + (16 * g.val + a.val - 16), by omega⟩) else FloatOps.sitofp .f32 (BitVec.ofNat 32 0)) else 0 := by
    pointwise [gateCols]
  rw [e, hs]
  have key {n n' : ℕ} (hn : n < 18) (hn' : n' < 18) (h : n = n') : w (ix2 k ⟨n, hn⟩) = w (ix2 k ⟨n', hn'⟩) := by subst h; rfl
  by_cases hg : g.val = 0
  · by_cases ha : a.val < 9
    · rw [dif_pos (by omega), dif_pos (by omega), dif_pos ha]
      exact key _ _ (by omega)
    · rw [dif_pos (by omega), dif_neg (by omega), dif_neg ha]
  · by_cases ha : a.val < 9
    · rw [dif_neg (by omega), dif_pos (by omega), dif_pos (by omega), dif_pos ha]
      exact key _ _ (by omega)
    · rw [dif_neg (by omega), dif_pos (by omega), dif_neg (by omega), dif_neg ha]

/-- The columns of the kernel's order, in the reference's. -/
theorem permuted_low (w : FVec Ideal S1024x3474 .f32) (k : Fin 1024) (c : Fin 3584) (h : c.val < 384) : permuted w (ix2 k c) = wAt w k c.val := by
  rw [permuted, laid_apply, dif_pos h]
theorem permuted_mid (w : FVec Ideal S1024x3474 .f32) (k : Fin 1024) (c : Fin 3584) (h : 512 ≤ c.val) (h' : c.val < 1280) : permuted w (ix2 k c) = wAt w k (c.val - 128) := by
  rw [permuted, laid_apply, dif_neg (by omega), dif_neg (by omega), if_pos h']
theorem permuted_high (w : FVec Ideal S1024x3474 .f32) (k : Fin 1024) (c : Fin 3584) (h : 1280 ≤ c.val) : permuted w (ix2 k c) = wAt w k (c.val - 110) := by
  rw [permuted, laid_apply, dif_neg (by omega), dif_neg (by omega), if_neg (by omega)]
theorem permuted_gate (w : FVec Ideal S1024x3474 .f32) (k : Fin 1024) (g : Fin 2) (a : Fin 16) : permuted w (ix2 k ⟨384 + 16 * g.val + a.val, by omega⟩)
    = if a.val < 9 then wAt w k (1152 + (9 * g.val + a.val)) else 0 := by
  have hx (c : Fin 3584) (h : c.val = 384 + 16 * g.val + a.val) (u : FVec Ideal S1024x128 .f32) : laid w u (ix2 k c) = u (ix2 k ⟨16 * g.val + a.val, by omega⟩) := by
    rw [laid_apply, dif_neg (by omega), dif_pos (by omega)]
    exact congrArg (fun j => u (ix2 k j)) (Fin.ext (by show c.val - 384 = 16 * g.val + a.val; omega))
  rw [permuted, hx _ rfl, gateCols_apply]
  by_cases ha : a.val < 9
  · rw [dif_pos ha, if_pos ha]
    exact cut_apply w 18 1152 _ (by omega) k ⟨9 * g.val + a.val, by omega⟩
  · rw [dif_neg ha, if_neg ha]

end Cert.InProj

end
-- ==== Proof.InProjReal.lean ====
/-
  Under the precondition the projection's columns are real numbers, whatever the rows: a row with an infinite entry has an infinite mean square, and its norm is zero.
-/
module

public import proofs.«01_k».proof.Pre_weights_finite
public import proofs.«01_k».proof.Proof.Finite
public import proofs.«01_k».proof.Proof.InProjHost

@[expose] public section

set_option maxRecDepth 16384
noncomputable section
open Idealize.ShloMosaic Idealize.ShloMosaic.TcCoe Idealize.SL.Sem
namespace Cert.InProj

/-- The predicate's own side conditions. -/
instance preFacts : Cert.Pre_weights_finite.Facts where
  bcast_S_S1024 := by decide
  reducesTo_S1024_S_d0 := by decide
  h_S_ := by decide
  bcast_S_S1024x3474 := by decide
  reducesTo_S1024x3474_S_d0_1 := by decide

def IsReal (x : EReal) : Prop := ((x.toReal : ℝ) : EReal) = x

theorem weights_real {a0 : FVec Ideal Cert.Pre_weights_finite.S32768x1024 .f32} {a1 : FVec Ideal Cert.Pre_weights_finite.S1024 .f32} {a2 : FVec Ideal Cert.Pre_weights_finite.S1024x3474 .f32}
    {a3 : FVec Ideal Cert.Pre_weights_finite.S64 .f32} {a4 : FVec Ideal Cert.Pre_weights_finite.S3x64 .f32} {a5 a6 : FVec Ideal Cert.Pre_weights_finite.S32 .f32}
    (h : Cert.Pre_weights_finite.fn (F := Ideal) a0 a1 a2 a3 a4 a5 a6 = fun _ => 1#1) : (∀ i, IsReal (a1 i)) ∧ ∀ i, IsReal (a2 i) := by
  have h0 := congrFun h (fun i => i.elim0)
  obtain ⟨hg, hw⟩ := IntOp.andi_eq_one.1 h0
  exact ⟨fun i => Cert.Finite.real_of_lt a1 _ i (Host.reduce_andi_all _ _ _ _ _ hg i), fun i => Cert.Finite.real_of_lt a2 _ i (Host.reduce_andi_all _ _ _ _ _ hw i)⟩

theorem IsReal.coe (r : ℝ) : IsReal (r : EReal) := by rw [IsReal, EReal.toReal_coe]
theorem IsReal.zero : IsReal 0 := IsReal.coe 0
theorem IsReal.mul {x y : EReal} (hx : IsReal x) (hy : IsReal y) : IsReal (x * y) := by
  rw [← hx, ← hy, ← EReal.coe_mul]; exact IsReal.coe _
theorem IsReal.add {x y : EReal} (hx : IsReal x) (hy : IsReal y) : IsReal (x + y) := by
  rw [← hx, ← hy, ← EReal.coe_add]; exact IsReal.coe _
theorem IsReal.sum {n : ℕ} (f : Fin n → EReal) (h : ∀ i, IsReal (f i)) : IsReal (∑ i, f i) :=
  Finset.sum_induction f IsReal (fun _ _ => IsReal.add) IsReal.zero (fun i _ => h i)

theorem sq_nonneg (x : EReal) : 0 ≤ x * x := by
  induction x with
  | bot => simp
  | top => simp
  | coe r => rw [← EReal.coe_mul]; exact_mod_cast mul_self_nonneg r

theorem bits_1024 : Ideal.ofBits .f32 0x44800000#32 = ((1024 : ℝ) : EReal) := by
  unfold Ideal.ofBits Ideal.ieee
  simp [-EReal.coe_mul] <;> norm_num
theorem bits_eps : ∃ e : ℝ, 0 < e ∧ Ideal.ofBits .f32 0x358637BD#32 = (e : EReal) := by
  unfold Ideal.ofBits Ideal.ieee
  refine ⟨_, ?_, by simp [-EReal.coe_mul] <;> rfl⟩
  positivity

/-- A normed row is real when its gain is. -/
theorem normed_real (x g : Fin 1024 → EReal) (hg : ∀ k, IsReal (g k)) (j : Fin 1024) : IsReal (Cert.Ffn.normed x g j) := by
  unfold Cert.Ffn.normed
  refine IsReal.mul ?_ (hg j)
  obtain ⟨e, he, hb⟩ := bits_eps
  rw [hb, bits_1024]
  have hd : ∀ s : EReal, Ideal.div s ((1024 : ℝ) : EReal) = s * (((1024 : ℝ)⁻¹ : ℝ) : EReal) := fun s => by
    rw [Ideal.div, if_neg (by norm_num), EReal.coe_inv]
  rw [hd]
  by_cases hx : ∀ k, IsReal (x k)
  · have hs : (∑ k, x k * x k) = ((∑ k, (x k).toReal * (x k).toReal : ℝ) : EReal) := by
      rw [← Cert.Recur.coe_sum]
      exact Finset.sum_congr rfl fun k _ => by rw [EReal.coe_mul, hx k]
    have hp : 0 ≤ ∑ k, (x k).toReal * (x k).toReal := Finset.sum_nonneg fun k _ => mul_self_nonneg _
    rw [hs, ← EReal.coe_mul, ← EReal.coe_add]
    have hq : 0 < (∑ k, (x k).toReal * (x k).toReal) * (1024 : ℝ)⁻¹ + e := by positivity
    generalize (∑ k, (x k).toReal * (x k).toReal) * (1024 : ℝ)⁻¹ + e = q at hq ⊢
    refine IsReal.mul (hx j) ?_
    have hr : Ideal.rsqrt (q : EReal) = (((Real.sqrt q)⁻¹ : ℝ) : EReal) := by
      show (if q < 0 then ⊥ else if q = 0 then ⊤ else (((Real.sqrt q)⁻¹ : ℝ) : EReal)) = _
      rw [if_neg (not_lt.2 hq.le), if_neg hq.ne']
    rw [hr]
    exact IsReal.coe _
  · obtain ⟨k, hk⟩ := not_forall.1 hx
    have ht : x k * x k = ⊤ := by
      revert hk
      induction x k with
      | bot => intro _; rfl
      | top => intro _; rfl
      | coe r => intro h; exact absurd (IsReal.coe r) h
    have hs : (∑ k, x k * x k) = ⊤ := by
      refine top_le_iff.1 (ht ▸ ?_)
      exact Finset.single_le_sum (f := fun k => x k * x k) (fun i _ => sq_nonneg (x i)) (Finset.mem_univ k)
    rw [hs, EReal.top_mul_of_pos (by exact_mod_cast (by norm_num : (0 : ℝ) < 1024⁻¹)), EReal.top_add_coe]
    show IsReal (x j * 0)
    rw [mul_zero]
    exact IsReal.zero

open Cert.Kernel4Ideal Cert.Kernel4Ideal.Gen

variable (w : FVec Ideal S1024x3474 .f32) (hw : ∀ y, IsReal (w y))
include hw

theorem wAt_real (k : Fin 1024) (c : ℕ) : IsReal (wAt w k c) := by
  unfold wAt
  split_ifs
  · exact hw _
  · exact IsReal.zero

theorem gates_real (k : Fin 1024) (j : Fin 128) : IsReal (gateCols (extractStridedSlice S1024x18 ![0, 1152] w slices_S1024x3474_S1024x18_0_1152) (ix2 k j)) := by
  have hu (n : Fin 18) : IsReal ((extractStridedSlice S1024x18 ![0, 1152] w slices_S1024x3474_S1024x18_0_1152 : FVec Ideal S1024x18 .f32) (ix2 k n)) := by
    rw [cut_apply w 18 1152 _ (by omega) k n]
    exact wAt_real w hw k _
  generalize (extractStridedSlice S1024x18 ![0, 1152] w slices_S1024x3474_S1024x18_0_1152 : FVec Ideal S1024x18 .f32) = u at hu ⊢
  have e : gateCols u (ix2 k j) = if h : j.val < 16 then (if h' : j.val < 9 then u (ix2 k ⟨j.val, by omega⟩) else FloatOps.sitofp .f32 (BitVec.ofNat 32 0))
      else if h : j.val - 16 < 16 then (if h' : j.val - 16 < 9 then u (ix2 k ⟨9 + (j.val - 16), by omega⟩) else FloatOps.sitofp .f32 (BitVec.ofNat 32 0)) else 0 := by
    pointwise [gateCols]
  rw [e]
  split_ifs
  · exact hu _
  · exact IsReal.coe _
  · exact hu _
  · exact IsReal.coe _
  · exact IsReal.zero

theorem permuted_real (k : Fin 1024) (c : Fin 3584) : IsReal (permuted w (ix2 k c)) := by
  rw [permuted, laid_apply]
  split_ifs
  · exact wAt_real w hw k _
  · exact gates_real w hw k _
  · exact wAt_real w hw k _
  · exact wAt_real w hw k _

end Cert.InProj

end
-- ==== Proof.InProjMark.lean ====
/-
  The block indicator the selected keys start with: one where a token's block of 64, within its sequence of 8192, is the column.
-/
module

public import proofs.«01_k».proof.Proof.InProjStore

@[expose] public section

set_option maxRecDepth 16384
noncomputable section
open Idealize.ShloMosaic Idealize.ShloMosaic.TcCoe Idealize.SL.Sem
namespace Cert.InProj
open Cert.Kernel4Ideal Cert.Kernel4Ideal.Gen Cert.Ffn

/-- The length of a sequence, as the kernel guards it against zero. -/
abbrev len : BitVec 32 := Scalar.select (Scalar.cmpi .eq 8192#32 0#32) 1#32 8192#32

/-- A number's place within its sequence, as the kernel computes it. -/
def placeVec {S : Shape} (v : IVec S 32) : IVec S 32 :=
  select (andi (xori (cmpi .slt (remsi v (broadcast S len)) (broadcast S 0#32)) (broadcast S (Scalar.cmpi .slt len 0#32))) (cmpi .ne (remsi v (broadcast S len)) (broadcast S 0#32)))
    (addi (remsi v (broadcast S len)) (broadcast S len)) (remsi v (broadcast S len))
def place (v : BitVec 32) : BitVec 32 := placeVec (S := S128x128) (fun _ => v) (ix2 0 0)

theorem place_quot : ∀ t : Fin 64, ∀ i : Fin 512, quot (place (BitVec.ofNat 32 i.val + BitVec.ofNat 32 t.val * 512#32)) 64#32
    = BitVec.ofNat 32 ((512 * t.val + i.val) % 8192 / 64) := by decide +kernel

/-- The indicator. -/
def mark (p : BitVec 32) : FVec Ideal S512x128 .bf16 := k0_pay37 (F := Ideal) len (k0_pay35 p) (k0_pay36 p) 0#32

theorem mark_raw (p : BitVec 32) (y : S512x128.Idx) : mark p y
    = if IntOp.cmpi .eq (quot (place (IntOp.addi ((iota .tc S512x128 32 [0] iota_S512x128_d0_w32 : IVec S512x128 32) y) (IntOp.muli p 512#32))) 64#32) ((iota .tc S512x128 32 [1] iota_S512x128_d1_w32 : IVec S512x128 32) y) = 1#1
      then Ideal.ofBits .f32 0x3F800000#32 else Ideal.ofBits .f32 0x00000000#32 := by
  unfold mark k0_pay37 k0_pay36 k0_pay35 quot k0_pay67 place placeVec
  rfl

theorem mark_apply (t : Fin 64) (i : Fin 512) (b : Fin 128) : mark (BitVec.ofNat 32 t.val) (ix2 i b) = if (512 * t.val + i.val) % 8192 / 64 = b.val then 1 else 0 := by
  have e0 : (iota .tc S512x128 32 [0] iota_S512x128_d0_w32 : IVec S512x128 32) (ix2 i b) = BitVec.ofNat 32 i.val := by pointwise
  have e1 : (iota .tc S512x128 32 [1] iota_S512x128_d1_w32 : IVec S512x128 32) (ix2 i b) = BitVec.ofNat 32 b.val := by pointwise
  rw [mark_raw, e0, e1]
  have h := place_quot t i
  change (if IntOp.cmpi .eq (quot (place (BitVec.ofNat 32 i.val + BitVec.ofNat 32 t.val * 512#32)) 64#32) (BitVec.ofNat 32 b.val) = 1#1 then _ else _) = _
  rw [h, same_iff (by omega) (by omega), select_bit, Ideal.ofBits_one_f32, bits_64.2.2.2.2]

/-! ### The keys after it -/

theorem marked_of (u w : FVec Ideal S512x128 .bf16) (i : Fin 512) (a : Fin 208) :
    k0_pay40 (F := Ideal) u w k0_pay38 (ix3 0 i a)
      = (if h : a.val < 128 then w (ix2 i ⟨a.val, h⟩) else if h : a.val - 128 < 64 then u (ix2 i ⟨64 + (a.val - 128), by omega⟩) else Ideal.ofBits .bf16 0x3F80#16)
    ∧ (shapeCast S1x512x208 (concatenate S512x208 1 [⟨S512x128, w⟩, ⟨S512x64, extractStridedSlice S512x64 ![0, 0] u slices_S512x128_o0_0_S512x64⟩, ⟨S512x16, k0_pay38 (F := Ideal)⟩] concatenates_S512x128_S512x64_S512x16_S512x208_d1 : FVec Ideal S512x208 .bf16) shapeCasts_S512x208_S1x512x208 : FVec Ideal S1x512x208 .bf16) (ix3 0 i a)
      = (if h : a.val < 128 then w (ix2 i ⟨a.val, h⟩) else if h : a.val - 128 < 64 then u (ix2 i ⟨a.val - 128, by omega⟩) else Ideal.ofBits .bf16 0x3F80#16) := by
  constructor <;> pointwise [k0_pay38, k0_pay40]

/-- The indicator, the heads, and ones. -/
def markedAt (r a : ℕ) (x : EReal) : EReal := if a < 128 then (if r % 8192 / 64 = a then 1 else 0) else onesAfter 64 (a - 128) x

theorem wide_keys (u : FVec Ideal S512x256 .bf16) (i : Fin 512) (a : Fin 144) :
    (shapeCast S1x512x144 (concatenate S512x144 1 [⟨S512x128, extractStridedSlice S512x128 ![0, 0] u slices_S512x256_o0_0_S512x128⟩, ⟨S512x16, k0_pay38 (F := Ideal)⟩] concatenates_S512x128_S512x16_S512x144_d1 : FVec Ideal S512x144 .bf16) shapeCasts_S512x144_S1x512x144 : FVec Ideal S1x512x144 .bf16) (ix3 0 i a)
      = (if h : a.val < 128 then u (ix2 i ⟨a.val, by omega⟩) else Ideal.ofBits .bf16 0x3F80#16)
    ∧ (shapeCast S1x512x144 (concatenate S512x144 1 [⟨S512x128, extractStridedSlice S512x128 ![0, 128] u slices_S512x256_o0_128_S512x128⟩, ⟨S512x16, k0_pay38 (F := Ideal)⟩] concatenates_S512x128_S512x16_S512x144_d1 : FVec Ideal S512x144 .bf16) shapeCasts_S512x144_S1x512x144 : FVec Ideal S1x512x144 .bf16) (ix3 0 i a)
      = (if h : a.val < 128 then u (ix2 i ⟨128 + a.val, by omega⟩) else Ideal.ofBits .bf16 0x3F80#16) := by
  constructor <;> pointwise [k0_pay38]

theorem wide_norm (v : FVec Ideal S512x256 .f32) (g : FVec Ideal S1x256 .f32) :
    k0_pay86 (F := Ideal) v g (k0_pay79 v k0_pay74 (iota .tc S128x128 32 [1] iota_S128x128_d1_w32) 32#32 k0_pay75 k0_pay76 (Scalar.extui (Scalar.cmpi .sgt 32#32 0#32)) 0#32)
      (k0_pay84 v k0_pay74 (iota .tc S128x128 32 [1] iota_S128x128_d1_w32) 32#32 k0_pay75 k0_pay76 (Scalar.extui (Scalar.cmpi .sgt 32#32 0#32)) 0#32)
      (k0_pay85 v k0_pay74 (iota .tc S128x128 32 [1] iota_S128x128_d1_w32) 32#32 k0_pay75 k0_pay76 (Scalar.extui (Scalar.cmpi .sgt 32#32 0#32)) 0#32)
      = truncf .bf16 (norm2 v g) bitsLt_bf16_f32 := by
  unfold k0_pay86 k0_pay85 k0_pay84 k0_pay83 k0_pay82 k0_pay81 k0_pay80 k0_pay79 k0_pay78 norm2 spread band32
  rfl

section
variable (q : grid0.Coords) (x0 : Vec Ideal S512x1024 .f32) (x1 : Vec Ideal S1x1024 .f32) (x2 : Vec Ideal S1024x3584 .bf16) (x3 : Vec Ideal S1x384 .f32)
  (x4 x5 : Vec Ideal S1x128 .f32) (x6 x7 : Vec Ideal S1x256 .f32)
  (ρ : ℕ → ℕ → ℝ) (hr : ∀ i c, col (normVec x0 x1) x2 i c = (ρ i c : EReal))
include hr

/-- The other keys. -/
theorem out16 (g : Fin 2) (i : Fin 512) (a : Fin 144) : out0_16 (F := Ideal) q x0 x1 x2 x3 x4 x5 x6 x7 (ix3 g i a)
    = onesAfter 128 a.val (headed (fun c => col (normVec x0 x1) x2 i.val (1536 + c)) 32 (Ideal.ofBits .f32 0x42000000#32) (128 * g.val + a.val) * at256 x7 (128 * g.val + a.val)) := by
  have e : k0_pay124 (F := Ideal) q x0 x1 x2 x3 x4 x5 x6 x7 = by256 (normVec x0 x1) (View.ld x2 r0_26) := by
    unfold k0_pay124
    rw [rows_eq]
    rfl
  have hv (i : Fin 512) (l : Fin 256) := at1536 (normVec x0 x1) x2 i l
  unfold out0_16 k0_pay129 k0_pay130 k0_pay131 k0_pay113 k0_pay125 k0_pay126 k0_pay123 k0_pay127 k0_pay128
  rw [View.ld_unit_zero hz _ x7, e]
  generalize by256 (normVec x0 x1) (View.ld x2 r0_26) = v at hv ⊢
  have hn (i : Fin 512) (j : Fin 256) : (truncf .bf16 (norm2 v (k0_pay73 x7)) bitsLt_bf16_f32 : FVec Ideal S512x256 .bf16) (ix2 i j)
      = headed (fun c => col (normVec x0 x1) x2 i.val (1536 + c)) 32 (Ideal.ofBits .f32 0x42000000#32) j.val * at256 x7 j.val := by
    rw [at256, dif_pos j.isLt, ← gain256 x7 j]
    exact norm2_apply i (fun c => col (normVec x0 x1) x2 i.val (1536 + c)) (fun c => ρ i.val (1536 + c)) (fun l => hr _ _) v (k0_pay73 x7) (hv i) j
  unfold k0_pay87 k0_pay88
  rw [wide_norm]
  generalize (truncf .bf16 (norm2 v (k0_pay73 x7)) bitsLt_bf16_f32 : FVec Ideal S512x256 .bf16) = u at hn ⊢
  refine View.canon_apply_of_pieces (Val := Elt Ideal) ((fun y => onesAfter 128 (y 2).val (headed (fun c => col (normVec x0 x1) x2 (y 1).val (1536 + c)) 32 (Ideal.ofBits .f32 0x42000000#32) (128 * (y 0).val + (y 2).val)
    * at256 x7 (128 * (y 0).val + (y 2).val))) : Vec Ideal S2x512x144 .bf16) _ ?_ (ix3 g i a) (cover0_16 _ _ _)
  intro p hp
  simp only [List.mem_cons, List.mem_nil_iff, or_false] at hp
  rcases hp with rfl | rfl <;> intro y <;> obtain ⟨y1, y2, rfl⟩ := split3 (m := 512) (n := 144) y
  · refine (wide_keys u y1 y2).2.trans (ones_of _ (fun n m => headed (fun c => col (normVec x0 x1) x2 n (1536 + c)) 32 (Ideal.ofBits .f32 0x42000000#32) m * at256 x7 m) (fun h => hn y1 _) ?_ ?_ ?_)
    · show y2.val = 0 + 1 * y2.val; omega
    · show y1.val = 0 + 1 * y1.val; omega
    · show 128 + y2.val = 128 * (1 + 1 * 0) + (0 + 1 * y2.val); omega
  · refine (wide_keys u y1 y2).1.trans (ones_of _ (fun n m => headed (fun c => col (normVec x0 x1) x2 n (1536 + c)) 32 (Ideal.ofBits .f32 0x42000000#32) m * at256 x7 m) (fun h => hn y1 _) ?_ ?_ ?_)
    · show y2.val = 0 + 1 * y2.val; omega
    · show y1.val = 0 + 1 * y1.val; omega
    · show y2.val = 128 * (0 + 1 * 0) + (0 + 1 * y2.val); omega

/-- The selected keys. -/
theorem out10 (t : Fin 64) (ht : (q 0).val = t.val) (g : Fin 2) (i : Fin 512) (a : Fin 208) : out0_10 (F := Ideal) q x0 x1 x2 x3 x4 x5 x6 x7 (ix3 g i a)
    = markedAt (512 * t.val + i.val) a.val (headed (fun c => col (normVec x0 x1) x2 i.val (768 + c)) 64 (Ideal.ofBits .f32 0x42800000#32) (64 * g.val + (a.val - 128)) * at128 x4 (64 * g.val + (a.val - 128))) := by
  have e : k0_pay29 (F := Ideal) (k0_pay101 q x0 x1 x2 x3 x4 x5 x6 x7) (k0_pay108 q x0 x1 x2 x3 x4 x5 x6 x7) (k0_pay107 q x0 x1 x2 x3 x4 x5 x6 x7)
      = extractStridedSlice S512x128 ![0, 0] (by256 (normVec x0 x1) (View.ld x2 r0_12)) slices_S512x256_o0_0_S512x128 := by
    rw [rows_eq]
    rfl
  have hv (i : Fin 512) (l : Fin 128) := (left128 (by256 (normVec x0 x1) (View.ld x2 r0_12)) i l).trans (at768 (normVec x0 x1) x2 i ⟨l.val, by omega⟩)
  unfold out0_10 k0_pay110 k0_pay111 k0_pay112 k0_pay113 k0_pay39
  rw [View.ld_unit_zero hz _ x4, e, ht]
  generalize (extractStridedSlice S512x128 ![0, 0] (by256 (normVec x0 x1) (View.ld x2 r0_12)) slices_S512x256_o0_0_S512x128 : FVec Ideal S512x128 .f32) = v at hv ⊢
  have e34 : k0_pay34 (F := Ideal) v (k0_pay30 x4) k0_pay31 (iota .tc S128x128 32 [1] iota_S128x128_d1_w32) 64#32 k0_pay32 k0_pay33 = norm1 v (k0_pay30 x4) := rfl
  have hn (i : Fin 512) (j : Fin 128) : norm1 v (k0_pay30 x4) (ix2 i j)
      = headed (fun c => col (normVec x0 x1) x2 i.val (768 + c)) 64 (Ideal.ofBits .f32 0x42800000#32) j.val * at128 x4 j.val := by
    rw [at128, dif_pos j.isLt, ← gain128 x4 j]
    exact norm1_apply i (fun c => col (normVec x0 x1) x2 i.val (768 + c)) (fun c => ρ i.val (768 + c)) (fun l => hr _ _) v (k0_pay30 x4) (hv i) j
  have em : k0_pay37 (F := Ideal) len (k0_pay35 (BitVec.ofNat 32 t.val)) (k0_pay36 (BitVec.ofNat 32 t.val)) 0#32 = mark (BitVec.ofNat 32 t.val) := rfl
  have hm := mark_apply t
  rw [e34, em]
  generalize norm1 v (k0_pay30 x4) = u at hn ⊢
  generalize mark (BitVec.ofNat 32 t.val) = w at hm ⊢
  have key (i : Fin 512) (a : Fin 208) (o gg : ℕ) (ho : o ≤ 64) (hg : o = 64 * gg) (k : ∀ h : a.val - 128 < 64, o + (a.val - 128) < 128) :
      (if h : a.val < 128 then w (ix2 i ⟨a.val, h⟩) else if h : a.val - 128 < 64 then u (ix2 i ⟨o + (a.val - 128), k h⟩) else Ideal.ofBits .bf16 0x3F80#16)
      = markedAt (512 * t.val + i.val) a.val (headed (fun c => col (normVec x0 x1) x2 i.val (768 + c)) 64 (Ideal.ofBits .f32 0x42800000#32) (64 * gg + (a.val - 128)) * at128 x4 (64 * gg + (a.val - 128))) := by
    subst hg
    unfold markedAt onesAfter
    by_cases h : a.val < 128
    · rw [dif_pos h, if_pos h, hm]
    · rw [dif_neg h, if_neg h]
      by_cases h' : a.val - 128 < 64
      · rw [dif_pos h', if_pos h', hn]
      · rw [dif_neg h', if_neg h']
  refine View.canon_apply_of_pieces (Val := Elt Ideal) ((fun y => markedAt (512 * t.val + (y 1).val) (y 2).val (headed (fun c => col (normVec x0 x1) x2 (y 1).val (768 + c)) 64 (Ideal.ofBits .f32 0x42800000#32) (64 * (y 0).val + ((y 2).val - 128))
    * at128 x4 (64 * (y 0).val + ((y 2).val - 128)))) : Vec Ideal S2x512x208 .bf16) _ ?_ (ix3 g i a) (cover0_10 _ _ _)
  intro p hp
  simp only [List.mem_cons, List.mem_nil_iff, or_false] at hp
  have fin (F : ℕ → ℕ → ℕ → EReal) {a a' b b' c c' : ℕ} (h1 : a = a') (h2 : b = b') (h3 : c = c') : F a b c = F a' b' c' := by subst h1 h2 h3; rfl
  rcases hp with rfl | rfl <;> intro y <;> obtain ⟨y1, y2, rfl⟩ := split3 (m := 512) (n := 208) y
  · refine (marked_of u w y1 y2).1.trans ((key y1 y2 64 1 (by omega) (by omega) _).trans (fin (fun gg n m => markedAt (512 * t.val + n) m (headed (fun c => col (normVec x0 x1) x2 n (768 + c)) 64 (Ideal.ofBits .f32 0x42800000#32) (64 * gg + (m - 128)) * at128 x4 (64 * gg + (m - 128)))) ?_ ?_ ?_))
    · show 1 = 1 + 1 * 0; omega
    · show y1.val = 0 + 1 * y1.val; omega
    · show y2.val = 0 + 1 * y2.val; omega
  · refine (marked_of u w y1 y2).2.trans (Eq.trans (by simp only [Nat.zero_add]) ((key y1 y2 0 0 (by omega) (by omega) (by omega)).trans (fin (fun gg n m => markedAt (512 * t.val + n) m (headed (fun c => col (normVec x0 x1) x2 n (768 + c)) 64 (Ideal.ofBits .f32 0x42800000#32) (64 * gg + (m - 128)) * at128 x4 (64 * gg + (m - 128)))) ?_ ?_ ?_)))
    · show 0 = 0 + 1 * 0; omega
    · show y1.val = 0 + 1 * y1.val; omega
    · show y2.val = 0 + 1 * y2.val; omega
end

end Cert.InProj

end
-- ==== Proof.InProjPlace.lean ====
/-
  The block indicator as the reference writes it.
-/
module

public import proofs.«01_k».proof.Proof.InProjMark
public import proofs.«01_k».proof.Proof.InProjRef

@[expose] public section

set_option maxRecDepth 16384
noncomputable section
open Idealize.ShloMosaic Idealize.ShloMosaic.TcCoe Idealize.SL.Sem
namespace Cert.InProj.Ref
open Cert.Reference4Ideal Cert.Reference4Ideal.Gen Cert.InProj

/-- A token's place in its sequence, and the block the place is in. -/
def lenRef : IVec S_ 32 := select (cmpi .eq (id (constantI S_ 32 8192#32)) (constantI S_ 32 0#32)) (constantI S_ 32 1#32) (id (constantI S_ 32 8192#32))
def placeRef (v : IVec S32768 32) : IVec S32768 32 :=
  select (andi (cmpi .ne (cmpi .slt (Host.remsi v (broadcastInDim S32768 ![] bcast_S_S32768 lenRef)) (broadcastInDim S32768 ![] bcast_S_S32768 (constantI S_ 32 0#32))) (broadcastInDim S32768 ![] bcast_S_S32768 (cmpi .slt lenRef (constantI S_ 32 0#32)))) (cmpi .ne (Host.remsi v (broadcastInDim S32768 ![] bcast_S_S32768 lenRef)) (broadcastInDim S32768 ![] bcast_S_S32768 (constantI S_ 32 0#32)))) (addi (Host.remsi v (broadcastInDim S32768 ![] bcast_S_S32768 lenRef)) (broadcastInDim S32768 ![] bcast_S_S32768 lenRef)) (Host.remsi v (broadcastInDim S32768 ![] bcast_S_S32768 lenRef))
def blockRef (v : IVec S32768 32) : IVec S32768 32 :=
  select (andi (cmpi .ne (signi v) (broadcastInDim S32768 ![] bcast_S_S32768 (signi (id (constantI S_ 32 64#32))))) (cmpi .ne (Host.remsi v (broadcastInDim S32768 ![] bcast_S_S32768 (id (constantI S_ 32 64#32)))) (broadcastInDim S32768 ![] bcast_S_S32768 (constantI S_ 32 0#32)))) (subi (Host.divsi v (broadcastInDim S32768 ![] bcast_S_S32768 (id (constantI S_ 32 64#32)))) (broadcastInDim S32768 ![] bcast_S_S32768 (constantI S_ 32 1#32))) (Host.divsi v (broadcastInDim S32768 ![] bcast_S_S32768 (id (constantI S_ 32 64#32))))

/-- Both, of one number. -/
def at1 (v : BitVec 32) : IVec S_ 32 := fun _ => v
def placeOne (v : BitVec 32) : BitVec 32 :=
  select (andi (cmpi .ne (cmpi .slt (Host.remsi (at1 v) lenRef) (at1 0#32)) (cmpi .slt lenRef (at1 0#32))) (cmpi .ne (Host.remsi (at1 v) lenRef) (at1 0#32))) (addi (Host.remsi (at1 v) lenRef) lenRef) (Host.remsi (at1 v) lenRef) (fun a => a.elim0)
def blockOne (v : BitVec 32) : BitVec 32 :=
  select (andi (cmpi .ne (signi (at1 v)) (signi (at1 64#32))) (cmpi .ne (Host.remsi (at1 v) (at1 64#32)) (at1 0#32))) (subi (Host.divsi (at1 v) (at1 64#32)) (at1 1#32)) (Host.divsi (at1 v) (at1 64#32)) (fun a => a.elim0)
theorem placeRef_apply (v : IVec S32768 32) (y : S32768.Idx) : placeRef v y = placeOne (v y) := rfl
theorem blockRef_apply (v : IVec S32768 32) (y : S32768.Idx) : blockRef v y = blockOne (v y) := rfl

theorem block_place : ∀ t : Fin 64, ∀ i : Fin 512, blockOne (placeOne (BitVec.ofNat 32 (512 * t.val + i.val))) = BitVec.ofNat 32 ((512 * t.val + i.val) % 8192 / 64) := by
  decide +kernel

/-- The indicator. -/
def markRef : FVec Ideal S32768x128 .f32 :=
  uitofp .f32 (cmpi .eq (broadcastInDim S32768x128 ![0, 1] bcast_S32768x1_S32768x128_0_1 (broadcastInDim S32768x1 ![0] bcast_S32768_S32768x1_0 (blockRef (placeRef (iotaInDim S32768 32 0))))) (broadcastInDim S32768x128 ![0, 1] bcast_S1x128_S32768x128_0_1 (broadcastInDim S1x128 ![1] bcast_S128_S1x128_1 (iotaInDim S128 32 0))))
theorem markRef_apply (t : Fin 32768) (b : Fin 128) : markRef (ix2 t b) = if t.val % 8192 / 64 = b.val then 1 else 0 := by
  have h := block_place ⟨t.val / 512, by omega⟩ ⟨t.val % 512, Nat.mod_lt _ (by decide)⟩
  have ht : 512 * (t.val / 512) + t.val % 512 = t.val := Nat.div_add_mod _ _
  simp only [ht] at h
  have e : markRef (ix2 t b) = (((IntOp.cmpi .eq (blockOne (placeOne (BitVec.ofNat 32 t.val))) (BitVec.ofNat 32 b.val)).toNat : ℝ) : EReal) := rfl
  rw [e, h, same_iff (by omega) (by omega)]
  by_cases hb : t.val % 8192 / 64 = b.val <;> simp [hb]

/-- The selected keys. -/
def marked (w : FVec Ideal S32768x128 .f32) (u : FVec Ideal S32768x2x64 .f32) : FVec Ideal S2x32768x208 .bf16 :=
  truncf .bf16 (concatenate S2x32768x208 2 [⟨S2x32768x128, (broadcastInDim S2x32768x128 ![1, 2] bcast_S32768x128_S2x32768x128_1_2 w)⟩, ⟨S2x32768x64, (transpose S2x32768x64 [1, 0, 2] u transposes_S32768x2x64_S2x32768x64_1_0_2)⟩, ⟨S2x32768x16, (broadcastInDim S2x32768x16 ![] bcast_S_S2x32768x16 (constant S_ .f32 0x3F800000#32))⟩] concatenates_S2x32768x128_S2x32768x64_S2x32768x16_S2x32768x208_d2) bitsLt_bf16_f32
theorem marked_apply (w : FVec Ideal S32768x128 .f32) (u : FVec Ideal S32768x2x64 .f32) (g : Fin 2) (t : Fin 32768) (a : Fin 208) : marked w u (ix3 g t a)
    = if h : a.val < 128 then w (ix2 t ⟨a.val, h⟩) else if h : a.val - 128 < 64 then u (ix3 t g ⟨a.val - 128, h⟩) else Ideal.ofBits .f32 0x3F800000#32 := by
  pointwise [marked]
theorem ref10 (z : FVec Ideal S32768x3474 .f32) (g : FVec Ideal S64 .f32) (ho : S32768x3474.Slices ![0, 640] S32768x128) (q : Fin 2) (t : Fin 32768) (a : Fin 208) :
    marked markRef (heads2 (cut2 z 640 ho) g) (ix3 q t a)
      = markedAt t.val a.val (headed (fun c => Z z t.val (640 + c)) 64 (Ideal.ofBits .f32 0x42800000#32) (64 * q.val + (a.val - 128)) * gain64 g (a.val - 128)) := by
  rw [marked_apply, markedAt, onesAfter]
  by_cases h : a.val < 128
  · rw [dif_pos h, if_pos h, markRef_apply]
  · rw [dif_neg h, if_neg h]
    by_cases h' : a.val - 128 < 64
    · rw [dif_pos h', if_pos h', head2 z 640 ho (by omega) g t q ⟨a.val - 128, h'⟩ (64 * q.val + (a.val - 128)) (a.val - 128) rfl rfl]
    · rw [dif_neg h', if_neg h', Ideal.ofBits_one_f32, Ideal.ofBits_one_bf16]

end Cert.InProj.Ref

end
-- ==== Proof.InProjValue.lean ====
/-
  The input projection's arrays: each block from the arrays as launched, and every result against the reference's.
-/
module

public import proofs.«01_k».proof.Proof.InProjReal
public import proofs.«01_k».proof.Proof.InProjPlace
public import proofs.«01_k».proof.Proof.Gen.Kernel4Ideal.Value

@[expose] public section

set_option maxRecDepth 16384
noncomputable section
open Idealize.ShloMosaic Idealize.ShloMosaic.TcCoe Idealize.SL.Sem
namespace Cert.InProj
open Cert.Kernel4Ideal Cert.Kernel4Ideal.Gen Cert.Kernel4Ideal.Value Cert.Ffn

variable (m : (ℓ : Loc nD τ sig) → Buf (Elt Ideal) ℓ) (c : Dev nD)

/-! ### The blocks the kernel reads -/

/-- A gain as a row. -/
def rowed (g : FVec Ideal S1024 .f32) : FVec Ideal S1x1024 .f32 := shapeCast S1x1024 g shapeCasts_S1024_S1x1024
theorem rowed_apply (g : FVec Ideal S1024 .f32) (j : Fin 1024) : rowed g (ix2 0 j) = g (ix1 j) := by
  pointwise [rowed]

/-- The windows of the weights and gains stay. -/
theorem still : ∀ t : Fin cfg0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) :=
  (by decide +kernel : ∀ t : Fin grid0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0))

theorem handed12 : V (F := Ideal) m c main_v12 = rowed (m ((c : Thread nD τ).loc main_arg1)) := by
  unfold_abbrev_sides; after_reads_simp; rfl
theorem handed35 : V (F := Ideal) m c main_v35 = permuted (m ((c : Thread nD τ).loc main_arg2)) := by
  unfold_abbrev_sides; after_reads_simp; rfl
theorem handed5 : V (F := Ideal) m c main_v5 = gainQ (m ((c : Thread nD τ).loc main_arg3)) := by
  unfold_abbrev_sides; after_reads_simp; rfl
theorem handed41 : V (F := Ideal) m c main_v41 = gainK (pick1 (m ((c : Thread nD τ).loc main_arg4))) := by
  unfold_abbrev_sides; after_reads_simp; rfl
theorem handed47 : V (F := Ideal) m c main_v47 = gainK (pick2 (m ((c : Thread nD τ).loc main_arg4))) := by
  unfold_abbrev_sides; after_reads_simp; rfl
theorem handed11 : V (F := Ideal) m c main_v11 = gainE (m ((c : Thread nD τ).loc main_arg5)) := by
  unfold_abbrev_sides; after_reads_simp; rfl
theorem handed51 : V (F := Ideal) m c main_v51 = gainD (m ((c : Thread nD τ).loc main_arg6)) := by
  unfold_abbrev_sides; after_reads_simp; rfl
theorem blk_in1 (t : Fin cfg0.N) : (iblk m c 1 t : Vec Ideal S1x1024 .f32) = rowed (m ((c : Thread nD τ).loc main_arg1)) :=
  (funext fun y => congrArg (V m c main_v12) (funext fun a => Fin.ext (win0_1.rect_emb_val_of_index_zero t a ((still t).1 a) y))).trans (handed12 m c)
theorem blk_in2 (t : Fin cfg0.N) : (iblk m c 2 t : Vec Ideal S1024x3584 .bf16) = permuted (m ((c : Thread nD τ).loc main_arg2)) :=
  (funext fun y => congrArg (V m c main_v35) (funext fun a => Fin.ext (win0_2.rect_emb_val_of_index_zero t a ((still t).2.1 a) y))).trans (handed35 m c)
theorem blk_in3 (t : Fin cfg0.N) : (iblk m c 3 t : Vec Ideal S1x384 .f32) = gainQ (m ((c : Thread nD τ).loc main_arg3)) :=
  (funext fun y => congrArg (V m c main_v5) (funext fun a => Fin.ext (win0_3.rect_emb_val_of_index_zero t a ((still t).2.2.1 a) y))).trans (handed5 m c)
theorem blk_in4 (t : Fin cfg0.N) : (iblk m c 4 t : Vec Ideal S1x128 .f32) = gainK (pick1 (m ((c : Thread nD τ).loc main_arg4))) :=
  (funext fun y => congrArg (V m c main_v41) (funext fun a => Fin.ext (win0_4.rect_emb_val_of_index_zero t a ((still t).2.2.2.1 a) y))).trans (handed41 m c)
theorem blk_in5 (t : Fin cfg0.N) : (iblk m c 5 t : Vec Ideal S1x128 .f32) = gainK (pick2 (m ((c : Thread nD τ).loc main_arg4))) :=
  (funext fun y => congrArg (V m c main_v47) (funext fun a => Fin.ext (win0_5.rect_emb_val_of_index_zero t a ((still t).2.2.2.2.1 a) y))).trans (handed47 m c)
theorem blk_in6 (t : Fin cfg0.N) : (iblk m c 6 t : Vec Ideal S1x256 .f32) = gainE (m ((c : Thread nD τ).loc main_arg5)) :=
  (funext fun y => congrArg (V m c main_v11) (funext fun a => Fin.ext (win0_6.rect_emb_val_of_index_zero t a ((still t).2.2.2.2.2.1 a) y))).trans (handed11 m c)
theorem blk_in7 (t : Fin cfg0.N) : (iblk m c 7 t : Vec Ideal S1x256 .f32) = gainD (m ((c : Thread nD τ).loc main_arg6)) :=
  (funext fun y => congrArg (V m c main_v51) (funext fun a => Fin.ext (win0_7.rect_emb_val_of_index_zero t a ((still t).2.2.2.2.2.2 a) y))).trans (handed51 m c)

/-- The others move with the point. -/
theorem moves : ∀ t : Fin cfg0.N, (win0_0.index t 0 = t.val ∧ win0_0.index t 1 = 0)
    ∧ (win0_8.index t 0 = 0 ∧ win0_8.index t 1 = t.val)
    ∧ (win0_9.index t 0 = 0 ∧ win0_9.index t 1 = t.val ∧ win0_9.index t 2 = 0)
    ∧ (win0_10.index t 0 = 0 ∧ win0_10.index t 1 = t.val ∧ win0_10.index t 2 = 0)
    ∧ (win0_11.index t 0 = 0 ∧ win0_11.index t 1 = t.val ∧ win0_11.index t 2 = 0 ∧ win0_11.index t 3 = 0)
    ∧ (win0_12.index t 0 = 0 ∧ win0_12.index t 1 = t.val ∧ win0_12.index t 2 = 0)
    ∧ (win0_13.index t 0 = 0 ∧ win0_13.index t 1 = t.val ∧ win0_13.index t 2 = 0 ∧ win0_13.index t 3 = 0)
    ∧ (win0_14.index t 0 = 0 ∧ win0_14.index t 1 = 0 ∧ win0_14.index t 2 = t.val)
    ∧ (win0_15.index t 0 = 0 ∧ win0_15.index t 1 = t.val)
    ∧ (win0_16.index t 0 = 0 ∧ win0_16.index t 1 = t.val ∧ win0_16.index t 2 = 0)
    ∧ (win0_17.index t 0 = 0 ∧ win0_17.index t 1 = t.val ∧ win0_17.index t 2 = 0 ∧ win0_17.index t 3 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_21.index t 0 = t.val ∧ win0_21.index t 1 = 0)
    ∧ (grid0.coords t 0).val = t.val :=
  (by decide +kernel : ∀ t : Fin grid0.N, (win0_0.index t 0 = t.val ∧ win0_0.index t 1 = 0)
    ∧ (win0_8.index t 0 = 0 ∧ win0_8.index t 1 = t.val)
    ∧ (win0_9.index t 0 = 0 ∧ win0_9.index t 1 = t.val ∧ win0_9.index t 2 = 0)
    ∧ (win0_10.index t 0 = 0 ∧ win0_10.index t 1 = t.val ∧ win0_10.index t 2 = 0)
    ∧ (win0_11.index t 0 = 0 ∧ win0_11.index t 1 = t.val ∧ win0_11.index t 2 = 0 ∧ win0_11.index t 3 = 0)
    ∧ (win0_12.index t 0 = 0 ∧ win0_12.index t 1 = t.val ∧ win0_12.index t 2 = 0)
    ∧ (win0_13.index t 0 = 0 ∧ win0_13.index t 1 = t.val ∧ win0_13.index t 2 = 0 ∧ win0_13.index t 3 = 0)
    ∧ (win0_14.index t 0 = 0 ∧ win0_14.index t 1 = 0 ∧ win0_14.index t 2 = t.val)
    ∧ (win0_15.index t 0 = 0 ∧ win0_15.index t 1 = t.val)
    ∧ (win0_16.index t 0 = 0 ∧ win0_16.index t 1 = t.val ∧ win0_16.index t 2 = 0)
    ∧ (win0_17.index t 0 = 0 ∧ win0_17.index t 1 = t.val ∧ win0_17.index t 2 = 0 ∧ win0_17.index t 3 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_21.index t 0 = t.val ∧ win0_21.index t 1 = 0)
    ∧ (grid0.coords t 0).val = t.val)

/-- Row `i` of point `t`'s block, and half `h` of it. -/
theorem points (t : Fin cfg0.N) : t.val < 64 := lt_of_lt_of_eq t.isLt (show cfg0.N = 64 from N_0)
def row (t : Fin cfg0.N) (i : Fin 512) : Fin 32768 := ⟨512 * t.val + i.val, by have := points t; omega⟩
def half (t : Fin cfg0.N) (h : Fin 2) : Fin 128 := ⟨2 * t.val + h.val, by have := points t; omega⟩
theorem row_of (r : Fin 32768) : ∃ (t : Fin cfg0.N) (i : Fin 512), r = row t i :=
  ⟨⟨r.val / 512, lt_of_lt_of_eq (by omega) (show 64 = cfg0.N from N_0.symm)⟩, ⟨r.val % 512, Nat.mod_lt _ (by decide)⟩, Fin.ext (by show r.val = 512 * (r.val / 512) + r.val % 512; omega)⟩
theorem half_of (n : Fin 128) : ∃ (t : Fin cfg0.N) (h : Fin 2), n = half t h :=
  ⟨⟨n.val / 2, lt_of_lt_of_eq (by omega) (show 64 = cfg0.N from N_0.symm)⟩, ⟨n.val % 2, Nat.mod_lt _ (by decide)⟩, Fin.ext (by show n.val = 2 * (n.val / 2) + n.val % 2; omega)⟩

theorem blk_in0 (t : Fin cfg0.N) (i : Fin 512) (j : Fin 1024) : (iblk m c 0 t : Vec Ideal S512x1024 .f32) (ix2 i j)
    = (m ((c : Thread nD τ).loc main_arg0) : Vec Ideal S32768x1024 .f32) (ix2 (row t i) j) := by
  have h := (moves t).1
  refine Eq.trans (b := (V (F := Ideal) m c main_arg0 : Vec Ideal S32768x1024 .f32) (ix2 (row t i) j)) (congrArg (V m c main_arg0) (funext fun a => Fin.ext ?_)) (congrFun (V_main_arg0 m c) _)
  match a with
  | ⟨0, _⟩ => show win0_0.index t 0 * 512 + 1 * i.val = 512 * t.val + i.val; omega
  | ⟨1, _⟩ => show win0_0.index t 1 * 1024 + 1 * j.val = j.val; omega

/-! ### The columns -/

/-- The reference's projection of the arrays the kernel starts from. -/
def zOf : FVec Ideal Cert.Reference4Ideal.S32768x3474 .f32 :=
  Ref.proj (m ((c : Thread nD τ).loc main_arg0)) (m ((c : Thread nD τ).loc main_arg1)) (m ((c : Thread nD τ).loc main_arg2))
/-- What the kernel's columns are at a point. -/
def kcol (t : Fin cfg0.N) (i n : ℕ) : EReal := col (normVec (iblk m c 0 t) (iblk m c 1 t)) (iblk m c 2 t) i n

theorem kcol_of (t : Fin cfg0.N) (i : Fin 512) (n n' : ℕ) (hn : n < 3584) (hn' : n' < 3474) (h : ∀ k, permuted (m ((c : Thread nD τ).loc main_arg2)) (ix2 k ⟨n, hn⟩) = wAt (m ((c : Thread nD τ).loc main_arg2)) k n') :
    kcol m c t i.val n = Ref.Z (zOf m c) (row t i).val n' := by
  rw [kcol, col, dif_pos ⟨i.isLt, hn⟩, ← Ref.Z_of (zOf m c) (row t i) hn' rfl, zOf, Ref.proj_apply]
  refine Finset.sum_congr rfl fun k _ => ?_
  rw [norm_apply, blk_in1, blk_in2, h k, ← wAt_of _ k hn' rfl]
  simp only [blk_in0, rowed_apply]
theorem kcol_low (t : Fin cfg0.N) (i : Fin 512) (n : ℕ) (h : n < 384) : kcol m c t i.val n = Ref.Z (zOf m c) (row t i).val n :=
  kcol_of m c t i n n (by omega) (by omega) fun k => permuted_low _ k _ h
theorem kcol_mid (t : Fin cfg0.N) (i : Fin 512) (n n' : ℕ) (h : 512 ≤ n) (h' : n < 1280) (e : n = n' + 128) : kcol m c t i.val n = Ref.Z (zOf m c) (row t i).val n' :=
  kcol_of m c t i n n' (by omega) (by omega) fun k => (permuted_mid _ k _ h h').trans (congrArg _ (by show n - 128 = n'; omega))
theorem kcol_high (t : Fin cfg0.N) (i : Fin 512) (n n' : ℕ) (h : 1280 ≤ n) (h' : n < 3584) (e : n = n' + 110) : kcol m c t i.val n = Ref.Z (zOf m c) (row t i).val n' :=
  kcol_of m c t i n n' (by omega) (by omega) fun k => (permuted_high _ k _ h).trans (congrArg _ (by show n - 110 = n'; omega))
/-- A gate's column, or a column of zeros. -/
theorem kcol_gate (t : Fin cfg0.N) (i : Fin 512) (g : Fin 2) (a : Fin 16) : Ideal.logistic (kcol m c t i.val (384 + 16 * g.val + a.val))
    = if a.val < 9 then Ideal.logistic (Ref.Z (zOf m c) (row t i).val (1152 + (9 * g.val + a.val))) else Ideal.ofBits .f32 0x3F000000#32 := by
  by_cases ha : a.val < 9
  · rw [if_pos ha, kcol_of m c t i _ (1152 + (9 * g.val + a.val)) (by omega) (by omega) fun k => (permuted_gate _ k g a).trans (if_pos ha)]
  · rw [if_neg ha, kcol, col, dif_pos ⟨i.isLt, by omega⟩, blk_in2]
    simp only [permuted_gate, if_neg ha, mul_zero, Finset.sum_const_zero]
    rw [show Ideal.logistic 0 = Ideal.div 1 (1 + Ideal.exp (-0)) from rfl, neg_zero, show Ideal.exp 0 = ((Real.exp 0 : ℝ) : EReal) from rfl, Real.exp_zero, ← EReal.coe_one, ← EReal.coe_add,
      Ideal.div, if_neg (by norm_num), ← EReal.coe_inv, ← EReal.coe_mul]
    unfold Ideal.ofBits Ideal.ieee
    simp [-EReal.coe_mul] <;> norm_num

/-- Heads of equal columns. -/
theorem headed_congr {f f' : ℕ → EReal} {d : ℕ} (q : ℕ) {w : EReal} {j : ℕ} (h : ∀ n < d * q, f n = f' n) (hj : j < d * q) : headed f d w j = headed f' d w j := by
  have hq : j / d < q := Nat.div_lt_of_lt_mul hj
  have hi (i : Fin d) : j / d * d + i.val < d * q := by
    have h1 : (j / d + 1) * d ≤ q * d := Nat.mul_le_mul_right d hq
    have h2 := i.isLt
    rw [Nat.add_mul, Nat.one_mul] at h1
    rw [Nat.mul_comm d q]
    omega
  unfold headed meanSq
  rw [h j hj]
  simp only [h _ (hi _)]

/-- What the precondition says of the launch. -/
def Weighty : Prop := (∀ y, IsReal ((m ((c : Thread nD τ).loc main_arg1) : FVec Ideal S1024 .f32) y)) ∧ ∀ y, IsReal ((m ((c : Thread nD τ).loc main_arg2) : FVec Ideal S1024x3474 .f32) y)
def rcol (t : Fin cfg0.N) (i n : ℕ) : ℝ := (kcol m c t i n).toReal

variable {m c}
theorem kcol_real (hf : Weighty m c) (t : Fin cfg0.N) (i n : ℕ) : kcol m c t i n = ((rcol m c t i n : ℝ) : EReal) := by
  refine Eq.symm ?_
  show IsReal (kcol m c t i n)
  unfold kcol col
  split_ifs with h
  · refine IsReal.sum _ fun k => IsReal.mul ?_ ?_
    · rw [norm_apply, blk_in1]
      exact normed_real _ _ (fun k => by rw [rowed_apply]; exact hf.1 _) k
    · rw [blk_in2]
      exact permuted_real _ hf.2 k _
  · exact IsReal.zero

/-! ### The arrays -/
theorem read8 (t : Fin cfg0.N) (a : Fin 384) (i : Fin 512) : ((dats m 0 c).arrAt 8 cfg0.N : Vec Ideal S384x32768 .bf16) (ix2 a (row t i))
    = out0_8 (F := Ideal) (grid0.coords t) (iblk m c 0 t) (iblk m c 1 t) (iblk m c 2 t) (iblk m c 3 t) (iblk m c 4 t) (iblk m c 5 t) (iblk m c 6 t) (iblk m c 7 t) (ix2 a i) := by
  have hm := (moves t).2.1
  have hb := congrFun (blocks8 m c t (flush0_8 t)) (ix2 a i)
  rw [flushed8, View.read_apply, show ((cfg0.win 8).blk t).view.emb (ix2 a i) = (ix2 a (row t i) : S384x32768.Idx) from funext fun x => Fin.ext (by
    match x with
    | ⟨0, _⟩ => show win0_8.index t 0 * 384 + 1 * a.val = a.val; omega
    | ⟨1, _⟩ => show win0_8.index t 1 * 512 + 1 * i.val = 512 * t.val + i.val; omega)] at hb
  exact hb
theorem read9 (t : Fin cfg0.N) (a : Fin 4) (i : Fin 512) (d : Fin 64) : ((dats m 0 c).arrAt 9 cfg0.N : Vec Ideal S4x32768x64 .f32) (ix3 a (row t i) d)
    = out0_9 (F := Ideal) (grid0.coords t) (iblk m c 0 t) (iblk m c 1 t) (iblk m c 2 t) (iblk m c 3 t) (iblk m c 4 t) (iblk m c 5 t) (iblk m c 6 t) (iblk m c 7 t) (ix3 a i d) := by
  have hm := (moves t).2.2.1
  have hb := congrFun (blocks9 m c t (flush0_9 t)) (ix3 a i d)
  rw [flushed9, View.read_apply, show ((cfg0.win 9).blk t).view.emb (ix3 a i d) = (ix3 a (row t i) d : S4x32768x64.Idx) from funext fun x => Fin.ext (by
    match x with
    | ⟨0, _⟩ => show win0_9.index t 0 * 4 + 1 * a.val = a.val; omega
    | ⟨1, _⟩ => show win0_9.index t 1 * 512 + 1 * i.val = 512 * t.val + i.val; omega
    | ⟨2, _⟩ => show win0_9.index t 2 * 64 + 1 * d.val = d.val; omega)] at hb
  exact hb
theorem read10 (t : Fin cfg0.N) (a : Fin 2) (i : Fin 512) (d : Fin 208) : ((dats m 0 c).arrAt 10 cfg0.N : Vec Ideal S2x32768x208 .bf16) (ix3 a (row t i) d)
    = out0_10 (F := Ideal) (grid0.coords t) (iblk m c 0 t) (iblk m c 1 t) (iblk m c 2 t) (iblk m c 3 t) (iblk m c 4 t) (iblk m c 5 t) (iblk m c 6 t) (iblk m c 7 t) (ix3 a i d) := by
  have hm := (moves t).2.2.2.1
  have hb := congrFun (blocks10 m c t (flush0_10 t)) (ix3 a i d)
  rw [flushed10, View.read_apply, show ((cfg0.win 10).blk t).view.emb (ix3 a i d) = (ix3 a (row t i) d : S2x32768x208.Idx) from funext fun x => Fin.ext (by
    match x with
    | ⟨0, _⟩ => show win0_10.index t 0 * 2 + 1 * a.val = a.val; omega
    | ⟨1, _⟩ => show win0_10.index t 1 * 512 + 1 * i.val = 512 * t.val + i.val; omega
    | ⟨2, _⟩ => show win0_10.index t 2 * 208 + 1 * d.val = d.val; omega)] at hb
  exact hb
theorem read11 (t : Fin cfg0.N) (a : Fin 2) (h : Fin 2) (d : Fin 80) (e : Fin 256) : ((dats m 0 c).arrAt 11 cfg0.N : Vec Ideal S2x128x80x256 .bf16) (ix4 a (half t h) d e)
    = out0_11 (F := Ideal) (grid0.coords t) (iblk m c 0 t) (iblk m c 1 t) (iblk m c 2 t) (iblk m c 3 t) (iblk m c 4 t) (iblk m c 5 t) (iblk m c 6 t) (iblk m c 7 t) (ix4 a h d e) := by
  have hm := (moves t).2.2.2.2.1
  have hb := congrFun (blocks11 m c t (flush0_11 t)) (ix4 a h d e)
  rw [flushed11, View.read_apply, show ((cfg0.win 11).blk t).view.emb (ix4 a h d e) = (ix4 a (half t h) d e : S2x128x80x256.Idx) from funext fun x => Fin.ext (by
    match x with
    | ⟨0, _⟩ => show win0_11.index t 0 * 2 + 1 * a.val = a.val; omega
    | ⟨1, _⟩ => show win0_11.index t 1 * 2 + 1 * h.val = 2 * t.val + h.val; omega
    | ⟨2, _⟩ => show win0_11.index t 2 * 80 + 1 * d.val = d.val; omega
    | ⟨3, _⟩ => show win0_11.index t 3 * 256 + 1 * e.val = e.val; omega)] at hb
  exact hb
theorem read12 (t : Fin cfg0.N) (a : Fin 2) (i : Fin 512) (d : Fin 80) : ((dats m 0 c).arrAt 12 cfg0.N : Vec Ideal S2x32768x80 .bf16) (ix3 a (row t i) d)
    = out0_12 (F := Ideal) (grid0.coords t) (iblk m c 0 t) (iblk m c 1 t) (iblk m c 2 t) (iblk m c 3 t) (iblk m c 4 t) (iblk m c 5 t) (iblk m c 6 t) (iblk m c 7 t) (ix3 a i d) := by
  have hm := (moves t).2.2.2.2.2.1
  have hb := congrFun (blocks12 m c t (flush0_12 t)) (ix3 a i d)
  rw [flushed12, View.read_apply, show ((cfg0.win 12).blk t).view.emb (ix3 a i d) = (ix3 a (row t i) d : S2x32768x80.Idx) from funext fun x => Fin.ext (by
    match x with
    | ⟨0, _⟩ => show win0_12.index t 0 * 2 + 1 * a.val = a.val; omega
    | ⟨1, _⟩ => show win0_12.index t 1 * 512 + 1 * i.val = 512 * t.val + i.val; omega
    | ⟨2, _⟩ => show win0_12.index t 2 * 80 + 1 * d.val = d.val; omega)] at hb
  exact hb
theorem read13 (t : Fin cfg0.N) (a : Fin 2) (h : Fin 2) (d : Fin 80) (e : Fin 256) : ((dats m 0 c).arrAt 13 cfg0.N : Vec Ideal S2x128x80x256 .bf16) (ix4 a (half t h) d e)
    = out0_13 (F := Ideal) (grid0.coords t) (iblk m c 0 t) (iblk m c 1 t) (iblk m c 2 t) (iblk m c 3 t) (iblk m c 4 t) (iblk m c 5 t) (iblk m c 6 t) (iblk m c 7 t) (ix4 a h d e) := by
  have hm := (moves t).2.2.2.2.2.2.1
  have hb := congrFun (blocks13 m c t (flush0_13 t)) (ix4 a h d e)
  rw [flushed13, View.read_apply, show ((cfg0.win 13).blk t).view.emb (ix4 a h d e) = (ix4 a (half t h) d e : S2x128x80x256.Idx) from funext fun x => Fin.ext (by
    match x with
    | ⟨0, _⟩ => show win0_13.index t 0 * 2 + 1 * a.val = a.val; omega
    | ⟨1, _⟩ => show win0_13.index t 1 * 2 + 1 * h.val = 2 * t.val + h.val; omega
    | ⟨2, _⟩ => show win0_13.index t 2 * 80 + 1 * d.val = d.val; omega
    | ⟨3, _⟩ => show win0_13.index t 3 * 256 + 1 * e.val = e.val; omega)] at hb
  exact hb
theorem read14 (t : Fin cfg0.N) (a : Fin 2) (b : Fin 16) (i : Fin 512) : ((dats m 0 c).arrAt 14 cfg0.N : Vec Ideal S2x16x32768 .f32) (ix3 a b (row t i))
    = out0_14 (F := Ideal) (grid0.coords t) (iblk m c 0 t) (iblk m c 1 t) (iblk m c 2 t) (iblk m c 3 t) (iblk m c 4 t) (iblk m c 5 t) (iblk m c 6 t) (iblk m c 7 t) (ix3 a b i) := by
  have hm := (moves t).2.2.2.2.2.2.2.1
  have hb := congrFun (blocks14 m c t (flush0_14 t)) (ix3 a b i)
  rw [flushed14, View.read_apply, show ((cfg0.win 14).blk t).view.emb (ix3 a b i) = (ix3 a b (row t i) : S2x16x32768.Idx) from funext fun x => Fin.ext (by
    match x with
    | ⟨0, _⟩ => show win0_14.index t 0 * 2 + 1 * a.val = a.val; omega
    | ⟨1, _⟩ => show win0_14.index t 1 * 16 + 1 * b.val = b.val; omega
    | ⟨2, _⟩ => show win0_14.index t 2 * 512 + 1 * i.val = 512 * t.val + i.val; omega)] at hb
  exact hb
theorem read15 (t : Fin cfg0.N) (a : Fin 256) (i : Fin 512) : ((dats m 0 c).arrAt 15 cfg0.N : Vec Ideal S256x32768 .bf16) (ix2 a (row t i))
    = out0_15 (F := Ideal) (grid0.coords t) (iblk m c 0 t) (iblk m c 1 t) (iblk m c 2 t) (iblk m c 3 t) (iblk m c 4 t) (iblk m c 5 t) (iblk m c 6 t) (iblk m c 7 t) (ix2 a i) := by
  have hm := (moves t).2.2.2.2.2.2.2.2.1
  have hb := congrFun (blocks15 m c t (flush0_15 t)) (ix2 a i)
  rw [flushed15, View.read_apply, show ((cfg0.win 15).blk t).view.emb (ix2 a i) = (ix2 a (row t i) : S256x32768.Idx) from funext fun x => Fin.ext (by
    match x with
    | ⟨0, _⟩ => show win0_15.index t 0 * 256 + 1 * a.val = a.val; omega
    | ⟨1, _⟩ => show win0_15.index t 1 * 512 + 1 * i.val = 512 * t.val + i.val; omega)] at hb
  exact hb
theorem read16 (t : Fin cfg0.N) (a : Fin 2) (i : Fin 512) (d : Fin 144) : ((dats m 0 c).arrAt 16 cfg0.N : Vec Ideal S2x32768x144 .bf16) (ix3 a (row t i) d)
    = out0_16 (F := Ideal) (grid0.coords t) (iblk m c 0 t) (iblk m c 1 t) (iblk m c 2 t) (iblk m c 3 t) (iblk m c 4 t) (iblk m c 5 t) (iblk m c 6 t) (iblk m c 7 t) (ix3 a i d) := by
  have hm := (moves t).2.2.2.2.2.2.2.2.2.1
  have hb := congrFun (blocks16 m c t (flush0_16 t)) (ix3 a i d)
  rw [flushed16, View.read_apply, show ((cfg0.win 16).blk t).view.emb (ix3 a i d) = (ix3 a (row t i) d : S2x32768x144.Idx) from funext fun x => Fin.ext (by
    match x with
    | ⟨0, _⟩ => show win0_16.index t 0 * 2 + 1 * a.val = a.val; omega
    | ⟨1, _⟩ => show win0_16.index t 1 * 512 + 1 * i.val = 512 * t.val + i.val; omega
    | ⟨2, _⟩ => show win0_16.index t 2 * 144 + 1 * d.val = d.val; omega)] at hb
  exact hb
theorem read17 (t : Fin cfg0.N) (a : Fin 2) (h : Fin 2) (d : Fin 144) (e : Fin 256) : ((dats m 0 c).arrAt 17 cfg0.N : Vec Ideal S2x128x144x256 .bf16) (ix4 a (half t h) d e)
    = out0_17 (F := Ideal) (grid0.coords t) (iblk m c 0 t) (iblk m c 1 t) (iblk m c 2 t) (iblk m c 3 t) (iblk m c 4 t) (iblk m c 5 t) (iblk m c 6 t) (iblk m c 7 t) (ix4 a h d e) := by
  have hm := (moves t).2.2.2.2.2.2.2.2.2.2.1
  have hb := congrFun (blocks17 m c t (flush0_17 t)) (ix4 a h d e)
  rw [flushed17, View.read_apply, show ((cfg0.win 17).blk t).view.emb (ix4 a h d e) = (ix4 a (half t h) d e : S2x128x144x256.Idx) from funext fun x => Fin.ext (by
    match x with
    | ⟨0, _⟩ => show win0_17.index t 0 * 2 + 1 * a.val = a.val; omega
    | ⟨1, _⟩ => show win0_17.index t 1 * 2 + 1 * h.val = 2 * t.val + h.val; omega
    | ⟨2, _⟩ => show win0_17.index t 2 * 144 + 1 * d.val = d.val; omega
    | ⟨3, _⟩ => show win0_17.index t 3 * 256 + 1 * e.val = e.val; omega)] at hb
  exact hb
theorem read18 (t : Fin cfg0.N) (i : Fin 512) (b : Fin 384) : ((dats m 0 c).arrAt 18 cfg0.N : Vec Ideal S32768x384 .f32) (ix2 (row t i) b)
    = out0_18 (F := Ideal) (grid0.coords t) (iblk m c 0 t) (iblk m c 1 t) (iblk m c 2 t) (iblk m c 3 t) (iblk m c 4 t) (iblk m c 5 t) (iblk m c 6 t) (iblk m c 7 t) (ix2 i b) := by
  have hm := (moves t).2.2.2.2.2.2.2.2.2.2.2.1
  have hb := congrFun (blocks18 m c t (flush0_18 t)) (ix2 i b)
  rw [flushed18, View.read_apply, show ((cfg0.win 18).blk t).view.emb (ix2 i b) = (ix2 (row t i) b : S32768x384.Idx) from funext fun x => Fin.ext (by
    match x with
    | ⟨0, _⟩ => show win0_18.index t 0 * 512 + 1 * i.val = 512 * t.val + i.val; omega
    | ⟨1, _⟩ => show win0_18.index t 1 * 384 + 1 * b.val = b.val; omega)] at hb
  exact hb
theorem read19 (t : Fin cfg0.N) (i : Fin 512) (b : Fin 384) : ((dats m 0 c).arrAt 19 cfg0.N : Vec Ideal S32768x384 .f32) (ix2 (row t i) b)
    = out0_19 (F := Ideal) (grid0.coords t) (iblk m c 0 t) (iblk m c 1 t) (iblk m c 2 t) (iblk m c 3 t) (iblk m c 4 t) (iblk m c 5 t) (iblk m c 6 t) (iblk m c 7 t) (ix2 i b) := by
  have hm := (moves t).2.2.2.2.2.2.2.2.2.2.2.2.1
  have hb := congrFun (blocks19 m c t (flush0_19 t)) (ix2 i b)
  rw [flushed19, View.read_apply, show ((cfg0.win 19).blk t).view.emb (ix2 i b) = (ix2 (row t i) b : S32768x384.Idx) from funext fun x => Fin.ext (by
    match x with
    | ⟨0, _⟩ => show win0_19.index t 0 * 512 + 1 * i.val = 512 * t.val + i.val; omega
    | ⟨1, _⟩ => show win0_19.index t 1 * 384 + 1 * b.val = b.val; omega)] at hb
  exact hb
theorem read20 (t : Fin cfg0.N) (i : Fin 512) (b : Fin 384) : ((dats m 0 c).arrAt 20 cfg0.N : Vec Ideal S32768x384 .f32) (ix2 (row t i) b)
    = out0_20 (F := Ideal) (grid0.coords t) (iblk m c 0 t) (iblk m c 1 t) (iblk m c 2 t) (iblk m c 3 t) (iblk m c 4 t) (iblk m c 5 t) (iblk m c 6 t) (iblk m c 7 t) (ix2 i b) := by
  have hm := (moves t).2.2.2.2.2.2.2.2.2.2.2.2.2.1
  have hb := congrFun (blocks20 m c t (flush0_20 t)) (ix2 i b)
  rw [flushed20, View.read_apply, show ((cfg0.win 20).blk t).view.emb (ix2 i b) = (ix2 (row t i) b : S32768x384.Idx) from funext fun x => Fin.ext (by
    match x with
    | ⟨0, _⟩ => show win0_20.index t 0 * 512 + 1 * i.val = 512 * t.val + i.val; omega
    | ⟨1, _⟩ => show win0_20.index t 1 * 384 + 1 * b.val = b.val; omega)] at hb
  exact hb
theorem read21 (t : Fin cfg0.N) (i : Fin 512) (b : Fin 384) : ((dats m 0 c).arrAt 21 cfg0.N : Vec Ideal S32768x384 .f32) (ix2 (row t i) b)
    = out0_21 (F := Ideal) (grid0.coords t) (iblk m c 0 t) (iblk m c 1 t) (iblk m c 2 t) (iblk m c 3 t) (iblk m c 4 t) (iblk m c 5 t) (iblk m c 6 t) (iblk m c 7 t) (ix2 i b) := by
  have hm := (moves t).2.2.2.2.2.2.2.2.2.2.2.2.2.2.1
  have hb := congrFun (blocks21 m c t (flush0_21 t)) (ix2 i b)
  rw [flushed21, View.read_apply, show ((cfg0.win 21).blk t).view.emb (ix2 i b) = (ix2 (row t i) b : S32768x384.Idx) from funext fun x => Fin.ext (by
    match x with
    | ⟨0, _⟩ => show win0_21.index t 0 * 512 + 1 * i.val = 512 * t.val + i.val; omega
    | ⟨1, _⟩ => show win0_21.index t 1 * 384 + 1 * b.val = b.val; omega)] at hb
  exact hb

end Cert.InProj

end
-- ==== Proof.InProjEqual.lean ====
/-
  The input projection: each of the kernel's fourteen arrays is the reference's result of the same arrays.
-/
module

public import proofs.«01_k».proof.Proof.InProjValue

@[expose] public section

set_option maxRecDepth 16384
noncomputable section
open Idealize.ShloMosaic Idealize.ShloMosaic.TcCoe Idealize.SL.Sem
namespace Cert.InProj
open Cert.Kernel4Ideal Cert.Kernel4Ideal.Gen Cert.Kernel4Ideal.Value Cert.Ffn

/-! ### Equal at every index -/

theorem ext2 {n0 n1 : ℕ} {α : Type} {f g : (⟨2, ![n0, n1]⟩ : Shape).Idx → α} (h : ∀ a b, f (ix2 a b) = g (ix2 a b)) : f = g :=
  funext fun y => by rw [eq_ix2 y]; exact h _ _
theorem ext3 {n0 n1 n2 : ℕ} {α : Type} {f g : (⟨3, ![n0, n1, n2]⟩ : Shape).Idx → α} (h : ∀ a b d, f (ix3 a b d) = g (ix3 a b d)) : f = g :=
  funext fun y => by rw [eq_ix3 y]; exact h _ _ _
theorem ext4 {n0 n1 n2 n3 : ℕ} {α : Type} {f g : (⟨4, ![n0, n1, n2, n3]⟩ : Shape).Idx → α} (h : ∀ a b d e, f (ix4 a b d e) = g (ix4 a b d e)) : f = g :=
  funext fun y => by rw [eq_ix4 y]; exact h _ _ _ _

/-! ### The parts that read only where they must -/

theorem onesAfter_congr {d a : ℕ} {x x' : EReal} (h : a < d → x = x') : onesAfter d a x = onesAfter d a x' := by
  unfold onesAfter
  split_ifs with ha
  · exact h ha
  · rfl
theorem markedAt_congr {r a : ℕ} {x x' : EReal} (h : 128 ≤ a → a - 128 < 64 → x = x') : markedAt r a x = markedAt r a x' := by
  unfold markedAt
  split_ifs with ha
  · rfl
  · rfl
  · exact onesAfter_congr (h (by omega))
theorem valueAt_congr {z z' : ℕ → ℕ → EReal} {o o' d g i i' a : ℕ} (h : a < d → z i (o + d * g + a) = z' i' (o' + d * g + a)) : valueAt z o d g i a = valueAt z' o' d g i' a := by
  unfold valueAt
  split_ifs with ha
  · exact h ha
  · rfl
theorem at128_gain (g : FVec Ideal S64 .f32) {j k : ℕ} (h : j < 128) (e : j % 64 = k) : at128 (gainK g) j = Ref.gain64 g k := by
  subst e
  rw [at128, dif_pos h, gainK_apply]
theorem at256_gain (g : FVec Ideal S32 .f32) {j : ℕ} (h : j < 256) : at256 (gainD g) j = Ref.gain32 g (j % 32) := by
  rw [at256, dif_pos h, gainD_apply]

variable {m : (ℓ : Loc nD τ sig) → Buf (Elt Ideal) ℓ} {c : Dev nD}

/-! ### The arrays that need real columns -/

/-- Columns `o` on of the kernel, columns `o'` on of the reference. -/
abbrev Cols (m : (ℓ : Loc nD τ sig) → Buf (Elt Ideal) ℓ) (c : Dev nD) (o o' n : ℕ) : Prop :=
  ∀ (t : Fin cfg0.N) (i : Fin 512) (k : ℕ), k < n → kcol m c t i.val (o + k) = Ref.Z (zOf m c) (row t i).val (o' + k)
theorem cols_low : Cols m c 0 0 384 := fun t i k hk => kcol_low m c t i _ (by omega)
theorem cols_mid (o o' n : ℕ) (h : 512 ≤ o) (h' : o + n ≤ 1280) (e : o = o' + 128) : Cols m c o o' n := fun t i k hk => kcol_mid m c t i _ _ (by omega) (by omega) (by omega)
theorem cols_high (o o' n : ℕ) (h : 1280 ≤ o) (h' : o + n ≤ 3584) (e : o = o' + 110) : Cols m c o o' n := fun t i k hk => kcol_high m c t i _ _ (by omega) (by omega) (by omega)

theorem head_cols {o o' n d : ℕ} (q : ℕ) (hq : d * q = n) (h : Cols m c o o' n) (t : Fin cfg0.N) (i : Fin 512) (w : EReal) {j : ℕ} (hj : j < n) :
    headed (fun k => col (normVec (iblk m c 0 t) (iblk m c 1 t)) (iblk m c 2 t) i.val (o + k)) d w j = headed (fun k => Ref.Z (zOf m c) (row t i).val (o' + k)) d w j := by
  subst hq
  exact headed_congr q (fun k hk => h t i k hk) hj

theorem array8 (hf : Weighty m c) : ((dats m 0 c).arrAt 8 cfg0.N : Vec Ideal S384x32768 .bf16)
    = Ref.lay6 (Ref.heads6 (Ref.cut6 (zOf m c)) (m ((c : Thread nD τ).loc main_arg3))) := by
  refine ext2 fun j r => ?_
  obtain ⟨t, i, rfl⟩ := row_of r
  refine (read8 t j i).trans ?_
  rw [out8 _ _ _ _ _ _ _ _ _ (rcol m c t) (kcol_real hf t), blk_in3, gainQ_apply, ← mul_assoc, head_cols 6 rfl cols_low t i _ j.isLt]
  exact (Ref.ref8 _ _ _ _).symm
theorem array15 (hf : Weighty m c) : ((dats m 0 c).arrAt 15 cfg0.N : Vec Ideal S256x32768 .bf16)
    = Ref.lay8 (Ref.heads8 (Ref.cut8 (zOf m c) 1170 Cert.Reference4Ideal.Gen.slices_S32768x3474_S32768x256_0_1170) (m ((c : Thread nD τ).loc main_arg5))) := by
  refine ext2 fun j r => ?_
  obtain ⟨t, i, rfl⟩ := row_of r
  refine (read15 t j i).trans ?_
  rw [out15 _ _ _ _ _ _ _ _ _ (rcol m c t) (kcol_real hf t), blk_in6, gainE_apply, ← mul_assoc, head_cols 8 rfl (cols_high 1280 1170 256 (by omega) (by omega) rfl) t i _ j.isLt]
  exact (Ref.ref15 _ _ _ _ _).symm
theorem array10 (hf : Weighty m c) : ((dats m 0 c).arrAt 10 cfg0.N : Vec Ideal S2x32768x208 .bf16)
    = Ref.marked Ref.markRef (Ref.heads2 (Ref.cut2 (zOf m c) 640 Cert.Reference4Ideal.Gen.slices_S32768x3474_S32768x128_0_640) (pick1 (m ((c : Thread nD τ).loc main_arg4)))) := by
  refine ext3 fun g r a => ?_
  obtain ⟨t, i, rfl⟩ := row_of r
  refine (read10 t g i a).trans ?_
  rw [out10 _ _ _ _ _ _ _ _ _ (rcol m c t) (kcol_real hf t) ⟨t.val, points t⟩ (moves t).2.2.2.2.2.2.2.2.2.2.2.2.2.2.2, blk_in4]
  refine Eq.trans ?_ (Ref.ref10 _ _ _ _ _ _).symm
  refine markedAt_congr (r := (row t i).val) fun ha hb => ?_
  rw [head_cols 2 rfl (cols_mid 768 640 128 (by omega) (by omega) rfl) t i _ (by omega), at128_gain _ (by omega) (show (64 * g.val + (a.val - 128)) % 64 = a.val - 128 by omega)]
theorem array12 (hf : Weighty m c) : ((dats m 0 c).arrAt 12 cfg0.N : Vec Ideal S2x32768x80 .bf16)
    = Ref.keys64 (Ref.heads2 (Ref.cut2 (zOf m c) 896 Cert.Reference4Ideal.Gen.slices_S32768x3474_S32768x128_0_896) (pick2 (m ((c : Thread nD τ).loc main_arg4)))) := by
  refine ext3 fun g r a => ?_
  obtain ⟨t, i, rfl⟩ := row_of r
  refine (read12 t g i a).trans ?_
  rw [out12 _ _ _ _ _ _ _ _ _ (rcol m c t) (kcol_real hf t), blk_in5]
  refine (onesAfter_congr fun ha => ?_).trans (Ref.ref12 _ _ _ _ _ _).symm
  rw [head_cols 2 rfl (cols_mid 1024 896 128 (by omega) (by omega) rfl) t i _ (by omega), at128_gain _ (by omega) (show (64 * g.val + a.val) % 64 = a.val by omega)]
theorem array16 (hf : Weighty m c) : ((dats m 0 c).arrAt 16 cfg0.N : Vec Ideal S2x32768x144 .bf16)
    = Ref.keys128 (Ref.heads8 (Ref.cut8 (zOf m c) 1426 Cert.Reference4Ideal.Gen.slices_S32768x3474_S32768x256_0_1426) (m ((c : Thread nD τ).loc main_arg6))) := by
  refine ext3 fun g r a => ?_
  obtain ⟨t, i, rfl⟩ := row_of r
  refine (read16 t g i a).trans ?_
  rw [out16 _ _ _ _ _ _ _ _ _ (rcol m c t) (kcol_real hf t), blk_in7]
  refine (onesAfter_congr fun ha => ?_).trans (Ref.ref16 _ _ _ _ _ _).symm
  rw [head_cols 8 rfl (cols_high 1536 1426 256 (by omega) (by omega) rfl) t i _ (by omega), at256_gain _ (by omega)]

/-! ### The arrays that copy columns -/

theorem array9 : ((dats m 0 c).arrAt 9 cfg0.N : Vec Ideal S4x32768x64 .f32)
    = Ref.both (Ref.cut2 (zOf m c) 384 Cert.Reference4Ideal.Gen.slices_S32768x3474_S32768x128_0_384) (Ref.cut2 (zOf m c) 512 Cert.Reference4Ideal.Gen.slices_S32768x3474_S32768x128_0_512) := by
  refine ext3 fun a r j => ?_
  obtain ⟨t, i, rfl⟩ := row_of r
  refine (read9 t a i j).trans ?_
  rw [out9]
  exact (cols_mid 512 384 256 (by omega) (by omega) rfl t i (64 * a.val + j.val) (by omega)).trans (Ref.ref9 _ _ _ _ _ _).symm
theorem array14 : ((dats m 0 c).arrAt 14 cfg0.N : Vec Ideal S2x16x32768 .f32) = Ref.gates (zOf m c) := by
  refine ext3 fun g a r => ?_
  obtain ⟨t, i, rfl⟩ := row_of r
  refine (read14 t g a i).trans ?_
  rw [out14]
  exact (kcol_gate m c t i g a).trans (Ref.ref14 _ _ _ _).symm

/-- A value's column, by its head and token. -/
theorem value_cols {o o' d : ℕ} (h : Cols m c o o' (d * 2)) (t : Fin cfg0.N) (s g : Fin 2) (a : ℕ) (l : Fin 256) :
    valueAt (col (normVec (iblk m c 0 t) (iblk m c 1 t)) (iblk m c 2 t)) o d g.val (256 * s.val + l.val) a = valueAt (Ref.Z (zOf m c)) o' d g.val (256 * (half t s).val + l.val) a := by
  refine valueAt_congr fun ha => ?_
  have hg : d * g.val ≤ d * 1 := Nat.mul_le_mul_left d (by omega)
  have e := h t ⟨256 * s.val + l.val, by omega⟩ (d * g.val + a) (by omega)
  rw [show o + d * g.val + a = o + (d * g.val + a) by omega, show o' + d * g.val + a = o' + (d * g.val + a) by omega]
  exact e.trans (congrArg (fun r => Ref.Z (zOf m c) r _) (show 512 * t.val + (256 * s.val + l.val) = 256 * (2 * t.val + s.val) + l.val by omega))
theorem array11 : ((dats m 0 c).arrAt 11 cfg0.N : Vec Ideal S2x128x80x256 .bf16) = Ref.vals64 (zOf m c) 768 Cert.Reference4Ideal.Gen.slices_S32768x3474_S32768x128_0_768 := by
  refine ext4 fun g n a l => ?_
  obtain ⟨t, s, rfl⟩ := half_of n
  refine (read11 t g s a l).trans ?_
  rw [out11]
  exact (value_cols (cols_mid 896 768 128 (by omega) (by omega) rfl) t s g a.val l).trans (Ref.ref_vals64 _ _ _ (by omega) _ _ _ _).symm
theorem array13 : ((dats m 0 c).arrAt 13 cfg0.N : Vec Ideal S2x128x80x256 .bf16) = Ref.vals64 (zOf m c) 1024 Cert.Reference4Ideal.Gen.slices_S32768x3474_S32768x128_0_1024 := by
  refine ext4 fun g n a l => ?_
  obtain ⟨t, s, rfl⟩ := half_of n
  refine (read13 t g s a l).trans ?_
  rw [out13]
  exact (value_cols (cols_mid 1152 1024 128 (by omega) (by omega) rfl) t s g a.val l).trans (Ref.ref_vals64 _ _ _ (by omega) _ _ _ _).symm
theorem array17 : ((dats m 0 c).arrAt 17 cfg0.N : Vec Ideal S2x128x144x256 .bf16) = Ref.vals128 (zOf m c) := by
  refine ext4 fun g n a l => ?_
  obtain ⟨t, s, rfl⟩ := half_of n
  refine (read17 t g s a l).trans ?_
  rw [out17]
  exact (value_cols (cols_high 1792 1682 256 (by omega) (by omega) rfl) t s g a.val l).trans (Ref.ref_vals128 _ _ _ _ _).symm

theorem array18 : ((dats m 0 c).arrAt 18 cfg0.N : Vec Ideal S32768x384 .f32) = Ref.run384 (zOf m c) 1938 Cert.Reference4Ideal.Gen.slices_S32768x3474_S32768x384_0_1938 := by
  refine ext2 fun r j => ?_
  obtain ⟨t, i, rfl⟩ := row_of r
  refine (read18 t i j).trans ?_
  rw [out18]
  exact (cols_high 2048 1938 384 (by omega) (by omega) rfl t i j.val j.isLt).trans (Ref.ref_run _ _ _ (by omega) _ _).symm
theorem array19 : ((dats m 0 c).arrAt 19 cfg0.N : Vec Ideal S32768x384 .f32) = Ref.run384 (zOf m c) 2322 Cert.Reference4Ideal.Gen.slices_S32768x3474_S32768x384_0_2322 := by
  refine ext2 fun r j => ?_
  obtain ⟨t, i, rfl⟩ := row_of r
  refine (read19 t i j).trans ?_
  rw [out19]
  exact (cols_high 2432 2322 384 (by omega) (by omega) rfl t i j.val j.isLt).trans (Ref.ref_run _ _ _ (by omega) _ _).symm
theorem array20 : ((dats m 0 c).arrAt 20 cfg0.N : Vec Ideal S32768x384 .f32) = Ref.run384 (zOf m c) 2706 Cert.Reference4Ideal.Gen.slices_S32768x3474_S32768x384_0_2706 := by
  refine ext2 fun r j => ?_
  obtain ⟨t, i, rfl⟩ := row_of r
  refine (read20 t i j).trans ?_
  rw [out20]
  exact (cols_high 2816 2706 384 (by omega) (by omega) rfl t i j.val j.isLt).trans (Ref.ref_run _ _ _ (by omega) _ _).symm
theorem array21 : ((dats m 0 c).arrAt 21 cfg0.N : Vec Ideal S32768x384 .f32) = Ref.run384 (zOf m c) 3090 Cert.Reference4Ideal.Gen.slices_S32768x3474_S32768x384_0_3090 := by
  refine ext2 fun r j => ?_
  obtain ⟨t, i, rfl⟩ := row_of r
  refine (read21 t i j).trans ?_
  rw [out21]
  exact (cols_high 3200 3090 384 (by omega) (by omega) rfl t i j.val j.isLt).trans (Ref.ref_run _ _ _ (by omega) _ _).symm

end Cert.InProj

end
-- ==== Proof.InProjRun.lean ====
/-
  The reference's run, with each of its fourteen results by name.
-/
module

public import proofs.«01_k».proof.Proof.InProjPlace
public import proofs.«01_k».proof.Proof.InProjHost

@[expose] public section

set_option maxRecDepth 16384
noncomputable section
open Idealize.ShloMosaic Idealize.ShloMosaic.TcCoe Idealize.SL.Sem
namespace Cert.InProj.Ref
open Cert.Reference4Ideal Cert.Reference4Ideal.Gen Cert.InProj

variable (m : (ℓ : Loc nD τ sig) → Buf (Elt Ideal) ℓ) (c : Dev nD)

/-- The projection of the arrays the reference starts from. -/
def projOf : FVec Ideal S32768x3474 .f32 :=
  proj (m ((c.tc : Thread nD τ).loc main_arg0)) (m ((c.tc : Thread nD τ).loc main_arg1)) (m ((c.tc : Thread nD τ).loc main_arg2))

theorem run (ρ : Dev nD → PrngReg) : θ_run defs (onTc (τ := τ) (main (F := Ideal))) ⟨m, fun _ => 0, ρ⟩ fun r => ∀ c : Dev nD,
      r.2.mem ((c.tc : Thread nD τ).loc main_v131) = lay6 (heads6 (cut6 (projOf m c)) (m ((c.tc : Thread nD τ).loc main_arg3)))
      ∧ r.2.mem ((c.tc : Thread nD τ).loc main_v136) = both (cut2 (projOf m c) 384 slices_S32768x3474_S32768x128_0_384) (cut2 (projOf m c) 512 slices_S32768x3474_S32768x128_0_512)
      ∧ r.2.mem ((c.tc : Thread nD τ).loc main_v139) = marked markRef (heads2 (cut2 (projOf m c) 640 slices_S32768x3474_S32768x128_0_640) (pick1 (m ((c.tc : Thread nD τ).loc main_arg4))))
      ∧ r.2.mem ((c.tc : Thread nD τ).loc main_v144) = vals64 (projOf m c) 768 slices_S32768x3474_S32768x128_0_768
      ∧ r.2.mem ((c.tc : Thread nD τ).loc main_v147) = keys64 (heads2 (cut2 (projOf m c) 896 slices_S32768x3474_S32768x128_0_896) (pick2 (m ((c.tc : Thread nD τ).loc main_arg4))))
      ∧ r.2.mem ((c.tc : Thread nD τ).loc main_v152) = vals64 (projOf m c) 1024 slices_S32768x3474_S32768x128_0_1024
      ∧ r.2.mem ((c.tc : Thread nD τ).loc main_v127) = gates (projOf m c)
      ∧ r.2.mem ((c.tc : Thread nD τ).loc main_v156) = lay8 (heads8 (cut8 (projOf m c) 1170 slices_S32768x3474_S32768x256_0_1170) (m ((c.tc : Thread nD τ).loc main_arg5)))
      ∧ r.2.mem ((c.tc : Thread nD τ).loc main_v160) = keys128 (heads8 (cut8 (projOf m c) 1426 slices_S32768x3474_S32768x256_0_1426) (m ((c.tc : Thread nD τ).loc main_arg6)))
      ∧ r.2.mem ((c.tc : Thread nD τ).loc main_v165) = vals128 (projOf m c)
      ∧ r.2.mem ((c.tc : Thread nD τ).loc main_v25) = run384 (projOf m c) 1938 slices_S32768x3474_S32768x384_0_1938
      ∧ r.2.mem ((c.tc : Thread nD τ).loc main_v26) = run384 (projOf m c) 2322 slices_S32768x3474_S32768x384_0_2322
      ∧ r.2.mem ((c.tc : Thread nD τ).loc main_v27) = run384 (projOf m c) 2706 slices_S32768x3474_S32768x384_0_2706
      ∧ r.2.mem ((c.tc : Thread nD τ).loc main_v28) = run384 (projOf m c) 3090 slices_S32768x3474_S32768x384_0_3090
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) := by
  refine (θ_run defs _ _).mono (fun _ h c => ?_) (Cert.Reference4Ideal.Value.run (F := Ideal) m ρ)
  obtain ⟨h0, h1, h2, h3, h4, h5, h6, h7, h8, h9, h10, h11, h12, h13, h⟩ := h c
  refine ⟨h0.trans (show _ = lay6 (heads6 (cut6 (projOf m c)) (m ((c.tc : Thread nD τ).loc main_arg3))) from rfl), ?_⟩
  refine ⟨h1.trans (show _ = both (cut2 (projOf m c) 384 slices_S32768x3474_S32768x128_0_384) (cut2 (projOf m c) 512 slices_S32768x3474_S32768x128_0_512) from rfl), ?_⟩
  refine ⟨h2.trans (show _ = marked markRef (heads2 (cut2 (projOf m c) 640 slices_S32768x3474_S32768x128_0_640) (pick1 (m ((c.tc : Thread nD τ).loc main_arg4)))) from rfl), ?_⟩
  refine ⟨h3.trans (show _ = vals64 (projOf m c) 768 slices_S32768x3474_S32768x128_0_768 from rfl), ?_⟩
  refine ⟨h4.trans (show _ = keys64 (heads2 (cut2 (projOf m c) 896 slices_S32768x3474_S32768x128_0_896) (pick2 (m ((c.tc : Thread nD τ).loc main_arg4)))) from rfl), ?_⟩
  refine ⟨h5.trans (show _ = vals64 (projOf m c) 1024 slices_S32768x3474_S32768x128_0_1024 from rfl), ?_⟩
  refine ⟨h6.trans (show _ = gates (projOf m c) from rfl), ?_⟩
  refine ⟨h7.trans (show _ = lay8 (heads8 (cut8 (projOf m c) 1170 slices_S32768x3474_S32768x256_0_1170) (m ((c.tc : Thread nD τ).loc main_arg5))) from rfl), ?_⟩
  refine ⟨h8.trans (show _ = keys128 (heads8 (cut8 (projOf m c) 1426 slices_S32768x3474_S32768x256_0_1426) (m ((c.tc : Thread nD τ).loc main_arg6))) from rfl), ?_⟩
  refine ⟨h9.trans (show _ = vals128 (projOf m c) from rfl), ?_⟩
  refine ⟨h10.trans (show _ = run384 (projOf m c) 1938 slices_S32768x3474_S32768x384_0_1938 from rfl), ?_⟩
  refine ⟨h11.trans (show _ = run384 (projOf m c) 2322 slices_S32768x3474_S32768x384_0_2322 from rfl), ?_⟩
  refine ⟨h12.trans (show _ = run384 (projOf m c) 2706 slices_S32768x3474_S32768x384_0_2706 from rfl), ?_⟩
  refine ⟨h13.trans (show _ = run384 (projOf m c) 3090 slices_S32768x3474_S32768x384_0_3090 from rfl), ?_⟩
  exact h

end Cert.InProj.Ref

end
-- ==== Proof.lean ====
/-
  The claims. The frames are the programs' own runs. The values meet at one expression: at row `r` and column `j` both arrays hold the head norm of
  what the queries read from the recurrent state, times the norm's gain, times the output gate through its own logistic
  (`Cert.KernelIdeal.Body.result_apply` for the kernel, `Cert.ReferenceIdeal.Trip.out_apply` for the reference). For the feed-forward
  call the expression is `Cert.Ffn.halfStep`, and for the post mixer `Cert.Mixer.embed` of a half step of `Cert.Mixer.mixed`. For the
  input projection both sides are read off one projection: the kernel's columns are the reference's in another order (`Cert.InProj.kcol_of`), and
  `Cert.InProj.array8` to `array21` meet `Cert.InProj.Ref.run` result by result.
-/
module

public import proofs.«01_k».proof.Proof.KernelVal
public import proofs.«01_k».proof.Proof.RefValue
public import proofs.«01_k».proof.Proof.Finite
public import proofs.«01_k».proof.Proof.FfnValue
public import proofs.«01_k».proof.Proof.MixerValue
public import proofs.«01_k».proof.Proof.InProjEqual
public import proofs.«01_k».proof.Proof.InProjRun
public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Finite

theorem quiescent_ref : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : algebraic_KernelIdeal_ReferenceIdeal_pre_gates_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨e0, e1, e2, e3, e4, e5⟩ := hagree c
  obtain ⟨f0, f1, f2, f4⟩ := reals (hpre c)
  have K : Cert.KernelIdeal.Body.Reals m c (rowsOf _) (rowsOf _) (rowsOf _) (colsOf _) := ⟨rowsOf_eq f0, rowsOf_eq f1, rowsOf_eq f2, colsOf_eq f4⟩
  have R : Cert.ReferenceIdeal.Trip.Reals m' c (rowsOf _) (rowsOf _) (rowsOf _) (colsOf _) :=
    ⟨fun r j => (congrFun e0 _).trans (rowsOf_eq f0 r j), fun r j => (congrFun e1 _).trans (rowsOf_eq f1 r j), fun r j => (congrFun e2 _).trans (rowsOf_eq f2 r j),
      fun j => (congrFun e4 _).trans (colsOf_eq f4 j)⟩
  have B := Cert.ReferenceIdeal.Trip.before_trip R 128 (le_refl _)
  have g3 := (Cert.ReferenceIdeal.Value.iter_main_arg3 (F := Ideal) m' c 128).trans e3
  have g5 := (Cert.ReferenceIdeal.Value.iter_main_arg5 (F := Ideal) m' c 128).trans e5
  generalize (Cert.ReferenceIdeal.Value.STEP (F := Ideal))^[128] _ = V at B g3 g5 ⊢
  funext i
  rw [eq_ix2 i]
  exact (Cert.ReferenceIdeal.Trip.out_apply B (i 0) (i 1) _ _ g3 g5).trans (Cert.KernelIdeal.Body.result_apply K (i 0) (i 1)).symm

theorem quiescent_ref2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem values2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  refine (h c).1.trans ?_
  obtain ⟨e0, e1, e2, e3, e4⟩ := hagree c
  rw [e0, e1, e2, e3, e4]
  exact (Cert.Ffn.kernel_eq_reference m c).symm

theorem quiescent_ref3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem values3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine ((h c).1.trans (Cert.Mixer.result_eq m' c)).trans ?_
  obtain ⟨e0, e1, e2, e3, e4, e5, e6, e7, e8, e9, e10, e11, e12, e13⟩ := hagree c
  rw [e0, e1, e2, e3, e4, e5, e6, e7, e8, e9, e10, e11, e12, e13]
  exact (Cert.Mixer.array_eq m c).symm

theorem quiescent_ref4 : quiescent_Reference4Ideal := fun m ρ _ =>
  (θ_run Cert.Reference4Ideal.defs _ _).mono (fun r h => ⟨fun c => (h c).2.2.2.2.2.2.2.2.2.2.2.2.2.2, sem_eq_zero_of_no_sems (by decide) r.2⟩)
    (Cert.Reference4Ideal.Value.run (F := Ideal) m ρ)

set_option maxHeartbeats 800000 in
theorem values4 : algebraic_Kernel4Ideal_Reference4Ideal_pre_weights_finite := by
  intro m ρ m' ρ' hpre hagree
  refine ⟨_, _, _, _, _, _, _, _, _, _, _, _, _, _, Cert.Kernel4Ideal.Value.run_blocks (F := Ideal) m ρ, ?_⟩
  refine (θ_run Cert.Reference4Ideal.defs _ _).mono (fun _ h c => ?_) (Cert.InProj.Ref.run m' ρ')
  obtain ⟨e0, e1, e2, e3, e4, e5, e6⟩ := hagree c
  have hf : Cert.InProj.Weighty m c := Cert.InProj.weights_real (hpre c)
  have hz : Cert.InProj.Ref.projOf m' c = Cert.InProj.zOf m c := by
    unfold Cert.InProj.Ref.projOf Cert.InProj.zOf
    rw [e0, e1, e2]
  obtain ⟨h8, h9, h10, h11, h12, h13, h14, h15, h16, h17, h18, h19, h20, h21, hargs⟩ := h c
  rw [hz, e3, ← Cert.InProj.array8 hf] at h8
  rw [hz, ← Cert.InProj.array9] at h9
  rw [hz, e4, ← Cert.InProj.array10 hf] at h10
  rw [hz, ← Cert.InProj.array11] at h11
  rw [hz, e4, ← Cert.InProj.array12 hf] at h12
  rw [hz, ← Cert.InProj.array13] at h13
  rw [hz, ← Cert.InProj.array14] at h14
  rw [hz, e5, ← Cert.InProj.array15 hf] at h15
  rw [hz, e6, ← Cert.InProj.array16 hf] at h16
  rw [hz, ← Cert.InProj.array17] at h17
  rw [hz, ← Cert.InProj.array18] at h18
  rw [hz, ← Cert.InProj.array19] at h19
  rw [hz, ← Cert.InProj.array20] at h20
  rw [hz, ← Cert.InProj.array21] at h21
  exact ⟨h8, h9, h10, h11, h12, h13, h14, h15, h16, h17, h18, h19, h20, h21, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, preFacts, Cert.InProj.preFacts,
  fun m ρ _ => Cert.Kernel.Gen.frame m ρ, fun m ρ _ => Cert.KernelIdeal.Gen.frame m ρ, fun m ρ _ => Cert.KernelIdeal.Gen.frame m ρ,
  quiescent_ref, fun m ρ _ => quiescent_ref m ρ trivial,
  fun m ρ _ => Cert.Kernel2.Gen.frame m ρ, fun m ρ _ => Cert.Kernel2Ideal.Gen.frame m ρ, quiescent_ref2,
  fun m ρ _ => Cert.Kernel3.Gen.frame m ρ, fun m ρ _ => Cert.Kernel3Ideal.Gen.frame m ρ, quiescent_ref3,
  fun m ρ _ => Cert.Kernel4.Gen.frame m ρ, fun m ρ _ => Cert.Kernel4Ideal.Gen.frame m ρ, fun m ρ _ => Cert.Kernel4Ideal.Gen.frame m ρ,
  quiescent_ref4, fun m ρ _ => quiescent_ref4 m ρ trivial,
  (trivial : preserves_Kernel_KernelIdeal), values, (trivial : preserves_Kernel2_Kernel2Ideal), values2,
  (trivial : preserves_Kernel3_Kernel3Ideal), values3,
  (trivial : preserves_Kernel4_Kernel4Ideal), values4⟩

end Cert.Proof

end
